-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 8192, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![1, 8192, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x64x128 : S_.BroadcastsInDim S1x1024x64x128 (![] : Fin 0 → Fin S1x1024x64x128.rank)

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S1x1024x1024 1 × IVec S1024x1024 1 × IVec S1x1024x64x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x64x128 .f32 := Host.absf main_arg2
  let main_cst_1 : FVec F S_ .f32 := constant S_ .f32 0x7F800000#32
  let main_v7 : FVec F S1x1024x64x128 .f32 := broadcastInDim S1x1024x64x128 ![] bcast_S_S1x1024x64x128 main_cst_1
  let main_v8 : IVec S1x1024x64x128 1 := cmpf .olt main_v6 main_v7
  (main_v2, main_v5, main_v8)
-- ==== Pre_finite_ReferenceIdeal.lean ====
abbrev S1x8192x1024 : Shape := ⟨3, ![1, 8192, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S_ : Shape := ⟨0, ![]⟩

class Facts : Prop where
  bcast_S_S1x8192x1024 : S_.BroadcastsInDim S1x8192x1024 (![] : Fin 0 → Fin S1x8192x1024.rank)
  bcast_S_S1024x8192 : S_.BroadcastsInDim S1024x8192 (![] : Fin 0 → Fin S1024x8192.rank)
  bcast_S_S1x1024x64x128 : S_.BroadcastsInDim S1x1024x64x128 (![] : Fin 0 → Fin S1x1024x64x128.rank)

variable [Facts]

def fn {F : FTy → Type} [FloatOps F] (main_arg0 : FVec F S1x8192x1024 .f32) (main_arg1 : FVec F S1024x8192 .f32) (main_arg2 : FVec F S1x1024x64x128 .f32) (main_arg3 : FVec F S1x1024x64x128 .f32) (main_arg4 : FVec F S8192x1024 .f32) : IVec S1x8192x1024 1 × IVec S1024x8192 1 × IVec S1x1024x64x128 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x1024x64x128 .f32 := Host.absf main_arg2
  let main_cst_1 : FVec F S_ .f32 := constant S_ .f32 0x7F800000#32
  let main_v7 : FVec F S1x1024x64x128 .f32 := broadcastInDim S1x1024x64x128 ![] bcast_S_S1x1024x64x128 main_cst_1
  let main_v8 : IVec S1x1024x64x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S2x1024x1024 : Shape := ⟨3, ![2, 1024, 1024]⟩
abbrev S8x1024x128 : Shape := ⟨3, ![8, 1024, 128]⟩
abbrev S2x1024x128 : Shape := ⟨3, ![2, 1024, 128]⟩
abbrev S4x2 : Shape := ⟨2, ![4, 2]⟩
abbrev S2x2 : Shape := ⟨2, ![2, 2]⟩
abbrev S_ : Shape := ⟨0, ![]⟩
abbrev S1x1 : Shape := ⟨2, ![1, 1]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x128x1024 : Shape := ⟨3, ![1, 128, 1024]⟩
abbrev S128x1024 : Shape := ⟨2, ![128, 1024]⟩
abbrev S64x128 : Shape := ⟨2, ![64, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x1024 : Shape := ⟨2, ![256, 1024]⟩
abbrev S64x1024 : Shape := ⟨2, ![64, 1024]⟩
abbrev S1x64x1024 : Shape := ⟨3, ![1, 64, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S2x1024x1024, .f32⟩
  | .local _ .vmem, ⟨5, _⟩ => ⟨S2x1024x1024, .f32⟩
  | .local _ .vmem, ⟨6, _⟩ => ⟨S8x1024x128, .f32⟩
  | .local _ .vmem, ⟨7, _⟩ => ⟨S2x1024x128, .f32⟩
  | .local _ .vmem, ⟨8, _⟩ => ⟨S2x1024x128, .f32⟩
  | .local _ .vmem, ⟨9, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 3 24 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_30 : BitVec 32 := 1#32
  let v29 : BitVec 32 := Scalar.muli v7 c1_i32_30
  let v30 : BitVec 32 := Scalar.addi c0_i32_31 v29
  v30.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_42 : BitVec 32 := 1#32
  let v39 : BitVec 32 := Scalar.muli v7 c1_i32_42
  let v40 : BitVec 32 := Scalar.addi c0_i32_43 v39
  v40.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_54 : BitVec 32 := 1#32
  let v49 : BitVec 32 := Scalar.muli v5 c1_i32_54
  let v50 : BitVec 32 := Scalar.addi c0_i32_55 v49
  v50.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_64 : BitVec 32 := 1#32
  let v59 : BitVec 32 := Scalar.muli v5 c1_i32_64
  let v60 : BitVec 32 := Scalar.addi c0_i32_65 v59
  v60.toNat
def k0_off1 (d0 : Dev nD) (c0_i32_70 : BitVec 32) (c0_i32_72 : BitVec 32) : Fin 4 → Nat :=
  let c0_i32_77 : BitVec 32 := 0#32
  let c0_i32_83 : BitVec 32 := 0#32
  let true_74 : BitVec 1 := 1#1
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v69 : BitVec 32 := Scalar.addi v2 c16_i32
  let v70 : BitVec 32 := Scalar.subi v69 c0_i32_70
  let c8_i32_71 : BitVec 32 := 8#32
  let v71 : BitVec 32 := Scalar.remsi v70 c8_i32_71
  let v72 : BitVec 32 := Scalar.addi v2 c0_i32_72
  let c8_i32_73 : BitVec 32 := 8#32
  let v73 : BitVec 32 := Scalar.remsi v72 c8_i32_73
  let v74 : BitVec 32 := Scalar.select true_74 v71 v73
  let c8_i32_75 : BitVec 32 := 8#32
  let v75 : BitVec 32 := Scalar.muli v74 c8_i32_75
  let c0_i32_76 : BitVec 32 := 0#32
  let v76 : BitVec 32 := Scalar.addi v75 c0_i32_76
  let c0_i32_84 : BitVec 32 := 0#32
  ![0, 0, v76.toNat, 0]
def k0_off1_at (r : Fin 8) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        (7#32, 7#32)
@[reducible] def k0_t1_loop : Scf.Loop 32 :=
  let c0_i32_117 : BitVec 32 := 0#32
  let c8_i32_118 : BitVec 32 := 8#32
  let v127 : BitVec 32 := Scalar.addi c0_i32_117 c8_i32_118
  let c1_i32_119 : BitVec 32 := 1#32
  ⟨c0_i32_117, v127, c1_i32_119⟩
def k0_cond1 (k0_t1 : Fin k0_t1_loop.trips) : BitVec 1 :=
  let c0_i32_117 : BitVec 32 := 0#32
  let c1_i32_119 : BitVec 32 := 1#32
  let arg17 : BitVec 32 := Scf.iv c0_i32_117 c1_i32_119 k0_t1
  let c1_i32_1590 : BitVec 32 := 1#32
  let v1264 : BitVec 32 := Scalar.addi arg17 c1_i32_1590
  let c8_i32_1591 : BitVec 32 := 8#32
  let v1265 : BitVec 1 := Scalar.cmpi .slt v1264 c8_i32_1591
  let v1266 : BitVec 32 := Scalar.extui v1265
  let c0_i32_1592 : BitVec 32 := 0#32
  let v1267 : BitVec 1 := Scalar.cmpi .ne v1266 c0_i32_1592
  v1267

def k0_off2 (k0_t1 : Fin k0_t1_loop.trips) : Fin 2 → Nat :=
  let c0_i32_117 : BitVec 32 := 0#32
  let c1_i32_119 : BitVec 32 := 1#32
  let arg17 : BitVec 32 := Scf.iv c0_i32_117 c1_i32_119 k0_t1
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1659 : BitVec 32 := 0#32
  ![v1263.toNat, 0]
def k0_off3 (k0_t1 : Fin k0_t1_loop.trips) : Fin 3 → Nat :=
  let c0_i32_117 : BitVec 32 := 0#32
  let c1_i32_119 : BitVec 32 := 1#32
  let arg17 : BitVec 32 := Scf.iv c0_i32_117 c1_i32_119 k0_t1
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1660 : BitVec 32 := 0#32
  let c0_i32_1661 : BitVec 32 := 0#32
  ![v1263.toNat, 0, 0]
def k0_off4 (d0 : Dev nD) (k0_t1 : Fin k0_t1_loop.trips) : Fin 4 → Nat :=
  let c0_i32_1658 : BitVec 32 := 0#32
  let c0_i32_1662 : BitVec 32 := 0#32
  let c0_i32_117 : BitVec 32 := 0#32
  let c1_i32_119 : BitVec 32 := 1#32
  let arg17 : BitVec 32 := Scf.iv c0_i32_117 c1_i32_119 k0_t1
  let c1_i32_1655 : BitVec 32 := 1#32
  let v1433 : BitVec 32 := Scalar.addi arg17 c1_i32_1655
  let c4_i32_1656 : BitVec 32 := 4#32
  let v1434 : BitVec 1 := Scalar.cmpi .slt v1433 c4_i32_1656
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v69 : BitVec 32 := Scalar.addi v2 c16_i32
  let c0_i32_70 : BitVec 32 := 0#32
  let v70 : BitVec 32 := Scalar.subi v69 c0_i32_70
  let c8_i32_71 : BitVec 32 := 8#32
  let v71 : BitVec 32 := Scalar.remsi v70 c8_i32_71
  let c0_i32_72 : BitVec 32 := 0#32
  let v72 : BitVec 32 := Scalar.addi v2 c0_i32_72
  let c8_i32_73 : BitVec 32 := 8#32
  let v73 : BitVec 32 := Scalar.remsi v72 c8_i32_73
  let v1435 : BitVec 32 := Scalar.select v1434 v71 v73
  let c8_i32_1657 : BitVec 32 := 8#32
  let v1436 : BitVec 32 := Scalar.muli v1435 c8_i32_1657
  let v1437 : BitVec 32 := Scalar.addi v1436 v1433
  let c0_i32_1663 : BitVec 32 := 0#32
  ![0, 0, v1437.toNat, 0]
def k0_off5 (k0_t1 : Fin k0_t1_loop.trips) : Fin 2 → Nat :=
  let c0_i32_117 : BitVec 32 := 0#32
  let c1_i32_119 : BitVec 32 := 1#32
  let arg17 : BitVec 32 := Scf.iv c0_i32_117 c1_i32_119 k0_t1
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c1_i32_1665 : BitVec 32 := 1#32
  ![v1263.toNat, 1]
def k0_off6 (k0_t1 : Fin k0_t1_loop.trips) : Fin 2 → Nat :=
  let c0_i32_117 : BitVec 32 := 0#32
  let c1_i32_119 : BitVec 32 := 1#32
  let arg17 : BitVec 32 := Scf.iv c0_i32_117 c1_i32_119 k0_t1
  let c2_i32_1587 : BitVec 32 := 2#32
  let v1261 : BitVec 32 := Scalar.remsi arg17 c2_i32_1587
  let c0_i32_1596 : BitVec 32 := 0#32
  ![v1261.toNat, 0]
def k0_off7 (k0_t1 : Fin k0_t1_loop.trips) : Fin 3 → Nat :=
  let c0_i32_117 : BitVec 32 := 0#32
  let c1_i32_119 : BitVec 32 := 1#32
  let arg17 : BitVec 32 := Scf.iv c0_i32_117 c1_i32_119 k0_t1
  let c2_i32_1587 : BitVec 32 := 2#32
  let v1261 : BitVec 32 := Scalar.remsi arg17 c2_i32_1587
  let c0_i32_1597 : BitVec 32 := 0#32
  let c0_i32_1598 : BitVec 32 := 0#32
  ![v1261.toNat, 0, 0]
def k0_off8 (d0 : Dev nD) (k0_t1 : Fin k0_t1_loop.trips) : Fin 4 → Nat :=
  let c0_i32_1595 : BitVec 32 := 0#32
  let c0_i32_1599 : BitVec 32 := 0#32
  let c0_i32_117 : BitVec 32 := 0#32
  let c1_i32_119 : BitVec 32 := 1#32
  let arg17 : BitVec 32 := Scf.iv c0_i32_117 c1_i32_119 k0_t1
  let c4_i32_1593 : BitVec 32 := 4#32
  let v1268 : BitVec 1 := Scalar.cmpi .slt arg17 c4_i32_1593
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v69 : BitVec 32 := Scalar.addi v2 c16_i32
  let c0_i32_70 : BitVec 32 := 0#32
  let v70 : BitVec 32 := Scalar.subi v69 c0_i32_70
  let c8_i32_71 : BitVec 32 := 8#32
  let v71 : BitVec 32 := Scalar.remsi v70 c8_i32_71
  let c0_i32_72 : BitVec 32 := 0#32
  let v72 : BitVec 32 := Scalar.addi v2 c0_i32_72
  let c8_i32_73 : BitVec 32 := 8#32
  let v73 : BitVec 32 := Scalar.remsi v72 c8_i32_73
  let v1269 : BitVec 32 := Scalar.select v1268 v71 v73
  let c8_i32_1594 : BitVec 32 := 8#32
  let v1270 : BitVec 32 := Scalar.muli v1269 c8_i32_1594
  let v1271 : BitVec 32 := Scalar.addi v1270 arg17
  let c0_i32_1600 : BitVec 32 := 0#32
  ![0, 0, v1271.toNat, 0]
def k0_off9 (k0_t1 : Fin k0_t1_loop.trips) : Fin 2 → Nat :=
  let c0_i32_117 : BitVec 32 := 0#32
  let c1_i32_119 : BitVec 32 := 1#32
  let arg17 : BitVec 32 := Scf.iv c0_i32_117 c1_i32_119 k0_t1
  let c2_i32_1587 : BitVec 32 := 2#32
  let v1261 : BitVec 32 := Scalar.remsi arg17 c2_i32_1587
  let c1_i32_1602 : BitVec 32 := 1#32
  ![v1261.toNat, 1]
def k0_off10 (k0_t1 : Fin k0_t1_loop.trips) : Fin 3 → Nat :=
  let c0_i32_117 : BitVec 32 := 0#32
  let c1_i32_119 : BitVec 32 := 1#32
  let arg17 : BitVec 32 := Scf.iv c0_i32_117 c1_i32_119 k0_t1
  let v1284 : Index := Scalar.indexCast arg17
  let c0_1607 : Index := 0#32
  let c0_1608 : Index := 0#32
  ![v1284.toNat, 0, 0]
def k0_off11 (k0_t1 : Fin k0_t1_loop.trips) : Fin 3 → Nat :=
  let c0_i32_117 : BitVec 32 := 0#32
  let c1_i32_119 : BitVec 32 := 1#32
  let arg17 : BitVec 32 := Scf.iv c0_i32_117 c1_i32_119 k0_t1
  let c2_i32_1587 : BitVec 32 := 2#32
  let v1261 : BitVec 32 := Scalar.remsi arg17 c2_i32_1587
  let v1287 : Index := Scalar.indexCast v1261
  let c0_1609 : Index := 0#32
  let c0_1610 : Index := 0#32
  ![v1287.toNat, 0, 0]
def k0_off12 (k0_t1 : Fin k0_t1_loop.trips) : Fin 3 → Nat :=
  let c0_1613 : Index := 0#32
  let c0_i32_117 : BitVec 32 := 0#32
  let c1_i32_119 : BitVec 32 := 1#32
  let arg17 : BitVec 32 := Scf.iv c0_i32_117 c1_i32_119 k0_t1
  let c128_i32 : BitVec 32 := 128#32
  let v1293 : BitVec 32 := Scalar.muli arg17 c128_i32
  let v1294 : Index := Scalar.indexCast v1293
  let c0_1614 : Index := 0#32
  ![0, v1294.toNat, 0]
def k0_dev7 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_214 : BitVec 32 := 1#32
  let v184 : BitVec 32 := Scalar.muli v5 c1_i32_214
  let v185 : BitVec 32 := Scalar.addi c0_i32_215 v184
  v185.toNat
def k0_dev8 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_217 : BitVec 32 := 1#32
  let v186 : BitVec 32 := Scalar.muli v7 c1_i32_217
  let v187 : BitVec 32 := Scalar.addi c0_i32_218 v186
  v187.toNat
def k0_dev9 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_229 : BitVec 32 := 1#32
  let v188 : BitVec 32 := Scalar.muli v7 c1_i32_229
  let v189 : BitVec 32 := Scalar.addi c0_i32_230 v188
  v189.toNat
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_241 : BitVec 32 := 1#32
  let v198 : BitVec 32 := Scalar.muli v7 c1_i32_241
  let v199 : BitVec 32 := Scalar.addi c0_i32_242 v198
  v199.toNat
def k0_dev11 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_253 : BitVec 32 := 1#32
  let v208 : BitVec 32 := Scalar.muli v5 c1_i32_253
  let v209 : BitVec 32 := Scalar.addi c0_i32_254 v208
  v209.toNat
def k0_dev12 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_265 : BitVec 32 := 1#32
  let v218 : BitVec 32 := Scalar.muli v5 c1_i32_265
  let v219 : BitVec 32 := Scalar.addi c0_i32_266 v218
  v219.toNat
@[reducible] def k0_t2_loop : Scf.Loop 32 :=
  let c0_i32_326 : BitVec 32 := 0#32
  let c8_i32_327 : BitVec 32 := 8#32
  let v286 : BitVec 32 := Scalar.addi c0_i32_326 c8_i32_327
  let c1_i32_328 : BitVec 32 := 1#32
  ⟨c0_i32_326, v286, c1_i32_328⟩
def k0_cond2 (k0_t2 : Fin k0_t2_loop.trips) : BitVec 1 :=
  let c0_i32_326 : BitVec 32 := 0#32
  let c1_i32_328 : BitVec 32 := 1#32
  let arg17 : BitVec 32 := Scf.iv c0_i32_326 c1_i32_328 k0_t2
  let c1_i32_1590 : BitVec 32 := 1#32
  let v1264 : BitVec 32 := Scalar.addi arg17 c1_i32_1590
  let c8_i32_1591 : BitVec 32 := 8#32
  let v1265 : BitVec 1 := Scalar.cmpi .slt v1264 c8_i32_1591
  let v1266 : BitVec 32 := Scalar.extui v1265
  let c0_i32_1592 : BitVec 32 := 0#32
  let v1267 : BitVec 1 := Scalar.cmpi .ne v1266 c0_i32_1592
  v1267

def k0_off13 (k0_t2 : Fin k0_t2_loop.trips) : Fin 2 → Nat :=
  let c0_i32_326 : BitVec 32 := 0#32
  let c1_i32_328 : BitVec 32 := 1#32
  let arg17 : BitVec 32 := Scf.iv c0_i32_326 c1_i32_328 k0_t2
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1659 : BitVec 32 := 0#32
  ![v1263.toNat, 0]
def k0_off14 (k0_t2 : Fin k0_t2_loop.trips) : Fin 3 → Nat :=
  let c0_i32_326 : BitVec 32 := 0#32
  let c1_i32_328 : BitVec 32 := 1#32
  let arg17 : BitVec 32 := Scf.iv c0_i32_326 c1_i32_328 k0_t2
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1660 : BitVec 32 := 0#32
  let c0_i32_1661 : BitVec 32 := 0#32
  ![v1263.toNat, 0, 0]
def k0_off15 (d0 : Dev nD) (k0_t2 : Fin k0_t2_loop.trips) : Fin 4 → Nat :=
  let c0_i32_1658 : BitVec 32 := 0#32
  let c0_i32_1662 : BitVec 32 := 0#32
  let c0_i32_326 : BitVec 32 := 0#32
  let c1_i32_328 : BitVec 32 := 1#32
  let arg17 : BitVec 32 := Scf.iv c0_i32_326 c1_i32_328 k0_t2
  let c1_i32_1655 : BitVec 32 := 1#32
  let v1433 : BitVec 32 := Scalar.addi arg17 c1_i32_1655
  let c4_i32_1656 : BitVec 32 := 4#32
  let v1434 : BitVec 1 := Scalar.cmpi .slt v1433 c4_i32_1656
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_271 : BitVec 32 := 16#32
  let v228 : BitVec 32 := Scalar.addi v2 c16_i32_271
  let c1_i32_272 : BitVec 32 := 1#32
  let v229 : BitVec 32 := Scalar.subi v228 c1_i32_272
  let c8_i32_273 : BitVec 32 := 8#32
  let v230 : BitVec 32 := Scalar.remsi v229 c8_i32_273
  let c1_i32_274 : BitVec 32 := 1#32
  let v231 : BitVec 32 := Scalar.addi v2 c1_i32_274
  let c8_i32_275 : BitVec 32 := 8#32
  let v232 : BitVec 32 := Scalar.remsi v231 c8_i32_275
  let v1435 : BitVec 32 := Scalar.select v1434 v230 v232
  let c8_i32_1657 : BitVec 32 := 8#32
  let v1436 : BitVec 32 := Scalar.muli v1435 c8_i32_1657
  let v1437 : BitVec 32 := Scalar.addi v1436 v1433
  let c0_i32_1663 : BitVec 32 := 0#32
  ![0, 0, v1437.toNat, 0]
def k0_off16 (k0_t2 : Fin k0_t2_loop.trips) : Fin 2 → Nat :=
  let c0_i32_326 : BitVec 32 := 0#32
  let c1_i32_328 : BitVec 32 := 1#32
  let arg17 : BitVec 32 := Scf.iv c0_i32_326 c1_i32_328 k0_t2
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c1_i32_1665 : BitVec 32 := 1#32
  ![v1263.toNat, 1]
def k0_off17 (k0_t2 : Fin k0_t2_loop.trips) : Fin 2 → Nat :=
  let c0_i32_326 : BitVec 32 := 0#32
  let c1_i32_328 : BitVec 32 := 1#32
  let arg17 : BitVec 32 := Scf.iv c0_i32_326 c1_i32_328 k0_t2
  let c2_i32_1587 : BitVec 32 := 2#32
  let v1261 : BitVec 32 := Scalar.remsi arg17 c2_i32_1587
  let c0_i32_1596 : BitVec 32 := 0#32
  ![v1261.toNat, 0]
def k0_off18 (k0_t2 : Fin k0_t2_loop.trips) : Fin 3 → Nat :=
  let c0_i32_326 : BitVec 32 := 0#32
  let c1_i32_328 : BitVec 32 := 1#32
  let arg17 : BitVec 32 := Scf.iv c0_i32_326 c1_i32_328 k0_t2
  let c2_i32_1587 : BitVec 32 := 2#32
  let v1261 : BitVec 32 := Scalar.remsi arg17 c2_i32_1587
  let c0_i32_1597 : BitVec 32 := 0#32
  let c0_i32_1598 : BitVec 32 := 0#32
  ![v1261.toNat, 0, 0]
def k0_off19 (d0 : Dev nD) (k0_t2 : Fin k0_t2_loop.trips) : Fin 4 → Nat :=
  let c0_i32_1595 : BitVec 32 := 0#32
  let c0_i32_1599 : BitVec 32 := 0#32
  let c0_i32_326 : BitVec 32 := 0#32
  let c1_i32_328 : BitVec 32 := 1#32
  let arg17 : BitVec 32 := Scf.iv c0_i32_326 c1_i32_328 k0_t2
  let c4_i32_1593 : BitVec 32 := 4#32
  let v1268 : BitVec 1 := Scalar.cmpi .slt arg17 c4_i32_1593
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_271 : BitVec 32 := 16#32
  let v228 : BitVec 32 := Scalar.addi v2 c16_i32_271
  let c1_i32_272 : BitVec 32 := 1#32
  let v229 : BitVec 32 := Scalar.subi v228 c1_i32_272
  let c8_i32_273 : BitVec 32 := 8#32
  let v230 : BitVec 32 := Scalar.remsi v229 c8_i32_273
  let c1_i32_274 : BitVec 32 := 1#32
  let v231 : BitVec 32 := Scalar.addi v2 c1_i32_274
  let c8_i32_275 : BitVec 32 := 8#32
  let v232 : BitVec 32 := Scalar.remsi v231 c8_i32_275
  let v1269 : BitVec 32 := Scalar.select v1268 v230 v232
  let c8_i32_1594 : BitVec 32 := 8#32
  let v1270 : BitVec 32 := Scalar.muli v1269 c8_i32_1594
  let v1271 : BitVec 32 := Scalar.addi v1270 arg17
  let c0_i32_1600 : BitVec 32 := 0#32
  ![0, 0, v1271.toNat, 0]
def k0_off20 (k0_t2 : Fin k0_t2_loop.trips) : Fin 2 → Nat :=
  let c0_i32_326 : BitVec 32 := 0#32
  let c1_i32_328 : BitVec 32 := 1#32
  let arg17 : BitVec 32 := Scf.iv c0_i32_326 c1_i32_328 k0_t2
  let c2_i32_1587 : BitVec 32 := 2#32
  let v1261 : BitVec 32 := Scalar.remsi arg17 c2_i32_1587
  let c1_i32_1602 : BitVec 32 := 1#32
  ![v1261.toNat, 1]
def k0_off21 (k0_t2 : Fin k0_t2_loop.trips) : Fin 3 → Nat :=
  let c0_i32_326 : BitVec 32 := 0#32
  let c1_i32_328 : BitVec 32 := 1#32
  let arg17 : BitVec 32 := Scf.iv c0_i32_326 c1_i32_328 k0_t2
  let v1284 : Index := Scalar.indexCast arg17
  let c0_1607 : Index := 0#32
  let c0_1608 : Index := 0#32
  ![v1284.toNat, 0, 0]
def k0_off22 (k0_t2 : Fin k0_t2_loop.trips) : Fin 3 → Nat :=
  let c0_i32_326 : BitVec 32 := 0#32
  let c1_i32_328 : BitVec 32 := 1#32
  let arg17 : BitVec 32 := Scf.iv c0_i32_326 c1_i32_328 k0_t2
  let c2_i32_1587 : BitVec 32 := 2#32
  let v1261 : BitVec 32 := Scalar.remsi arg17 c2_i32_1587
  let v1287 : Index := Scalar.indexCast v1261
  let c0_1609 : Index := 0#32
  let c0_1610 : Index := 0#32
  ![v1287.toNat, 0, 0]
def k0_off23 (k0_t2 : Fin k0_t2_loop.trips) : Fin 3 → Nat :=
  let c1_1613 : Index := 1#32
  let c0_i32_326 : BitVec 32 := 0#32
  let c1_i32_328 : BitVec 32 := 1#32
  let arg17 : BitVec 32 := Scf.iv c0_i32_326 c1_i32_328 k0_t2
  let c128_i32 : BitVec 32 := 128#32
  let v1293 : BitVec 32 := Scalar.muli arg17 c128_i32
  let v1294 : Index := Scalar.indexCast v1293
  let c0_1614 : Index := 0#32
  ![1, v1294.toNat, 0]
def k0_dev13 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_423 : BitVec 32 := 1#32
  let v343 : BitVec 32 := Scalar.muli v5 c1_i32_423
  let v344 : BitVec 32 := Scalar.addi c0_i32_424 v343
  v344.toNat
def k0_dev14 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_426 : BitVec 32 := 1#32
  let v345 : BitVec 32 := Scalar.muli v7 c1_i32_426
  let v346 : BitVec 32 := Scalar.addi c0_i32_427 v345
  v346.toNat
def k0_dev15 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_438 : BitVec 32 := 1#32
  let v347 : BitVec 32 := Scalar.muli v7 c1_i32_438
  let v348 : BitVec 32 := Scalar.addi c0_i32_439 v347
  v348.toNat
def k0_dev16 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_450 : BitVec 32 := 1#32
  let v357 : BitVec 32 := Scalar.muli v7 c1_i32_450
  let v358 : BitVec 32 := Scalar.addi c0_i32_451 v357
  v358.toNat
def k0_dev17 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_462 : BitVec 32 := 1#32
  let v367 : BitVec 32 := Scalar.muli v5 c1_i32_462
  let v368 : BitVec 32 := Scalar.addi c0_i32_463 v367
  v368.toNat
def k0_dev18 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_474 : BitVec 32 := 1#32
  let v377 : BitVec 32 := Scalar.muli v5 c1_i32_474
  let v378 : BitVec 32 := Scalar.addi c0_i32_475 v377
  v378.toNat
@[reducible] def k0_t3_loop : Scf.Loop 32 :=
  let c0_i32_535 : BitVec 32 := 0#32
  let c8_i32_536 : BitVec 32 := 8#32
  let v445 : BitVec 32 := Scalar.addi c0_i32_535 c8_i32_536
  let c1_i32_537 : BitVec 32 := 1#32
  ⟨c0_i32_535, v445, c1_i32_537⟩
def k0_cond3 (k0_t3 : Fin k0_t3_loop.trips) : BitVec 1 :=
  let c0_i32_535 : BitVec 32 := 0#32
  let c1_i32_537 : BitVec 32 := 1#32
  let arg17 : BitVec 32 := Scf.iv c0_i32_535 c1_i32_537 k0_t3
  let c1_i32_1590 : BitVec 32 := 1#32
  let v1264 : BitVec 32 := Scalar.addi arg17 c1_i32_1590
  let c8_i32_1591 : BitVec 32 := 8#32
  let v1265 : BitVec 1 := Scalar.cmpi .slt v1264 c8_i32_1591
  let v1266 : BitVec 32 := Scalar.extui v1265
  let c0_i32_1592 : BitVec 32 := 0#32
  let v1267 : BitVec 1 := Scalar.cmpi .ne v1266 c0_i32_1592
  v1267

def k0_off24 (k0_t3 : Fin k0_t3_loop.trips) : Fin 2 → Nat :=
  let c0_i32_535 : BitVec 32 := 0#32
  let c1_i32_537 : BitVec 32 := 1#32
  let arg17 : BitVec 32 := Scf.iv c0_i32_535 c1_i32_537 k0_t3
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1659 : BitVec 32 := 0#32
  ![v1263.toNat, 0]
def k0_off25 (k0_t3 : Fin k0_t3_loop.trips) : Fin 3 → Nat :=
  let c0_i32_535 : BitVec 32 := 0#32
  let c1_i32_537 : BitVec 32 := 1#32
  let arg17 : BitVec 32 := Scf.iv c0_i32_535 c1_i32_537 k0_t3
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1660 : BitVec 32 := 0#32
  let c0_i32_1661 : BitVec 32 := 0#32
  ![v1263.toNat, 0, 0]
def k0_off26 (d0 : Dev nD) (k0_t3 : Fin k0_t3_loop.trips) : Fin 4 → Nat :=
  let c0_i32_1658 : BitVec 32 := 0#32
  let c0_i32_1662 : BitVec 32 := 0#32
  let c0_i32_535 : BitVec 32 := 0#32
  let c1_i32_537 : BitVec 32 := 1#32
  let arg17 : BitVec 32 := Scf.iv c0_i32_535 c1_i32_537 k0_t3
  let c1_i32_1655 : BitVec 32 := 1#32
  let v1433 : BitVec 32 := Scalar.addi arg17 c1_i32_1655
  let c4_i32_1656 : BitVec 32 := 4#32
  let v1434 : BitVec 1 := Scalar.cmpi .slt v1433 c4_i32_1656
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_480 : BitVec 32 := 16#32
  let v387 : BitVec 32 := Scalar.addi v2 c16_i32_480
  let c2_i32_481 : BitVec 32 := 2#32
  let v388 : BitVec 32 := Scalar.subi v387 c2_i32_481
  let c8_i32_482 : BitVec 32 := 8#32
  let v389 : BitVec 32 := Scalar.remsi v388 c8_i32_482
  let c2_i32_483 : BitVec 32 := 2#32
  let v390 : BitVec 32 := Scalar.addi v2 c2_i32_483
  let c8_i32_484 : BitVec 32 := 8#32
  let v391 : BitVec 32 := Scalar.remsi v390 c8_i32_484
  let v1435 : BitVec 32 := Scalar.select v1434 v389 v391
  let c8_i32_1657 : BitVec 32 := 8#32
  let v1436 : BitVec 32 := Scalar.muli v1435 c8_i32_1657
  let v1437 : BitVec 32 := Scalar.addi v1436 v1433
  let c0_i32_1663 : BitVec 32 := 0#32
  ![0, 0, v1437.toNat, 0]
def k0_off27 (k0_t3 : Fin k0_t3_loop.trips) : Fin 2 → Nat :=
  let c0_i32_535 : BitVec 32 := 0#32
  let c1_i32_537 : BitVec 32 := 1#32
  let arg17 : BitVec 32 := Scf.iv c0_i32_535 c1_i32_537 k0_t3
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c1_i32_1665 : BitVec 32 := 1#32
  ![v1263.toNat, 1]
def k0_off28 (k0_t3 : Fin k0_t3_loop.trips) : Fin 2 → Nat :=
  let c0_i32_535 : BitVec 32 := 0#32
  let c1_i32_537 : BitVec 32 := 1#32
  let arg17 : BitVec 32 := Scf.iv c0_i32_535 c1_i32_537 k0_t3
  let c2_i32_1587 : BitVec 32 := 2#32
  let v1261 : BitVec 32 := Scalar.remsi arg17 c2_i32_1587
  let c0_i32_1596 : BitVec 32 := 0#32
  ![v1261.toNat, 0]
def k0_off29 (k0_t3 : Fin k0_t3_loop.trips) : Fin 3 → Nat :=
  let c0_i32_535 : BitVec 32 := 0#32
  let c1_i32_537 : BitVec 32 := 1#32
  let arg17 : BitVec 32 := Scf.iv c0_i32_535 c1_i32_537 k0_t3
  let c2_i32_1587 : BitVec 32 := 2#32
  let v1261 : BitVec 32 := Scalar.remsi arg17 c2_i32_1587
  let c0_i32_1597 : BitVec 32 := 0#32
  let c0_i32_1598 : BitVec 32 := 0#32
  ![v1261.toNat, 0, 0]
def k0_off30 (d0 : Dev nD) (k0_t3 : Fin k0_t3_loop.trips) : Fin 4 → Nat :=
  let c0_i32_1595 : BitVec 32 := 0#32
  let c0_i32_1599 : BitVec 32 := 0#32
  let c0_i32_535 : BitVec 32 := 0#32
  let c1_i32_537 : BitVec 32 := 1#32
  let arg17 : BitVec 32 := Scf.iv c0_i32_535 c1_i32_537 k0_t3
  let c4_i32_1593 : BitVec 32 := 4#32
  let v1268 : BitVec 1 := Scalar.cmpi .slt arg17 c4_i32_1593
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_480 : BitVec 32 := 16#32
  let v387 : BitVec 32 := Scalar.addi v2 c16_i32_480
  let c2_i32_481 : BitVec 32 := 2#32
  let v388 : BitVec 32 := Scalar.subi v387 c2_i32_481
  let c8_i32_482 : BitVec 32 := 8#32
  let v389 : BitVec 32 := Scalar.remsi v388 c8_i32_482
  let c2_i32_483 : BitVec 32 := 2#32
  let v390 : BitVec 32 := Scalar.addi v2 c2_i32_483
  let c8_i32_484 : BitVec 32 := 8#32
  let v391 : BitVec 32 := Scalar.remsi v390 c8_i32_484
  let v1269 : BitVec 32 := Scalar.select v1268 v389 v391
  let c8_i32_1594 : BitVec 32 := 8#32
  let v1270 : BitVec 32 := Scalar.muli v1269 c8_i32_1594
  let v1271 : BitVec 32 := Scalar.addi v1270 arg17
  let c0_i32_1600 : BitVec 32 := 0#32
  ![0, 0, v1271.toNat, 0]
def k0_off31 (k0_t3 : Fin k0_t3_loop.trips) : Fin 2 → Nat :=
  let c0_i32_535 : BitVec 32 := 0#32
  let c1_i32_537 : BitVec 32 := 1#32
  let arg17 : BitVec 32 := Scf.iv c0_i32_535 c1_i32_537 k0_t3
  let c2_i32_1587 : BitVec 32 := 2#32
  let v1261 : BitVec 32 := Scalar.remsi arg17 c2_i32_1587
  let c1_i32_1602 : BitVec 32 := 1#32
  ![v1261.toNat, 1]
def k0_off32 (k0_t3 : Fin k0_t3_loop.trips) : Fin 3 → Nat :=
  let c0_i32_535 : BitVec 32 := 0#32
  let c1_i32_537 : BitVec 32 := 1#32
  let arg17 : BitVec 32 := Scf.iv c0_i32_535 c1_i32_537 k0_t3
  let v1284 : Index := Scalar.indexCast arg17
  let c0_1607 : Index := 0#32
  let c0_1608 : Index := 0#32
  ![v1284.toNat, 0, 0]
def k0_off33 (k0_t3 : Fin k0_t3_loop.trips) : Fin 3 → Nat :=
  let c0_i32_535 : BitVec 32 := 0#32
  let c1_i32_537 : BitVec 32 := 1#32
  let arg17 : BitVec 32 := Scf.iv c0_i32_535 c1_i32_537 k0_t3
  let c2_i32_1587 : BitVec 32 := 2#32
  let v1261 : BitVec 32 := Scalar.remsi arg17 c2_i32_1587
  let v1287 : Index := Scalar.indexCast v1261
  let c0_1609 : Index := 0#32
  let c0_1610 : Index := 0#32
  ![v1287.toNat, 0, 0]
def k0_off34 (k0_t3 : Fin k0_t3_loop.trips) : Fin 3 → Nat :=
  let c0_1613 : Index := 0#32
  let c0_i32_535 : BitVec 32 := 0#32
  let c1_i32_537 : BitVec 32 := 1#32
  let arg17 : BitVec 32 := Scf.iv c0_i32_535 c1_i32_537 k0_t3
  let c128_i32 : BitVec 32 := 128#32
  let v1293 : BitVec 32 := Scalar.muli arg17 c128_i32
  let v1294 : Index := Scalar.indexCast v1293
  let c0_1614 : Index := 0#32
  ![0, v1294.toNat, 0]
def k0_dev19 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_632 : BitVec 32 := 1#32
  let v502 : BitVec 32 := Scalar.muli v5 c1_i32_632
  let v503 : BitVec 32 := Scalar.addi c0_i32_633 v502
  v503.toNat
def k0_dev20 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_635 : BitVec 32 := 1#32
  let v504 : BitVec 32 := Scalar.muli v7 c1_i32_635
  let v505 : BitVec 32 := Scalar.addi c0_i32_636 v504
  v505.toNat
def k0_dev21 (d0 : Dev nD) : Nat :=
  let c0_i32_648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_647 : BitVec 32 := 1#32
  let v506 : BitVec 32 := Scalar.muli v7 c1_i32_647
  let v507 : BitVec 32 := Scalar.addi c0_i32_648 v506
  v507.toNat
def k0_dev22 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_659 : BitVec 32 := 1#32
  let v516 : BitVec 32 := Scalar.muli v7 c1_i32_659
  let v517 : BitVec 32 := Scalar.addi c0_i32_660 v516
  v517.toNat
def k0_dev23 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_671 : BitVec 32 := 1#32
  let v526 : BitVec 32 := Scalar.muli v5 c1_i32_671
  let v527 : BitVec 32 := Scalar.addi c0_i32_672 v526
  v527.toNat
def k0_dev24 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_683 : BitVec 32 := 1#32
  let v536 : BitVec 32 := Scalar.muli v5 c1_i32_683
  let v537 : BitVec 32 := Scalar.addi c0_i32_684 v536
  v537.toNat
@[reducible] def k0_t4_loop : Scf.Loop 32 :=
  let c0_i32_744 : BitVec 32 := 0#32
  let c8_i32_745 : BitVec 32 := 8#32
  let v604 : BitVec 32 := Scalar.addi c0_i32_744 c8_i32_745
  let c1_i32_746 : BitVec 32 := 1#32
  ⟨c0_i32_744, v604, c1_i32_746⟩
def k0_cond4 (k0_t4 : Fin k0_t4_loop.trips) : BitVec 1 :=
  let c0_i32_744 : BitVec 32 := 0#32
  let c1_i32_746 : BitVec 32 := 1#32
  let arg17 : BitVec 32 := Scf.iv c0_i32_744 c1_i32_746 k0_t4
  let c1_i32_1590 : BitVec 32 := 1#32
  let v1264 : BitVec 32 := Scalar.addi arg17 c1_i32_1590
  let c8_i32_1591 : BitVec 32 := 8#32
  let v1265 : BitVec 1 := Scalar.cmpi .slt v1264 c8_i32_1591
  let v1266 : BitVec 32 := Scalar.extui v1265
  let c0_i32_1592 : BitVec 32 := 0#32
  let v1267 : BitVec 1 := Scalar.cmpi .ne v1266 c0_i32_1592
  v1267

def k0_off35 (k0_t4 : Fin k0_t4_loop.trips) : Fin 2 → Nat :=
  let c0_i32_744 : BitVec 32 := 0#32
  let c1_i32_746 : BitVec 32 := 1#32
  let arg17 : BitVec 32 := Scf.iv c0_i32_744 c1_i32_746 k0_t4
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1659 : BitVec 32 := 0#32
  ![v1263.toNat, 0]
def k0_off36 (k0_t4 : Fin k0_t4_loop.trips) : Fin 3 → Nat :=
  let c0_i32_744 : BitVec 32 := 0#32
  let c1_i32_746 : BitVec 32 := 1#32
  let arg17 : BitVec 32 := Scf.iv c0_i32_744 c1_i32_746 k0_t4
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1660 : BitVec 32 := 0#32
  let c0_i32_1661 : BitVec 32 := 0#32
  ![v1263.toNat, 0, 0]
def k0_off37 (d0 : Dev nD) (k0_t4 : Fin k0_t4_loop.trips) : Fin 4 → Nat :=
  let c0_i32_1658 : BitVec 32 := 0#32
  let c0_i32_1662 : BitVec 32 := 0#32
  let c0_i32_744 : BitVec 32 := 0#32
  let c1_i32_746 : BitVec 32 := 1#32
  let arg17 : BitVec 32 := Scf.iv c0_i32_744 c1_i32_746 k0_t4
  let c1_i32_1655 : BitVec 32 := 1#32
  let v1433 : BitVec 32 := Scalar.addi arg17 c1_i32_1655
  let c4_i32_1656 : BitVec 32 := 4#32
  let v1434 : BitVec 1 := Scalar.cmpi .slt v1433 c4_i32_1656
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_689 : BitVec 32 := 16#32
  let v546 : BitVec 32 := Scalar.addi v2 c16_i32_689
  let c3_i32_690 : BitVec 32 := 3#32
  let v547 : BitVec 32 := Scalar.subi v546 c3_i32_690
  let c8_i32_691 : BitVec 32 := 8#32
  let v548 : BitVec 32 := Scalar.remsi v547 c8_i32_691
  let c3_i32_692 : BitVec 32 := 3#32
  let v549 : BitVec 32 := Scalar.addi v2 c3_i32_692
  let c8_i32_693 : BitVec 32 := 8#32
  let v550 : BitVec 32 := Scalar.remsi v549 c8_i32_693
  let v1435 : BitVec 32 := Scalar.select v1434 v548 v550
  let c8_i32_1657 : BitVec 32 := 8#32
  let v1436 : BitVec 32 := Scalar.muli v1435 c8_i32_1657
  let v1437 : BitVec 32 := Scalar.addi v1436 v1433
  let c0_i32_1663 : BitVec 32 := 0#32
  ![0, 0, v1437.toNat, 0]
def k0_off38 (k0_t4 : Fin k0_t4_loop.trips) : Fin 2 → Nat :=
  let c0_i32_744 : BitVec 32 := 0#32
  let c1_i32_746 : BitVec 32 := 1#32
  let arg17 : BitVec 32 := Scf.iv c0_i32_744 c1_i32_746 k0_t4
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c1_i32_1665 : BitVec 32 := 1#32
  ![v1263.toNat, 1]
def k0_off39 (k0_t4 : Fin k0_t4_loop.trips) : Fin 2 → Nat :=
  let c0_i32_744 : BitVec 32 := 0#32
  let c1_i32_746 : BitVec 32 := 1#32
  let arg17 : BitVec 32 := Scf.iv c0_i32_744 c1_i32_746 k0_t4
  let c2_i32_1587 : BitVec 32 := 2#32
  let v1261 : BitVec 32 := Scalar.remsi arg17 c2_i32_1587
  let c0_i32_1596 : BitVec 32 := 0#32
  ![v1261.toNat, 0]
def k0_off40 (k0_t4 : Fin k0_t4_loop.trips) : Fin 3 → Nat :=
  let c0_i32_744 : BitVec 32 := 0#32
  let c1_i32_746 : BitVec 32 := 1#32
  let arg17 : BitVec 32 := Scf.iv c0_i32_744 c1_i32_746 k0_t4
  let c2_i32_1587 : BitVec 32 := 2#32
  let v1261 : BitVec 32 := Scalar.remsi arg17 c2_i32_1587
  let c0_i32_1597 : BitVec 32 := 0#32
  let c0_i32_1598 : BitVec 32 := 0#32
  ![v1261.toNat, 0, 0]
def k0_off41 (d0 : Dev nD) (k0_t4 : Fin k0_t4_loop.trips) : Fin 4 → Nat :=
  let c0_i32_1595 : BitVec 32 := 0#32
  let c0_i32_1599 : BitVec 32 := 0#32
  let c0_i32_744 : BitVec 32 := 0#32
  let c1_i32_746 : BitVec 32 := 1#32
  let arg17 : BitVec 32 := Scf.iv c0_i32_744 c1_i32_746 k0_t4
  let c4_i32_1593 : BitVec 32 := 4#32
  let v1268 : BitVec 1 := Scalar.cmpi .slt arg17 c4_i32_1593
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_689 : BitVec 32 := 16#32
  let v546 : BitVec 32 := Scalar.addi v2 c16_i32_689
  let c3_i32_690 : BitVec 32 := 3#32
  let v547 : BitVec 32 := Scalar.subi v546 c3_i32_690
  let c8_i32_691 : BitVec 32 := 8#32
  let v548 : BitVec 32 := Scalar.remsi v547 c8_i32_691
  let c3_i32_692 : BitVec 32 := 3#32
  let v549 : BitVec 32 := Scalar.addi v2 c3_i32_692
  let c8_i32_693 : BitVec 32 := 8#32
  let v550 : BitVec 32 := Scalar.remsi v549 c8_i32_693
  let v1269 : BitVec 32 := Scalar.select v1268 v548 v550
  let c8_i32_1594 : BitVec 32 := 8#32
  let v1270 : BitVec 32 := Scalar.muli v1269 c8_i32_1594
  let v1271 : BitVec 32 := Scalar.addi v1270 arg17
  let c0_i32_1600 : BitVec 32 := 0#32
  ![0, 0, v1271.toNat, 0]
def k0_off42 (k0_t4 : Fin k0_t4_loop.trips) : Fin 2 → Nat :=
  let c0_i32_744 : BitVec 32 := 0#32
  let c1_i32_746 : BitVec 32 := 1#32
  let arg17 : BitVec 32 := Scf.iv c0_i32_744 c1_i32_746 k0_t4
  let c2_i32_1587 : BitVec 32 := 2#32
  let v1261 : BitVec 32 := Scalar.remsi arg17 c2_i32_1587
  let c1_i32_1602 : BitVec 32 := 1#32
  ![v1261.toNat, 1]
def k0_off43 (k0_t4 : Fin k0_t4_loop.trips) : Fin 3 → Nat :=
  let c0_i32_744 : BitVec 32 := 0#32
  let c1_i32_746 : BitVec 32 := 1#32
  let arg17 : BitVec 32 := Scf.iv c0_i32_744 c1_i32_746 k0_t4
  let v1284 : Index := Scalar.indexCast arg17
  let c0_1607 : Index := 0#32
  let c0_1608 : Index := 0#32
  ![v1284.toNat, 0, 0]
def k0_off44 (k0_t4 : Fin k0_t4_loop.trips) : Fin 3 → Nat :=
  let c0_i32_744 : BitVec 32 := 0#32
  let c1_i32_746 : BitVec 32 := 1#32
  let arg17 : BitVec 32 := Scf.iv c0_i32_744 c1_i32_746 k0_t4
  let c2_i32_1587 : BitVec 32 := 2#32
  let v1261 : BitVec 32 := Scalar.remsi arg17 c2_i32_1587
  let v1287 : Index := Scalar.indexCast v1261
  let c0_1609 : Index := 0#32
  let c0_1610 : Index := 0#32
  ![v1287.toNat, 0, 0]
def k0_off45 (k0_t4 : Fin k0_t4_loop.trips) : Fin 3 → Nat :=
  let c1_1613 : Index := 1#32
  let c0_i32_744 : BitVec 32 := 0#32
  let c1_i32_746 : BitVec 32 := 1#32
  let arg17 : BitVec 32 := Scf.iv c0_i32_744 c1_i32_746 k0_t4
  let c128_i32 : BitVec 32 := 128#32
  let v1293 : BitVec 32 := Scalar.muli arg17 c128_i32
  let v1294 : Index := Scalar.indexCast v1293
  let c0_1614 : Index := 0#32
  ![1, v1294.toNat, 0]
def k0_dev25 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_841 : BitVec 32 := 1#32
  let v661 : BitVec 32 := Scalar.muli v5 c1_i32_841
  let v662 : BitVec 32 := Scalar.addi c0_i32_842 v661
  v662.toNat
def k0_dev26 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_844 : BitVec 32 := 1#32
  let v663 : BitVec 32 := Scalar.muli v7 c1_i32_844
  let v664 : BitVec 32 := Scalar.addi c0_i32_845 v663
  v664.toNat
def k0_dev27 (d0 : Dev nD) : Nat :=
  let c0_i32_857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_856 : BitVec 32 := 1#32
  let v665 : BitVec 32 := Scalar.muli v7 c1_i32_856
  let v666 : BitVec 32 := Scalar.addi c0_i32_857 v665
  v666.toNat
def k0_dev28 (d0 : Dev nD) : Nat :=
  let c0_i32_869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_868 : BitVec 32 := 1#32
  let v675 : BitVec 32 := Scalar.muli v7 c1_i32_868
  let v676 : BitVec 32 := Scalar.addi c0_i32_869 v675
  v676.toNat
def k0_dev29 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_880 : BitVec 32 := 1#32
  let v685 : BitVec 32 := Scalar.muli v5 c1_i32_880
  let v686 : BitVec 32 := Scalar.addi c0_i32_881 v685
  v686.toNat
def k0_dev30 (d0 : Dev nD) : Nat :=
  let c0_i32_893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_892 : BitVec 32 := 1#32
  let v695 : BitVec 32 := Scalar.muli v5 c1_i32_892
  let v696 : BitVec 32 := Scalar.addi c0_i32_893 v695
  v696.toNat
@[reducible] def k0_t5_loop : Scf.Loop 32 :=
  let c0_i32_952 : BitVec 32 := 0#32
  let c8_i32_953 : BitVec 32 := 8#32
  let v763 : BitVec 32 := Scalar.addi c0_i32_952 c8_i32_953
  let c1_i32_954 : BitVec 32 := 1#32
  ⟨c0_i32_952, v763, c1_i32_954⟩
def k0_cond5 (k0_t5 : Fin k0_t5_loop.trips) : BitVec 1 :=
  let c0_i32_952 : BitVec 32 := 0#32
  let c1_i32_954 : BitVec 32 := 1#32
  let arg17 : BitVec 32 := Scf.iv c0_i32_952 c1_i32_954 k0_t5
  let c1_i32_1590 : BitVec 32 := 1#32
  let v1264 : BitVec 32 := Scalar.addi arg17 c1_i32_1590
  let c8_i32_1591 : BitVec 32 := 8#32
  let v1265 : BitVec 1 := Scalar.cmpi .slt v1264 c8_i32_1591
  let v1266 : BitVec 32 := Scalar.extui v1265
  let c0_i32_1592 : BitVec 32 := 0#32
  let v1267 : BitVec 1 := Scalar.cmpi .ne v1266 c0_i32_1592
  v1267

def k0_off46 (k0_t5 : Fin k0_t5_loop.trips) : Fin 2 → Nat :=
  let c0_i32_952 : BitVec 32 := 0#32
  let c1_i32_954 : BitVec 32 := 1#32
  let arg17 : BitVec 32 := Scf.iv c0_i32_952 c1_i32_954 k0_t5
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1659 : BitVec 32 := 0#32
  ![v1263.toNat, 0]
def k0_off47 (k0_t5 : Fin k0_t5_loop.trips) : Fin 3 → Nat :=
  let c0_i32_952 : BitVec 32 := 0#32
  let c1_i32_954 : BitVec 32 := 1#32
  let arg17 : BitVec 32 := Scf.iv c0_i32_952 c1_i32_954 k0_t5
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1660 : BitVec 32 := 0#32
  let c0_i32_1661 : BitVec 32 := 0#32
  ![v1263.toNat, 0, 0]
def k0_off48 (d0 : Dev nD) (k0_t5 : Fin k0_t5_loop.trips) : Fin 4 → Nat :=
  let c0_i32_1658 : BitVec 32 := 0#32
  let c0_i32_1662 : BitVec 32 := 0#32
  let c0_i32_952 : BitVec 32 := 0#32
  let c1_i32_954 : BitVec 32 := 1#32
  let arg17 : BitVec 32 := Scf.iv c0_i32_952 c1_i32_954 k0_t5
  let c1_i32_1655 : BitVec 32 := 1#32
  let v1433 : BitVec 32 := Scalar.addi arg17 c1_i32_1655
  let c4_i32_1656 : BitVec 32 := 4#32
  let v1434 : BitVec 1 := Scalar.cmpi .slt v1433 c4_i32_1656
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_898 : BitVec 32 := 16#32
  let v705 : BitVec 32 := Scalar.addi v2 c16_i32_898
  let c4_i32 : BitVec 32 := 4#32
  let v706 : BitVec 32 := Scalar.subi v705 c4_i32
  let c8_i32_899 : BitVec 32 := 8#32
  let v707 : BitVec 32 := Scalar.remsi v706 c8_i32_899
  let c4_i32_900 : BitVec 32 := 4#32
  let v708 : BitVec 32 := Scalar.addi v2 c4_i32_900
  let c8_i32_901 : BitVec 32 := 8#32
  let v709 : BitVec 32 := Scalar.remsi v708 c8_i32_901
  let v1435 : BitVec 32 := Scalar.select v1434 v707 v709
  let c8_i32_1657 : BitVec 32 := 8#32
  let v1436 : BitVec 32 := Scalar.muli v1435 c8_i32_1657
  let v1437 : BitVec 32 := Scalar.addi v1436 v1433
  let c0_i32_1663 : BitVec 32 := 0#32
  ![0, 0, v1437.toNat, 0]
def k0_off49 (k0_t5 : Fin k0_t5_loop.trips) : Fin 2 → Nat :=
  let c0_i32_952 : BitVec 32 := 0#32
  let c1_i32_954 : BitVec 32 := 1#32
  let arg17 : BitVec 32 := Scf.iv c0_i32_952 c1_i32_954 k0_t5
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c1_i32_1665 : BitVec 32 := 1#32
  ![v1263.toNat, 1]
def k0_off50 (k0_t5 : Fin k0_t5_loop.trips) : Fin 2 → Nat :=
  let c0_i32_952 : BitVec 32 := 0#32
  let c1_i32_954 : BitVec 32 := 1#32
  let arg17 : BitVec 32 := Scf.iv c0_i32_952 c1_i32_954 k0_t5
  let c2_i32_1587 : BitVec 32 := 2#32
  let v1261 : BitVec 32 := Scalar.remsi arg17 c2_i32_1587
  let c0_i32_1596 : BitVec 32 := 0#32
  ![v1261.toNat, 0]
def k0_off51 (k0_t5 : Fin k0_t5_loop.trips) : Fin 3 → Nat :=
  let c0_i32_952 : BitVec 32 := 0#32
  let c1_i32_954 : BitVec 32 := 1#32
  let arg17 : BitVec 32 := Scf.iv c0_i32_952 c1_i32_954 k0_t5
  let c2_i32_1587 : BitVec 32 := 2#32
  let v1261 : BitVec 32 := Scalar.remsi arg17 c2_i32_1587
  let c0_i32_1597 : BitVec 32 := 0#32
  let c0_i32_1598 : BitVec 32 := 0#32
  ![v1261.toNat, 0, 0]
def k0_off52 (d0 : Dev nD) (k0_t5 : Fin k0_t5_loop.trips) : Fin 4 → Nat :=
  let c0_i32_1595 : BitVec 32 := 0#32
  let c0_i32_1599 : BitVec 32 := 0#32
  let c0_i32_952 : BitVec 32 := 0#32
  let c1_i32_954 : BitVec 32 := 1#32
  let arg17 : BitVec 32 := Scf.iv c0_i32_952 c1_i32_954 k0_t5
  let c4_i32_1593 : BitVec 32 := 4#32
  let v1268 : BitVec 1 := Scalar.cmpi .slt arg17 c4_i32_1593
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_898 : BitVec 32 := 16#32
  let v705 : BitVec 32 := Scalar.addi v2 c16_i32_898
  let c4_i32 : BitVec 32 := 4#32
  let v706 : BitVec 32 := Scalar.subi v705 c4_i32
  let c8_i32_899 : BitVec 32 := 8#32
  let v707 : BitVec 32 := Scalar.remsi v706 c8_i32_899
  let c4_i32_900 : BitVec 32 := 4#32
  let v708 : BitVec 32 := Scalar.addi v2 c4_i32_900
  let c8_i32_901 : BitVec 32 := 8#32
  let v709 : BitVec 32 := Scalar.remsi v708 c8_i32_901
  let v1269 : BitVec 32 := Scalar.select v1268 v707 v709
  let c8_i32_1594 : BitVec 32 := 8#32
  let v1270 : BitVec 32 := Scalar.muli v1269 c8_i32_1594
  let v1271 : BitVec 32 := Scalar.addi v1270 arg17
  let c0_i32_1600 : BitVec 32 := 0#32
  ![0, 0, v1271.toNat, 0]
def k0_off53 (k0_t5 : Fin k0_t5_loop.trips) : Fin 2 → Nat :=
  let c0_i32_952 : BitVec 32 := 0#32
  let c1_i32_954 : BitVec 32 := 1#32
  let arg17 : BitVec 32 := Scf.iv c0_i32_952 c1_i32_954 k0_t5
  let c2_i32_1587 : BitVec 32 := 2#32
  let v1261 : BitVec 32 := Scalar.remsi arg17 c2_i32_1587
  let c1_i32_1602 : BitVec 32 := 1#32
  ![v1261.toNat, 1]
def k0_off54 (k0_t5 : Fin k0_t5_loop.trips) : Fin 3 → Nat :=
  let c0_i32_952 : BitVec 32 := 0#32
  let c1_i32_954 : BitVec 32 := 1#32
  let arg17 : BitVec 32 := Scf.iv c0_i32_952 c1_i32_954 k0_t5
  let v1284 : Index := Scalar.indexCast arg17
  let c0_1607 : Index := 0#32
  let c0_1608 : Index := 0#32
  ![v1284.toNat, 0, 0]
def k0_off55 (k0_t5 : Fin k0_t5_loop.trips) : Fin 3 → Nat :=
  let c0_i32_952 : BitVec 32 := 0#32
  let c1_i32_954 : BitVec 32 := 1#32
  let arg17 : BitVec 32 := Scf.iv c0_i32_952 c1_i32_954 k0_t5
  let c2_i32_1587 : BitVec 32 := 2#32
  let v1261 : BitVec 32 := Scalar.remsi arg17 c2_i32_1587
  let v1287 : Index := Scalar.indexCast v1261
  let c0_1609 : Index := 0#32
  let c0_1610 : Index := 0#32
  ![v1287.toNat, 0, 0]
def k0_off56 (k0_t5 : Fin k0_t5_loop.trips) : Fin 3 → Nat :=
  let c0_1613 : Index := 0#32
  let c0_i32_952 : BitVec 32 := 0#32
  let c1_i32_954 : BitVec 32 := 1#32
  let arg17 : BitVec 32 := Scf.iv c0_i32_952 c1_i32_954 k0_t5
  let c128_i32 : BitVec 32 := 128#32
  let v1293 : BitVec 32 := Scalar.muli arg17 c128_i32
  let v1294 : Index := Scalar.indexCast v1293
  let c0_1614 : Index := 0#32
  ![0, v1294.toNat, 0]
def k0_dev31 (d0 : Dev nD) : Nat :=
  let c0_i32_1050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1049 : BitVec 32 := 1#32
  let v820 : BitVec 32 := Scalar.muli v5 c1_i32_1049
  let v821 : BitVec 32 := Scalar.addi c0_i32_1050 v820
  v821.toNat
def k0_dev32 (d0 : Dev nD) : Nat :=
  let c0_i32_1053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1052 : BitVec 32 := 1#32
  let v822 : BitVec 32 := Scalar.muli v7 c1_i32_1052
  let v823 : BitVec 32 := Scalar.addi c0_i32_1053 v822
  v823.toNat
def k0_dev33 (d0 : Dev nD) : Nat :=
  let c0_i32_1065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1064 : BitVec 32 := 1#32
  let v824 : BitVec 32 := Scalar.muli v7 c1_i32_1064
  let v825 : BitVec 32 := Scalar.addi c0_i32_1065 v824
  v825.toNat
def k0_dev34 (d0 : Dev nD) : Nat :=
  let c0_i32_1077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1076 : BitVec 32 := 1#32
  let v834 : BitVec 32 := Scalar.muli v7 c1_i32_1076
  let v835 : BitVec 32 := Scalar.addi c0_i32_1077 v834
  v835.toNat
def k0_dev35 (d0 : Dev nD) : Nat :=
  let c0_i32_1089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1088 : BitVec 32 := 1#32
  let v844 : BitVec 32 := Scalar.muli v5 c1_i32_1088
  let v845 : BitVec 32 := Scalar.addi c0_i32_1089 v844
  v845.toNat
def k0_dev36 (d0 : Dev nD) : Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1100 : BitVec 32 := 1#32
  let v854 : BitVec 32 := Scalar.muli v5 c1_i32_1100
  let v855 : BitVec 32 := Scalar.addi c0_i32_1101 v854
  v855.toNat
@[reducible] def k0_t6_loop : Scf.Loop 32 :=
  let c0_i32_1160 : BitVec 32 := 0#32
  let c8_i32_1161 : BitVec 32 := 8#32
  let v922 : BitVec 32 := Scalar.addi c0_i32_1160 c8_i32_1161
  let c1_i32_1162 : BitVec 32 := 1#32
  ⟨c0_i32_1160, v922, c1_i32_1162⟩
def k0_cond6 (k0_t6 : Fin k0_t6_loop.trips) : BitVec 1 :=
  let c0_i32_1160 : BitVec 32 := 0#32
  let c1_i32_1162 : BitVec 32 := 1#32
  let arg17 : BitVec 32 := Scf.iv c0_i32_1160 c1_i32_1162 k0_t6
  let c1_i32_1590 : BitVec 32 := 1#32
  let v1264 : BitVec 32 := Scalar.addi arg17 c1_i32_1590
  let c8_i32_1591 : BitVec 32 := 8#32
  let v1265 : BitVec 1 := Scalar.cmpi .slt v1264 c8_i32_1591
  let v1266 : BitVec 32 := Scalar.extui v1265
  let c0_i32_1592 : BitVec 32 := 0#32
  let v1267 : BitVec 1 := Scalar.cmpi .ne v1266 c0_i32_1592
  v1267

def k0_off57 (k0_t6 : Fin k0_t6_loop.trips) : Fin 2 → Nat :=
  let c0_i32_1160 : BitVec 32 := 0#32
  let c1_i32_1162 : BitVec 32 := 1#32
  let arg17 : BitVec 32 := Scf.iv c0_i32_1160 c1_i32_1162 k0_t6
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1659 : BitVec 32 := 0#32
  ![v1263.toNat, 0]
def k0_off58 (k0_t6 : Fin k0_t6_loop.trips) : Fin 3 → Nat :=
  let c0_i32_1160 : BitVec 32 := 0#32
  let c1_i32_1162 : BitVec 32 := 1#32
  let arg17 : BitVec 32 := Scf.iv c0_i32_1160 c1_i32_1162 k0_t6
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1660 : BitVec 32 := 0#32
  let c0_i32_1661 : BitVec 32 := 0#32
  ![v1263.toNat, 0, 0]
def k0_off59 (d0 : Dev nD) (k0_t6 : Fin k0_t6_loop.trips) : Fin 4 → Nat :=
  let c0_i32_1658 : BitVec 32 := 0#32
  let c0_i32_1662 : BitVec 32 := 0#32
  let c0_i32_1160 : BitVec 32 := 0#32
  let c1_i32_1162 : BitVec 32 := 1#32
  let arg17 : BitVec 32 := Scf.iv c0_i32_1160 c1_i32_1162 k0_t6
  let c1_i32_1655 : BitVec 32 := 1#32
  let v1433 : BitVec 32 := Scalar.addi arg17 c1_i32_1655
  let c4_i32_1656 : BitVec 32 := 4#32
  let v1434 : BitVec 1 := Scalar.cmpi .slt v1433 c4_i32_1656
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1106 : BitVec 32 := 16#32
  let v864 : BitVec 32 := Scalar.addi v2 c16_i32_1106
  let c5_i32 : BitVec 32 := 5#32
  let v865 : BitVec 32 := Scalar.subi v864 c5_i32
  let c8_i32_1107 : BitVec 32 := 8#32
  let v866 : BitVec 32 := Scalar.remsi v865 c8_i32_1107
  let c5_i32_1108 : BitVec 32 := 5#32
  let v867 : BitVec 32 := Scalar.addi v2 c5_i32_1108
  let c8_i32_1109 : BitVec 32 := 8#32
  let v868 : BitVec 32 := Scalar.remsi v867 c8_i32_1109
  let v1435 : BitVec 32 := Scalar.select v1434 v866 v868
  let c8_i32_1657 : BitVec 32 := 8#32
  let v1436 : BitVec 32 := Scalar.muli v1435 c8_i32_1657
  let v1437 : BitVec 32 := Scalar.addi v1436 v1433
  let c0_i32_1663 : BitVec 32 := 0#32
  ![0, 0, v1437.toNat, 0]
def k0_off60 (k0_t6 : Fin k0_t6_loop.trips) : Fin 2 → Nat :=
  let c0_i32_1160 : BitVec 32 := 0#32
  let c1_i32_1162 : BitVec 32 := 1#32
  let arg17 : BitVec 32 := Scf.iv c0_i32_1160 c1_i32_1162 k0_t6
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c1_i32_1665 : BitVec 32 := 1#32
  ![v1263.toNat, 1]
def k0_off61 (k0_t6 : Fin k0_t6_loop.trips) : Fin 2 → Nat :=
  let c0_i32_1160 : BitVec 32 := 0#32
  let c1_i32_1162 : BitVec 32 := 1#32
  let arg17 : BitVec 32 := Scf.iv c0_i32_1160 c1_i32_1162 k0_t6
  let c2_i32_1587 : BitVec 32 := 2#32
  let v1261 : BitVec 32 := Scalar.remsi arg17 c2_i32_1587
  let c0_i32_1596 : BitVec 32 := 0#32
  ![v1261.toNat, 0]
def k0_off62 (k0_t6 : Fin k0_t6_loop.trips) : Fin 3 → Nat :=
  let c0_i32_1160 : BitVec 32 := 0#32
  let c1_i32_1162 : BitVec 32 := 1#32
  let arg17 : BitVec 32 := Scf.iv c0_i32_1160 c1_i32_1162 k0_t6
  let c2_i32_1587 : BitVec 32 := 2#32
  let v1261 : BitVec 32 := Scalar.remsi arg17 c2_i32_1587
  let c0_i32_1597 : BitVec 32 := 0#32
  let c0_i32_1598 : BitVec 32 := 0#32
  ![v1261.toNat, 0, 0]
def k0_off63 (d0 : Dev nD) (k0_t6 : Fin k0_t6_loop.trips) : Fin 4 → Nat :=
  let c0_i32_1595 : BitVec 32 := 0#32
  let c0_i32_1599 : BitVec 32 := 0#32
  let c0_i32_1160 : BitVec 32 := 0#32
  let c1_i32_1162 : BitVec 32 := 1#32
  let arg17 : BitVec 32 := Scf.iv c0_i32_1160 c1_i32_1162 k0_t6
  let c4_i32_1593 : BitVec 32 := 4#32
  let v1268 : BitVec 1 := Scalar.cmpi .slt arg17 c4_i32_1593
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1106 : BitVec 32 := 16#32
  let v864 : BitVec 32 := Scalar.addi v2 c16_i32_1106
  let c5_i32 : BitVec 32 := 5#32
  let v865 : BitVec 32 := Scalar.subi v864 c5_i32
  let c8_i32_1107 : BitVec 32 := 8#32
  let v866 : BitVec 32 := Scalar.remsi v865 c8_i32_1107
  let c5_i32_1108 : BitVec 32 := 5#32
  let v867 : BitVec 32 := Scalar.addi v2 c5_i32_1108
  let c8_i32_1109 : BitVec 32 := 8#32
  let v868 : BitVec 32 := Scalar.remsi v867 c8_i32_1109
  let v1269 : BitVec 32 := Scalar.select v1268 v866 v868
  let c8_i32_1594 : BitVec 32 := 8#32
  let v1270 : BitVec 32 := Scalar.muli v1269 c8_i32_1594
  let v1271 : BitVec 32 := Scalar.addi v1270 arg17
  let c0_i32_1600 : BitVec 32 := 0#32
  ![0, 0, v1271.toNat, 0]
def k0_off64 (k0_t6 : Fin k0_t6_loop.trips) : Fin 2 → Nat :=
  let c0_i32_1160 : BitVec 32 := 0#32
  let c1_i32_1162 : BitVec 32 := 1#32
  let arg17 : BitVec 32 := Scf.iv c0_i32_1160 c1_i32_1162 k0_t6
  let c2_i32_1587 : BitVec 32 := 2#32
  let v1261 : BitVec 32 := Scalar.remsi arg17 c2_i32_1587
  let c1_i32_1602 : BitVec 32 := 1#32
  ![v1261.toNat, 1]
def k0_off65 (k0_t6 : Fin k0_t6_loop.trips) : Fin 3 → Nat :=
  let c0_i32_1160 : BitVec 32 := 0#32
  let c1_i32_1162 : BitVec 32 := 1#32
  let arg17 : BitVec 32 := Scf.iv c0_i32_1160 c1_i32_1162 k0_t6
  let v1284 : Index := Scalar.indexCast arg17
  let c0_1607 : Index := 0#32
  let c0_1608 : Index := 0#32
  ![v1284.toNat, 0, 0]
def k0_off66 (k0_t6 : Fin k0_t6_loop.trips) : Fin 3 → Nat :=
  let c0_i32_1160 : BitVec 32 := 0#32
  let c1_i32_1162 : BitVec 32 := 1#32
  let arg17 : BitVec 32 := Scf.iv c0_i32_1160 c1_i32_1162 k0_t6
  let c2_i32_1587 : BitVec 32 := 2#32
  let v1261 : BitVec 32 := Scalar.remsi arg17 c2_i32_1587
  let v1287 : Index := Scalar.indexCast v1261
  let c0_1609 : Index := 0#32
  let c0_1610 : Index := 0#32
  ![v1287.toNat, 0, 0]
def k0_off67 (k0_t6 : Fin k0_t6_loop.trips) : Fin 3 → Nat :=
  let c1_1613 : Index := 1#32
  let c0_i32_1160 : BitVec 32 := 0#32
  let c1_i32_1162 : BitVec 32 := 1#32
  let arg17 : BitVec 32 := Scf.iv c0_i32_1160 c1_i32_1162 k0_t6
  let c128_i32 : BitVec 32 := 128#32
  let v1293 : BitVec 32 := Scalar.muli arg17 c128_i32
  let v1294 : Index := Scalar.indexCast v1293
  let c0_1614 : Index := 0#32
  ![1, v1294.toNat, 0]
def k0_dev37 (d0 : Dev nD) : Nat :=
  let c0_i32_1258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1257 : BitVec 32 := 1#32
  let v979 : BitVec 32 := Scalar.muli v5 c1_i32_1257
  let v980 : BitVec 32 := Scalar.addi c0_i32_1258 v979
  v980.toNat
def k0_dev38 (d0 : Dev nD) : Nat :=
  let c0_i32_1261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1260 : BitVec 32 := 1#32
  let v981 : BitVec 32 := Scalar.muli v7 c1_i32_1260
  let v982 : BitVec 32 := Scalar.addi c0_i32_1261 v981
  v982.toNat
def k0_dev39 (d0 : Dev nD) : Nat :=
  let c0_i32_1273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1272 : BitVec 32 := 1#32
  let v983 : BitVec 32 := Scalar.muli v7 c1_i32_1272
  let v984 : BitVec 32 := Scalar.addi c0_i32_1273 v983
  v984.toNat
def k0_dev40 (d0 : Dev nD) : Nat :=
  let c0_i32_1285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1284 : BitVec 32 := 1#32
  let v993 : BitVec 32 := Scalar.muli v7 c1_i32_1284
  let v994 : BitVec 32 := Scalar.addi c0_i32_1285 v993
  v994.toNat
def k0_dev41 (d0 : Dev nD) : Nat :=
  let c0_i32_1297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1296 : BitVec 32 := 1#32
  let v1003 : BitVec 32 := Scalar.muli v5 c1_i32_1296
  let v1004 : BitVec 32 := Scalar.addi c0_i32_1297 v1003
  v1004.toNat
def k0_dev42 (d0 : Dev nD) : Nat :=
  let c0_i32_1309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1308 : BitVec 32 := 1#32
  let v1013 : BitVec 32 := Scalar.muli v5 c1_i32_1308
  let v1014 : BitVec 32 := Scalar.addi c0_i32_1309 v1013
  v1014.toNat
@[reducible] def k0_t7_loop : Scf.Loop 32 :=
  let c0_i32_1368 : BitVec 32 := 0#32
  let c8_i32_1369 : BitVec 32 := 8#32
  let v1081 : BitVec 32 := Scalar.addi c0_i32_1368 c8_i32_1369
  let c1_i32_1370 : BitVec 32 := 1#32
  ⟨c0_i32_1368, v1081, c1_i32_1370⟩
def k0_cond7 (k0_t7 : Fin k0_t7_loop.trips) : BitVec 1 :=
  let c0_i32_1368 : BitVec 32 := 0#32
  let c1_i32_1370 : BitVec 32 := 1#32
  let arg17 : BitVec 32 := Scf.iv c0_i32_1368 c1_i32_1370 k0_t7
  let c1_i32_1590 : BitVec 32 := 1#32
  let v1264 : BitVec 32 := Scalar.addi arg17 c1_i32_1590
  let c8_i32_1591 : BitVec 32 := 8#32
  let v1265 : BitVec 1 := Scalar.cmpi .slt v1264 c8_i32_1591
  let v1266 : BitVec 32 := Scalar.extui v1265
  let c0_i32_1592 : BitVec 32 := 0#32
  let v1267 : BitVec 1 := Scalar.cmpi .ne v1266 c0_i32_1592
  v1267

def k0_off68 (k0_t7 : Fin k0_t7_loop.trips) : Fin 2 → Nat :=
  let c0_i32_1368 : BitVec 32 := 0#32
  let c1_i32_1370 : BitVec 32 := 1#32
  let arg17 : BitVec 32 := Scf.iv c0_i32_1368 c1_i32_1370 k0_t7
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1659 : BitVec 32 := 0#32
  ![v1263.toNat, 0]
def k0_off69 (k0_t7 : Fin k0_t7_loop.trips) : Fin 3 → Nat :=
  let c0_i32_1368 : BitVec 32 := 0#32
  let c1_i32_1370 : BitVec 32 := 1#32
  let arg17 : BitVec 32 := Scf.iv c0_i32_1368 c1_i32_1370 k0_t7
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1660 : BitVec 32 := 0#32
  let c0_i32_1661 : BitVec 32 := 0#32
  ![v1263.toNat, 0, 0]
def k0_off70 (d0 : Dev nD) (k0_t7 : Fin k0_t7_loop.trips) : Fin 4 → Nat :=
  let c0_i32_1658 : BitVec 32 := 0#32
  let c0_i32_1662 : BitVec 32 := 0#32
  let c0_i32_1368 : BitVec 32 := 0#32
  let c1_i32_1370 : BitVec 32 := 1#32
  let arg17 : BitVec 32 := Scf.iv c0_i32_1368 c1_i32_1370 k0_t7
  let c1_i32_1655 : BitVec 32 := 1#32
  let v1433 : BitVec 32 := Scalar.addi arg17 c1_i32_1655
  let c4_i32_1656 : BitVec 32 := 4#32
  let v1434 : BitVec 1 := Scalar.cmpi .slt v1433 c4_i32_1656
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1314 : BitVec 32 := 16#32
  let v1023 : BitVec 32 := Scalar.addi v2 c16_i32_1314
  let c6_i32 : BitVec 32 := 6#32
  let v1024 : BitVec 32 := Scalar.subi v1023 c6_i32
  let c8_i32_1315 : BitVec 32 := 8#32
  let v1025 : BitVec 32 := Scalar.remsi v1024 c8_i32_1315
  let c6_i32_1316 : BitVec 32 := 6#32
  let v1026 : BitVec 32 := Scalar.addi v2 c6_i32_1316
  let c8_i32_1317 : BitVec 32 := 8#32
  let v1027 : BitVec 32 := Scalar.remsi v1026 c8_i32_1317
  let v1435 : BitVec 32 := Scalar.select v1434 v1025 v1027
  let c8_i32_1657 : BitVec 32 := 8#32
  let v1436 : BitVec 32 := Scalar.muli v1435 c8_i32_1657
  let v1437 : BitVec 32 := Scalar.addi v1436 v1433
  let c0_i32_1663 : BitVec 32 := 0#32
  ![0, 0, v1437.toNat, 0]
def k0_off71 (k0_t7 : Fin k0_t7_loop.trips) : Fin 2 → Nat :=
  let c0_i32_1368 : BitVec 32 := 0#32
  let c1_i32_1370 : BitVec 32 := 1#32
  let arg17 : BitVec 32 := Scf.iv c0_i32_1368 c1_i32_1370 k0_t7
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c1_i32_1665 : BitVec 32 := 1#32
  ![v1263.toNat, 1]
def k0_off72 (k0_t7 : Fin k0_t7_loop.trips) : Fin 2 → Nat :=
  let c0_i32_1368 : BitVec 32 := 0#32
  let c1_i32_1370 : BitVec 32 := 1#32
  let arg17 : BitVec 32 := Scf.iv c0_i32_1368 c1_i32_1370 k0_t7
  let c2_i32_1587 : BitVec 32 := 2#32
  let v1261 : BitVec 32 := Scalar.remsi arg17 c2_i32_1587
  let c0_i32_1596 : BitVec 32 := 0#32
  ![v1261.toNat, 0]
def k0_off73 (k0_t7 : Fin k0_t7_loop.trips) : Fin 3 → Nat :=
  let c0_i32_1368 : BitVec 32 := 0#32
  let c1_i32_1370 : BitVec 32 := 1#32
  let arg17 : BitVec 32 := Scf.iv c0_i32_1368 c1_i32_1370 k0_t7
  let c2_i32_1587 : BitVec 32 := 2#32
  let v1261 : BitVec 32 := Scalar.remsi arg17 c2_i32_1587
  let c0_i32_1597 : BitVec 32 := 0#32
  let c0_i32_1598 : BitVec 32 := 0#32
  ![v1261.toNat, 0, 0]
def k0_off74 (d0 : Dev nD) (k0_t7 : Fin k0_t7_loop.trips) : Fin 4 → Nat :=
  let c0_i32_1595 : BitVec 32 := 0#32
  let c0_i32_1599 : BitVec 32 := 0#32
  let c0_i32_1368 : BitVec 32 := 0#32
  let c1_i32_1370 : BitVec 32 := 1#32
  let arg17 : BitVec 32 := Scf.iv c0_i32_1368 c1_i32_1370 k0_t7
  let c4_i32_1593 : BitVec 32 := 4#32
  let v1268 : BitVec 1 := Scalar.cmpi .slt arg17 c4_i32_1593
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1314 : BitVec 32 := 16#32
  let v1023 : BitVec 32 := Scalar.addi v2 c16_i32_1314
  let c6_i32 : BitVec 32 := 6#32
  let v1024 : BitVec 32 := Scalar.subi v1023 c6_i32
  let c8_i32_1315 : BitVec 32 := 8#32
  let v1025 : BitVec 32 := Scalar.remsi v1024 c8_i32_1315
  let c6_i32_1316 : BitVec 32 := 6#32
  let v1026 : BitVec 32 := Scalar.addi v2 c6_i32_1316
  let c8_i32_1317 : BitVec 32 := 8#32
  let v1027 : BitVec 32 := Scalar.remsi v1026 c8_i32_1317
  let v1269 : BitVec 32 := Scalar.select v1268 v1025 v1027
  let c8_i32_1594 : BitVec 32 := 8#32
  let v1270 : BitVec 32 := Scalar.muli v1269 c8_i32_1594
  let v1271 : BitVec 32 := Scalar.addi v1270 arg17
  let c0_i32_1600 : BitVec 32 := 0#32
  ![0, 0, v1271.toNat, 0]
def k0_off75 (k0_t7 : Fin k0_t7_loop.trips) : Fin 2 → Nat :=
  let c0_i32_1368 : BitVec 32 := 0#32
  let c1_i32_1370 : BitVec 32 := 1#32
  let arg17 : BitVec 32 := Scf.iv c0_i32_1368 c1_i32_1370 k0_t7
  let c2_i32_1587 : BitVec 32 := 2#32
  let v1261 : BitVec 32 := Scalar.remsi arg17 c2_i32_1587
  let c1_i32_1602 : BitVec 32 := 1#32
  ![v1261.toNat, 1]
def k0_off76 (k0_t7 : Fin k0_t7_loop.trips) : Fin 3 → Nat :=
  let c0_i32_1368 : BitVec 32 := 0#32
  let c1_i32_1370 : BitVec 32 := 1#32
  let arg17 : BitVec 32 := Scf.iv c0_i32_1368 c1_i32_1370 k0_t7
  let v1284 : Index := Scalar.indexCast arg17
  let c0_1607 : Index := 0#32
  let c0_1608 : Index := 0#32
  ![v1284.toNat, 0, 0]
def k0_off77 (k0_t7 : Fin k0_t7_loop.trips) : Fin 3 → Nat :=
  let c0_i32_1368 : BitVec 32 := 0#32
  let c1_i32_1370 : BitVec 32 := 1#32
  let arg17 : BitVec 32 := Scf.iv c0_i32_1368 c1_i32_1370 k0_t7
  let c2_i32_1587 : BitVec 32 := 2#32
  let v1261 : BitVec 32 := Scalar.remsi arg17 c2_i32_1587
  let v1287 : Index := Scalar.indexCast v1261
  let c0_1609 : Index := 0#32
  let c0_1610 : Index := 0#32
  ![v1287.toNat, 0, 0]
def k0_off78 (k0_t7 : Fin k0_t7_loop.trips) : Fin 3 → Nat :=
  let c0_1613 : Index := 0#32
  let c0_i32_1368 : BitVec 32 := 0#32
  let c1_i32_1370 : BitVec 32 := 1#32
  let arg17 : BitVec 32 := Scf.iv c0_i32_1368 c1_i32_1370 k0_t7
  let c128_i32 : BitVec 32 := 128#32
  let v1293 : BitVec 32 := Scalar.muli arg17 c128_i32
  let v1294 : Index := Scalar.indexCast v1293
  let c0_1614 : Index := 0#32
  ![0, v1294.toNat, 0]
@[reducible] def k0_t8_loop : Scf.Loop 32 :=
  let c0_i32_1518 : BitVec 32 := 0#32
  let c8_i32_1519 : BitVec 32 := 8#32
  let v1196 : BitVec 32 := Scalar.addi c0_i32_1518 c8_i32_1519
  let c1_i32_1520 : BitVec 32 := 1#32
  ⟨c0_i32_1518, v1196, c1_i32_1520⟩
def k0_cond8 (k0_t8 : Fin k0_t8_loop.trips) : BitVec 1 :=
  let c0_i32_1518 : BitVec 32 := 0#32
  let c1_i32_1520 : BitVec 32 := 1#32
  let arg17 : BitVec 32 := Scf.iv c0_i32_1518 c1_i32_1520 k0_t8
  let c1_i32_1590 : BitVec 32 := 1#32
  let v1264 : BitVec 32 := Scalar.addi arg17 c1_i32_1590
  let c8_i32_1591 : BitVec 32 := 8#32
  let v1265 : BitVec 1 := Scalar.cmpi .slt v1264 c8_i32_1591
  let v1266 : BitVec 32 := Scalar.extui v1265
  let c0_i32_1592 : BitVec 32 := 0#32
  let v1267 : BitVec 1 := Scalar.cmpi .ne v1266 c0_i32_1592
  v1267

def k0_off79 (k0_t8 : Fin k0_t8_loop.trips) : Fin 2 → Nat :=
  let c0_i32_1518 : BitVec 32 := 0#32
  let c1_i32_1520 : BitVec 32 := 1#32
  let arg17 : BitVec 32 := Scf.iv c0_i32_1518 c1_i32_1520 k0_t8
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1659 : BitVec 32 := 0#32
  ![v1263.toNat, 0]
def k0_off80 (k0_t8 : Fin k0_t8_loop.trips) : Fin 3 → Nat :=
  let c0_i32_1518 : BitVec 32 := 0#32
  let c1_i32_1520 : BitVec 32 := 1#32
  let arg17 : BitVec 32 := Scf.iv c0_i32_1518 c1_i32_1520 k0_t8
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c0_i32_1660 : BitVec 32 := 0#32
  let c0_i32_1661 : BitVec 32 := 0#32
  ![v1263.toNat, 0, 0]
def k0_off81 (d0 : Dev nD) (k0_t8 : Fin k0_t8_loop.trips) : Fin 4 → Nat :=
  let c0_i32_1658 : BitVec 32 := 0#32
  let c0_i32_1662 : BitVec 32 := 0#32
  let c0_i32_1518 : BitVec 32 := 0#32
  let c1_i32_1520 : BitVec 32 := 1#32
  let arg17 : BitVec 32 := Scf.iv c0_i32_1518 c1_i32_1520 k0_t8
  let c1_i32_1655 : BitVec 32 := 1#32
  let v1433 : BitVec 32 := Scalar.addi arg17 c1_i32_1655
  let c4_i32_1656 : BitVec 32 := 4#32
  let v1434 : BitVec 1 := Scalar.cmpi .slt v1433 c4_i32_1656
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1464 : BitVec 32 := 16#32
  let v1138 : BitVec 32 := Scalar.addi v2 c16_i32_1464
  let c7_i32 : BitVec 32 := 7#32
  let v1139 : BitVec 32 := Scalar.subi v1138 c7_i32
  let c8_i32_1465 : BitVec 32 := 8#32
  let v1140 : BitVec 32 := Scalar.remsi v1139 c8_i32_1465
  let c7_i32_1466 : BitVec 32 := 7#32
  let v1141 : BitVec 32 := Scalar.addi v2 c7_i32_1466
  let c8_i32_1467 : BitVec 32 := 8#32
  let v1142 : BitVec 32 := Scalar.remsi v1141 c8_i32_1467
  let v1435 : BitVec 32 := Scalar.select v1434 v1140 v1142
  let c8_i32_1657 : BitVec 32 := 8#32
  let v1436 : BitVec 32 := Scalar.muli v1435 c8_i32_1657
  let v1437 : BitVec 32 := Scalar.addi v1436 v1433
  let c0_i32_1663 : BitVec 32 := 0#32
  ![0, 0, v1437.toNat, 0]
def k0_off82 (k0_t8 : Fin k0_t8_loop.trips) : Fin 2 → Nat :=
  let c0_i32_1518 : BitVec 32 := 0#32
  let c1_i32_1520 : BitVec 32 := 1#32
  let arg17 : BitVec 32 := Scf.iv c0_i32_1518 c1_i32_1520 k0_t8
  let c1_i32_1588 : BitVec 32 := 1#32
  let v1262 : BitVec 32 := Scalar.addi arg17 c1_i32_1588
  let c2_i32_1589 : BitVec 32 := 2#32
  let v1263 : BitVec 32 := Scalar.remsi v1262 c2_i32_1589
  let c1_i32_1665 : BitVec 32 := 1#32
  ![v1263.toNat, 1]
def k0_off83 (k0_t8 : Fin k0_t8_loop.trips) : Fin 2 → Nat :=
  let c0_i32_1518 : BitVec 32 := 0#32
  let c1_i32_1520 : BitVec 32 := 1#32
  let arg17 : BitVec 32 := Scf.iv c0_i32_1518 c1_i32_1520 k0_t8
  let c2_i32_1587 : BitVec 32 := 2#32
  let v1261 : BitVec 32 := Scalar.remsi arg17 c2_i32_1587
  let c0_i32_1596 : BitVec 32 := 0#32
  ![v1261.toNat, 0]
def k0_off84 (k0_t8 : Fin k0_t8_loop.trips) : Fin 3 → Nat :=
  let c0_i32_1518 : BitVec 32 := 0#32
  let c1_i32_1520 : BitVec 32 := 1#32
  let arg17 : BitVec 32 := Scf.iv c0_i32_1518 c1_i32_1520 k0_t8
  let c2_i32_1587 : BitVec 32 := 2#32
  let v1261 : BitVec 32 := Scalar.remsi arg17 c2_i32_1587
  let c0_i32_1597 : BitVec 32 := 0#32
  let c0_i32_1598 : BitVec 32 := 0#32
  ![v1261.toNat, 0, 0]
def k0_off85 (d0 : Dev nD) (k0_t8 : Fin k0_t8_loop.trips) : Fin 4 → Nat :=
  let c0_i32_1595 : BitVec 32 := 0#32
  let c0_i32_1599 : BitVec 32 := 0#32
  let c0_i32_1518 : BitVec 32 := 0#32
  let c1_i32_1520 : BitVec 32 := 1#32
  let arg17 : BitVec 32 := Scf.iv c0_i32_1518 c1_i32_1520 k0_t8
  let c4_i32_1593 : BitVec 32 := 4#32
  let v1268 : BitVec 1 := Scalar.cmpi .slt arg17 c4_i32_1593
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1464 : BitVec 32 := 16#32
  let v1138 : BitVec 32 := Scalar.addi v2 c16_i32_1464
  let c7_i32 : BitVec 32 := 7#32
  let v1139 : BitVec 32 := Scalar.subi v1138 c7_i32
  let c8_i32_1465 : BitVec 32 := 8#32
  let v1140 : BitVec 32 := Scalar.remsi v1139 c8_i32_1465
  let c7_i32_1466 : BitVec 32 := 7#32
  let v1141 : BitVec 32 := Scalar.addi v2 c7_i32_1466
  let c8_i32_1467 : BitVec 32 := 8#32
  let v1142 : BitVec 32 := Scalar.remsi v1141 c8_i32_1467
  let v1269 : BitVec 32 := Scalar.select v1268 v1140 v1142
  let c8_i32_1594 : BitVec 32 := 8#32
  let v1270 : BitVec 32 := Scalar.muli v1269 c8_i32_1594
  let v1271 : BitVec 32 := Scalar.addi v1270 arg17
  let c0_i32_1600 : BitVec 32 := 0#32
  ![0, 0, v1271.toNat, 0]
def k0_off86 (k0_t8 : Fin k0_t8_loop.trips) : Fin 2 → Nat :=
  let c0_i32_1518 : BitVec 32 := 0#32
  let c1_i32_1520 : BitVec 32 := 1#32
  let arg17 : BitVec 32 := Scf.iv c0_i32_1518 c1_i32_1520 k0_t8
  let c2_i32_1587 : BitVec 32 := 2#32
  let v1261 : BitVec 32 := Scalar.remsi arg17 c2_i32_1587
  let c1_i32_1602 : BitVec 32 := 1#32
  ![v1261.toNat, 1]
def k0_off87 (k0_t8 : Fin k0_t8_loop.trips) : Fin 3 → Nat :=
  let c0_i32_1518 : BitVec 32 := 0#32
  let c1_i32_1520 : BitVec 32 := 1#32
  let arg17 : BitVec 32 := Scf.iv c0_i32_1518 c1_i32_1520 k0_t8
  let v1284 : Index := Scalar.indexCast arg17
  let c0_1607 : Index := 0#32
  let c0_1608 : Index := 0#32
  ![v1284.toNat, 0, 0]
def k0_off88 (k0_t8 : Fin k0_t8_loop.trips) : Fin 3 → Nat :=
  let c0_i32_1518 : BitVec 32 := 0#32
  let c1_i32_1520 : BitVec 32 := 1#32
  let arg17 : BitVec 32 := Scf.iv c0_i32_1518 c1_i32_1520 k0_t8
  let c2_i32_1587 : BitVec 32 := 2#32
  let v1261 : BitVec 32 := Scalar.remsi arg17 c2_i32_1587
  let v1287 : Index := Scalar.indexCast v1261
  let c0_1609 : Index := 0#32
  let c0_1610 : Index := 0#32
  ![v1287.toNat, 0, 0]
def k0_off89 (k0_t8 : Fin k0_t8_loop.trips) : Fin 3 → Nat :=
  let c1_1613 : Index := 1#32
  let c0_i32_1518 : BitVec 32 := 0#32
  let c1_i32_1520 : BitVec 32 := 1#32
  let arg17 : BitVec 32 := Scf.iv c0_i32_1518 c1_i32_1520 k0_t8
  let c128_i32 : BitVec 32 := 128#32
  let v1293 : BitVec 32 := Scalar.muli arg17 c128_i32
  let v1294 : Index := Scalar.indexCast v1293
  let c0_1614 : Index := 0#32
  ![1, v1294.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x8192x1024 : Shape := ⟨3, ![1, 8192, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x8192x8192 : Shape := ⟨3, ![1, 8192, 8192]⟩
abbrev S1x8192x64x128 : Shape := ⟨4, ![1, 8192, 64, 128]⟩
abbrev S8192 : Shape := ⟨1, ![8192]⟩
abbrev S_ : Shape := ⟨0, ![]⟩
abbrev S8192x1 : Shape := ⟨2, ![8192, 1]⟩
abbrev S1024 : Shape := ⟨1, ![1024]⟩
abbrev S1x1024 : Shape := ⟨2, ![1, 1024]⟩
abbrev S1x64x8192x1024 : Shape := ⟨4, ![1, 64, 8192, 1024]⟩
abbrev S1x1x8192x1024 : Shape := ⟨4, ![1, 1, 8192, 1024]⟩
abbrev S1x64x8192 : Shape := ⟨3, ![1, 64, 8192]⟩
abbrev S1x64x8192x1 : Shape := ⟨4, ![1, 64, 8192, 1]⟩
abbrev S1x1x8192x1 : Shape := ⟨4, ![1, 1, 8192, 1]⟩
abbrev S1x64x128x8192 : Shape := ⟨4, ![1, 64, 128, 8192]⟩

abbrev nBuf : Space → Nat
  | .hbm => 137
  | .vmem => 0
  | .smem => 0
  | _ => 0

abbrev hbmTy0_0 (i : Nat) : BufTy := match i % 128 with
  | 0 => ⟨S1x8192x1024, .f32⟩
  | 1 => ⟨S1024x8192, .f32⟩
  | 2 => ⟨S1x1024x64x128, .f32⟩
  | 3 => ⟨S1x1024x64x128, .f32⟩
  | 4 => ⟨S8192x1024, .f32⟩
  | 5 => ⟨S1x8192x8192, .f32⟩
  | 6 => ⟨S1x8192x64x128, .f32⟩
  | 7 => ⟨S8192, .i32⟩
  | 8 => ⟨S_, .i32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i1⟩
  | 16 => ⟨S8192, .i32⟩
  | 17 => ⟨S8192, .i32⟩
  | 18 => ⟨S_, .i32⟩
  | 19 => ⟨S8192, .i32⟩
  | 20 => ⟨S8192, .i1⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S8192x1024, .i32⟩
  | 48 => ⟨S8192x1024, .i32⟩
  | 49 => ⟨S8192x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8192x1, .i32⟩
  | 79 => ⟨S8192x1, .i32⟩
  | 80 => ⟨S_, .i32⟩
  | 81 => ⟨S8192x1, .i32⟩
  | 82 => ⟨S8192x1, .i1⟩
  | 83 => ⟨S_, .i32⟩
  | 84 => ⟨S8192x1, .i32⟩
  | 85 => ⟨S8192x1, .i1⟩
  | 86 => ⟨S_, .i32⟩
  | 87 => ⟨S_, .i1⟩
  | 88 => ⟨S8192x1, .i1⟩
  | 89 => ⟨S8192x1, .i1⟩
  | 90 => ⟨S8192x1, .i1⟩
  | 91 => ⟨S8192x1, .i32⟩
  | 92 => ⟨S8192x1, .i32⟩
  | 93 => ⟨S8192x1, .i32⟩
  | 94 => ⟨S8192x1024, .i32⟩
  | 95 => ⟨S8192x1024, .i32⟩
  | 96 => ⟨S8192x1024, .i1⟩
  | 97 => ⟨S8192x1024, .i1⟩
  | 98 => ⟨S1x64x8192x1024, .f32⟩
  | 99 => ⟨S_, .f32⟩
  | 100 => ⟨S1x64x8192x1024, .f32⟩
  | 101 => ⟨S1x64x8192x1024, .f32⟩
  | 102 => ⟨S1x1x8192x1024, .i1⟩
  | 103 => ⟨S_, .f32⟩
  | 104 => ⟨S_, .f32⟩
  | 105 => ⟨S1x64x8192x1024, .i1⟩
  | 106 => ⟨S1x64x8192x1024, .f32⟩
  | 107 => ⟨S1x64x8192x1024, .f32⟩
  | 108 => ⟨S_, .f32⟩
  | 109 => ⟨S1x64x8192, .f32⟩
  | 110 => ⟨S1x64x8192x1, .f32⟩
  | 111 => ⟨S1x64x8192x1024, .f32⟩
  | 112 => ⟨S1x64x8192x1024, .f32⟩
  | 113 => ⟨S1x64x8192x1024, .f32⟩
  | 114 => ⟨S_, .i1⟩
  | 115 => ⟨S8192, .i1⟩
  | 116 => ⟨S1x1x8192x1, .i1⟩
  | 117 => ⟨S_, .f32⟩
  | 118 => ⟨S1x64x8192, .f32⟩
  | 119 => ⟨S1x64x8192x1, .f32⟩
  | 120 => ⟨S_, .f32⟩
  | 121 => ⟨S_, .f32⟩
  | 122 => ⟨S1x64x8192x1, .i1⟩
  | 123 => ⟨S1x64x8192x1, .f32⟩
  | 124 => ⟨S1x64x8192x1, .f32⟩
  | 125 => ⟨S1x64x8192x1024, .f32⟩
  | 126 => ⟨S1x64x8192x1024, .f32⟩
  | 127 => ⟨S1x1x8192x1, .i1⟩
  | _ => ⟨S1x8192x1024, .f32⟩

abbrev hbmTy0_1 (i : Nat) : BufTy := match i % 128 with
  | 0 => ⟨S_, .f32⟩
  | 1 => ⟨S_, .f32⟩
  | 2 => ⟨S1x64x8192x1024, .i1⟩
  | 3 => ⟨S1x64x8192x1024, .f32⟩
  | 4 => ⟨S1x64x8192x1024, .f32⟩
  | 5 => ⟨S1x64x128x8192, .f32⟩
  | 6 => ⟨S1x8192x64x128, .f32⟩
  | 7 => ⟨S1x8192x8192, .f32⟩
  | 8 => ⟨S1x8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.KernelIdeal.Ops.lean ====
module

public import proofs.«01_k».proof.Proof.Gen.KernelIdeal.Skeleton

/-!
# The kernel's body as a chain of named pieces

The printed body is cut every sixty statements. Here the same program is cut where the algorithm
is: the hand-shake, the sends of a hop, the waits for a hop, the credits of a step, the computation
of a step (whose loop over eight heads is one trip program) and the final un-permutation of the row
groups. Each piece takes the rest of the program, so a rule about a piece is stated once and used at
every step.
-/

@[expose] public section

set_option synthInstance.maxSize 4096

noncomputable section

namespace Cert.KernelIdeal.Attn

open Idealize.ShloMosaic Idealize.SL.Sem Cert.KernelIdeal Cert.KernelIdeal.Gen

variable {F : FTy → Type} [FloatOps F]

/-- The kernel's programs. -/
abbrev KProg (F : FTy → Type) [FloatOps F] := Prog (TpuEff nD τ sig (Elt F) Λ₀ .tc) PUnit

/-! ## Views -/

theorem inb_laneW : ∀ (σ hi : Fin 2), ∀ a,
    (![σ.val, 0, 512 * hi.val] : Fin 3 → ℕ) a + S1x1024x512.size a ≤ S2x1024x1024.size a := by
  decide +kernel

theorem inb_laneO : ∀ (σ hi : Fin 2), ∀ a,
    (![σ.val, 512 * hi.val, 0] : Fin 3 → ℕ) a + S1x512x1024.size a ≤ S2x1024x1024.size a := by
  decide +kernel

theorem inb_slot : ∀ (σ : Fin 2), ∀ a,
    (![σ.val, 0, 0] : Fin 3 → ℕ) a + S1x1024x1024.size a ≤ S2x1024x1024.size a := by
  decide +kernel

theorem inb_semRow : ∀ (hi kd σ : Fin 2), ∀ a,
    (![2 * hi.val + kd.val, σ.val] : Fin 2 → ℕ) a + S1x1.size a ≤ S4x2.size a := by
  decide +kernel

/-- A column half of the query weights held in a slot. -/
def laneW (σ hi : Fin 2) : Memref sig .tc .vmem S1024x512 .f32 :=
  ((Memref.whole cc0_scratch0).slice
    (Rect.unit (s := S2x1024x1024) ![σ.val, 0, 512 * hi.val] S1x1024x512.size (inb_laneW σ hi))
    (fun _ => rfl)).squeeze S1024x512 squeezes_S1x1024x512_S1024x512

/-- A row half of the output weights held in a slot. -/
def laneO (σ hi : Fin 2) : Memref sig .tc .vmem S512x1024 .f32 :=
  ((Memref.whole cc0_scratch1).slice
    (Rect.unit (s := S2x1024x1024) ![σ.val, 512 * hi.val, 0] S1x512x1024.size (inb_laneO σ hi))
    (fun _ => rfl)).squeeze S512x1024 squeezes_S1x512x1024_S512x1024

/-- The departure semaphore of a lane (direction `hi`, kind `kd`) leaving slot `σ`. -/
def sendSem (hi kd σ : Fin 2) : DmaSem sig :=
  ((cc0_scratch6.slice (Rect.unit (s := S4x2) ![2 * hi.val + kd.val, σ.val] S1x1.size
    (inb_semRow hi kd σ))).squeeze S_ squeezes_S1x1_S_).sem

/-- The arrival semaphore of a lane arriving in slot `σ`. -/
def recvSem (hi kd σ : Fin 2) : DmaSem sig :=
  ((cc0_scratch7.slice (Rect.unit (s := S4x2) ![2 * hi.val + kd.val, σ.val] S1x1.size
    (inb_semRow hi kd σ))).squeeze S_ squeezes_S1x1_S_).sem

/-- The semaphore of a head's load, at a row of the table. -/
def kvSem (o : Fin 2 → ℕ) (h : ∀ a, o a + S1x1.size a ≤ S2x2.size a) : DmaSem sig :=
  ((cc0_scratch8.slice (Rect.unit (s := S2x2) o S1x1.size h)).squeeze S_ squeezes_S1x1_S_).sem

/-- The landing buffer of a key head. -/
def kBuf (o : Fin 3 → ℕ) (h : ∀ a, o a + S1x1024x128.size a ≤ S2x1024x128.size a) :
    Memref sig .tc .vmem S1024x128 .f32 :=
  ((Memref.whole cc0_scratch3).slice (Rect.unit (s := S2x1024x128) o S1x1024x128.size h)
    (fun _ => rfl)).squeeze S1024x128 squeezes_S1x1024x128_S1024x128

/-- The landing buffer of a value head. -/
def vBuf (o : Fin 3 → ℕ) (h : ∀ a, o a + S1x1024x128.size a ≤ S2x1024x128.size a) :
    Memref sig .tc .vmem S1024x128 .f32 :=
  ((Memref.whole cc0_scratch4).slice (Rect.unit (s := S2x1024x128) o S1x1024x128.size h)
    (fun _ => rfl)).squeeze S1024x128 squeezes_S1x1024x128_S1024x128

/-- A head of the keys in main memory. -/
def kSrc (o : Fin 4 → ℕ) (h : ∀ a, o a + S1x1024x1x128.size a ≤ S1x1024x64x128.size a) :
    Memref sig .tc .hbm S1024x128 .f32 :=
  ((Memref.whole main_arg2).slice (Rect.unit (s := S1x1024x64x128) o S1x1024x1x128.size h)
    (fun _ => rfl)).squeeze S1024x128 squeezes_S1x1024x1x128_S1024x128

/-- A head of the values in main memory. -/
def vSrc (o : Fin 4 → ℕ) (h : ∀ a, o a + S1x1024x1x128.size a ≤ S1x1024x64x128.size a) :
    Memref sig .tc .hbm S1024x128 .f32 :=
  ((Memref.whole main_arg3).slice (Rect.unit (s := S1x1024x64x128) o S1x1024x1x128.size h)
    (fun _ => rfl)).squeeze S1024x128 squeezes_S1x1024x1x128_S1024x128

/-- The slot a hop or a step uses. -/
def slot (h : ℕ) : Fin 2 := ⟨h % 2, Nat.mod_lt _ (by decide)⟩

/-! ## Operations of the ring -/

/-- Send a half of the query weights from the slot of hop `h - 1` into the slot of hop `h`. -/
def sendW (hi : Fin 2) (h : ℕ) (n : Dev nD) (K : KProg F) : KProg F :=
  .op (.enqueueDma (laneW (slot (h + 1)) hi)
    (.remote (Dev.tc n) (laneW (slot h) hi) (.dma (sendSem hi 0 (slot (h + 1)))))
    (.dma (recvSem hi 0 (slot h)))
    ((View.wordExact_bits rfl).reshape _ _) ((View.wordExact_bits rfl).reshape _ _)
    ⟨⟨rfl, Or.inl rfl⟩, trivial⟩) fun _ => K

/-- Send a half of the output weights likewise. -/
def sendO (hi : Fin 2) (h : ℕ) (n : Dev nD) (K : KProg F) : KProg F :=
  .op (.enqueueDma (laneO (slot (h + 1)) hi)
    (.remote (Dev.tc n) (laneO (slot h) hi) (.dma (sendSem hi 1 (slot (h + 1)))))
    (.dma (recvSem hi 1 (slot h)))
    ((View.wordExact_bits rfl).reshape _ _) ((View.wordExact_bits rfl).reshape _ _)
    ⟨⟨rfl, Or.inl rfl⟩, trivial⟩) fun _ => K

/-- Wait until the half of the query weights sent in hop `h` has left, and the one of the same hop
    has arrived. -/
def waitW (hi : Fin 2) (h : ℕ) (K : KProg F) : KProg F :=
  .op (.waitDma2 (sendSem hi 0 (slot (h + 1))) (laneW (slot h) hi) (laneW (slot (h + 1)) hi)
    ((View.wordExact_bits rfl).reshape _ _) ((View.wordExact_bits rfl).reshape _ _)) fun _ =>
  .op (.waitDma2 (recvSem hi 0 (slot h)) (laneW (slot (h + 1)) hi) (laneW (slot h) hi)
    ((View.wordExact_bits rfl).reshape _ _) ((View.wordExact_bits rfl).reshape _ _)) fun _ => K

/-- The same for the output weights. -/
def waitO (hi : Fin 2) (h : ℕ) (K : KProg F) : KProg F :=
  .op (.waitDma2 (sendSem hi 1 (slot (h + 1))) (laneO (slot h) hi) (laneO (slot (h + 1)) hi)
    ((View.wordExact_bits rfl).reshape _ _) ((View.wordExact_bits rfl).reshape _ _)) fun _ =>
  .op (.waitDma2 (recvSem hi 1 (slot h)) (laneO (slot (h + 1)) hi) (laneO (slot h) hi)
    ((View.wordExact_bits rfl).reshape _ _) ((View.wordExact_bits rfl).reshape _ _)) fun _ => K

/-- The four sends of a hop. -/
def sends (h : ℕ) (n₀ n₁ n₂ n₃ : Dev nD) (K : KProg F) : KProg F :=
  sendW 0 h n₀ (sendO 0 h n₁ (sendW 1 h n₂ (sendO 1 h n₃ K)))

/-- The waits for a hop. -/
def waits (h : ℕ) (K : KProg F) : KProg F :=
  waitW 0 h (waitO 0 h (waitW 1 h (waitO 1 h K)))

/-- The credits of a step: free the neighbours' slots, then wait for one's own. -/
def credits (n₀ n₁ : Dev nD) (K : KProg F) : KProg F :=
  .op (.semSignal (Dev.tc n₀) cc0_scratch9.sem (1#32 : BitVec 32).toInt) fun _ =>
  .op (.semSignal (Dev.tc n₁) cc0_scratch10.sem (1#32 : BitVec 32).toInt) fun _ =>
  .op (.semWait cc0_scratch9.sem (1#32 : BitVec 32).toInt) fun _ =>
  .op (.semWait cc0_scratch10.sem (1#32 : BitVec 32).toInt) fun _ => K

/-! ## Local operations -/

/-- Start the load of a head's keys and values. -/
def startKV (oK oV : Fin 2 → ℕ) (hK : ∀ a, oK a + S1x1.size a ≤ S2x2.size a)
    (hV : ∀ a, oV a + S1x1.size a ≤ S2x2.size a)
    (oB : Fin 3 → ℕ) (hB : ∀ a, oB a + S1x1024x128.size a ≤ S2x1024x128.size a)
    (oS : Fin 4 → ℕ) (hS : ∀ a, oS a + S1x1024x1x128.size a ≤ S1x1024x64x128.size a)
    (K : KProg F) : KProg F :=
  .op (.enqueueDma (kSrc oS hS) (.here (kBuf oB hB)) (.dma (kvSem oK hK))
    ((View.wordExact_bits rfl).reshape _ _) ((View.wordExact_bits rfl).reshape _ _)
    ⟨Or.inl rfl, trivial⟩) fun _ =>
  .op (.enqueueDma (vSrc oS hS) (.here (vBuf oB hB)) (.dma (kvSem oV hV))
    ((View.wordExact_bits rfl).reshape _ _) ((View.wordExact_bits rfl).reshape _ _)
    ⟨Or.inl rfl, trivial⟩) fun _ => K

/-- Wait for a head's keys and values. -/
def waitKV (oK oV : Fin 2 → ℕ) (hK : ∀ a, oK a + S1x1.size a ≤ S2x2.size a)
    (hV : ∀ a, oV a + S1x1.size a ≤ S2x2.size a)
    (oB : Fin 3 → ℕ) (hB : ∀ a, oB a + S1x1024x128.size a ≤ S2x1024x128.size a)
    (oS : Fin 4 → ℕ) (hS : ∀ a, oS a + S1x1024x1x128.size a ≤ S1x1024x64x128.size a)
    (K : KProg F) : KProg F :=
  .op (.waitDma2 (kvSem oK hK) (kSrc oS hS) (kBuf oB hB)
    ((View.wordExact_bits rfl).reshape _ _) ((View.wordExact_bits rfl).reshape _ _)) fun _ =>
  .op (.waitDma2 (kvSem oV hV) (vSrc oS hS) (vBuf oB hB)
    ((View.wordExact_bits rfl).reshape _ _) ((View.wordExact_bits rfl).reshape _ _)) fun _ => K

theorem inb_group : ∀ (r : Fin 4), ∀ a,
    (![256 * r.val, 0] : Fin 2 → ℕ) a + S256x1024.size a ≤ S1024x1024.size a := by
  decide +kernel

/-- Add to a row group of the accumulator. -/
def accum (r : Fin 4) (p : Vec F S256x1024 .f32 → FVec F S256x1024 .f32) (K : KProg F) : KProg F :=
  .op (.load (Memref.whole cc0_scratch5) (Rect.unit (s := S1024x1024) ![256 * r.val, 0]
    S256x1024.size (inb_group r)).toLoadRect (View.loadsAt_vmem h_S256x1024)) fun g =>
  .op (.load (Memref.whole cc0_scratch5) (Rect.unit (s := S1024x1024) ![256 * r.val, 0]
    S256x1024.size (inb_group r)).toLoadRect (View.loadsAt_vmem h_S256x1024)) fun _ =>
  .op (.store (Memref.whole cc0_scratch5) (Rect.unit (s := S1024x1024) ![256 * r.val, 0]
    S256x1024.size (inb_group r)) (p g) Finset.univ (View.stores_vmem_bits_univ h_S256x1024 rfl)
    (.inl rfl)) fun _ => K

/-- What one head adds to a row group, from the head's queries, keys, values and output weights. -/
def rowPay (r : Fin 4) (q k v : Vec F S1x1024x128 .f32) (w : Vec F S1x128x1024 .f32)
    (g : Vec F S256x1024 .f32) : FVec F S256x1024 .f32 :=
  match r with
  | 0 => k0_pay9 (k0_pay5 q) (k0_pay6 k) v w g
  | 1 => k0_pay12 (k0_pay6 k) (k0_pay7 v) (k0_pay8 w) (k0_pay10 (k0_pay5 q)) (k0_pay11 (k0_pay6 k)) g
  | 2 => k0_pay15 (k0_pay8 w) (k0_pay13 (k0_pay7 v)) (k0_pay14 (k0_pay5 q) (k0_pay6 k)) g
  | 3 => k0_pay116 (k0_pay16 (k0_pay5 q) (k0_pay6 k) (k0_pay7 v) (k0_pay8 w)) g

/-- The arithmetic of one head: read its queries, keys, values and output weights, and add to the
    four row groups. -/
def headProg (oQ oB oW : Fin 3 → ℕ)
    (hQ : ∀ a, oQ a + S1x1024x128.size a ≤ S8x1024x128.size a)
    (hB : ∀ a, oB a + S1x1024x128.size a ≤ S2x1024x128.size a)
    (hW : ∀ a, oW a + S1x128x1024.size a ≤ S2x1024x1024.size a) (K : KProg F) : KProg F :=
  .op (.load (Memref.whole cc0_scratch2) (Rect.unit (s := S8x1024x128) oQ
    S1x1024x128.size hQ).toLoadRect (View.loadsAt_vmem h_S1x1024x128)) fun q =>
  .op (.load (Memref.whole cc0_scratch3) (Rect.unit (s := S2x1024x128) oB
    S1x1024x128.size hB).toLoadRect (View.loadsAt_vmem h_S1x1024x128)) fun k =>
  .op (.load (Memref.whole cc0_scratch4) (Rect.unit (s := S2x1024x128) oB
    S1x1024x128.size hB).toLoadRect (View.loadsAt_vmem h_S1x1024x128)) fun v =>
  .op (.load (Memref.whole cc0_scratch1) (Rect.unit (s := S2x1024x1024) oW
    S1x128x1024.size hW).toLoadRect (View.loadsAt_vmem h_S1x128x1024)) fun w =>
  accum 0 (rowPay 0 q k v w) (accum 1 (rowPay 1 q k v w) (accum 2 (rowPay 2 q k v w)
    (accum 3 (rowPay 3 q k v w) K)))

/-- One trip of the loop over heads. -/
def trip (cond : BitVec 1) (o2 o5 o6 o9 : Fin 2 → ℕ) (o3 o7 o10 o11 o12 : Fin 3 → ℕ)
    (o4 o8 : Fin 4 → ℕ)
    (h2 : cond = 1#1 → ∀ a, o2 a + S1x1.size a ≤ S2x2.size a)
    (h3 : cond = 1#1 → ∀ a, o3 a + S1x1024x128.size a ≤ S2x1024x128.size a)
    (h4 : cond = 1#1 → ∀ a, o4 a + S1x1024x1x128.size a ≤ S1x1024x64x128.size a)
    (h5 : cond = 1#1 → ∀ a, o5 a + S1x1.size a ≤ S2x2.size a)
    (h6 : ∀ a, o6 a + S1x1.size a ≤ S2x2.size a)
    (h7 : ∀ a, o7 a + S1x1024x128.size a ≤ S2x1024x128.size a)
    (h8 : ∀ a, o8 a + S1x1024x1x128.size a ≤ S1x1024x64x128.size a)
    (h9 : ∀ a, o9 a + S1x1.size a ≤ S2x2.size a)
    (h10 : ∀ a, o10 a + S1x1024x128.size a ≤ S8x1024x128.size a)
    (h11 : ∀ a, o11 a + S1x1024x128.size a ≤ S2x1024x128.size a)
    (h12 : ∀ a, o12 a + S1x128x1024.size a ≤ S2x1024x1024.size a) : KProg F :=
  if h : cond = 1#1 then
    startKV o2 o5 (h2 h) (h5 h) o3 (h3 h) o4 (h4 h)
      (waitKV o6 o9 h6 h9 o7 h7 o8 h8 (headProg o10 o11 o12 h10 h11 h12 (.ret ⟨⟩)))
  else waitKV o6 o9 h6 h9 o7 h7 o8 h8 (headProg o10 o11 o12 h10 h11 h12 (.ret ⟨⟩))

/-! ## The canonical trip -/

/-- The head taken in trip `k` of step `s` on device `d`: four heads travelling one way, four the
    other. -/
def headOf (s : ℕ) (d : Dev nD) (k : ℕ) : ℕ :=
  8 * (if k < 4 then (d.val + 16 - s) % 8 else (d.val + s) % 8) + k

theorem headOf_lt (s : ℕ) (d : Dev nD) {k : ℕ} (hk : k < 8) : headOf s d k < 64 := by
  unfold headOf
  split <;> omega

/-- Row of the load semaphores' table. -/
abbrev oSem (k c : ℕ) : Fin 2 → ℕ := ![k % 2, c]
/-- Corner of a landing buffer. -/
abbrev oBuf (k : ℕ) : Fin 3 → ℕ := ![k % 2, 0, 0]
/-- Corner of a head in main memory. -/
abbrev oSrc (h : ℕ) : Fin 4 → ℕ := ![0, 0, h, 0]
/-- Corner of a head's queries. -/
abbrev oQry (k : ℕ) : Fin 3 → ℕ := ![k, 0, 0]
/-- Corner of a head's rows of the output weights. -/
abbrev oWgt (s k : ℕ) : Fin 3 → ℕ := ![s % 2, 128 * k, 0]

theorem inb_oSem (k : ℕ) (c : Fin 2) : ∀ a, oSem k c.val a + S1x1.size a ≤ S2x2.size a := by
  intro a
  have h := Nat.mod_lt k (show 0 < 2 by decide)
  have h' := c.isLt
  match a with
  | 0 => show k % 2 + 1 ≤ 2; omega
  | 1 => show c.val + 1 ≤ 2; omega

theorem inb_oBuf (k : ℕ) : ∀ a, oBuf k a + S1x1024x128.size a ≤ S2x1024x128.size a := by
  intro a
  have h := Nat.mod_lt k (show 0 < 2 by decide)
  match a with
  | 0 => show k % 2 + 1 ≤ 2; omega
  | 1 => exact Nat.le_refl 1024
  | 2 => exact Nat.le_refl 128

theorem inb_oSrc {h : ℕ} (hh : h < 64) :
    ∀ a, oSrc h a + S1x1024x1x128.size a ≤ S1x1024x64x128.size a := by
  intro a
  match a with
  | 0 => exact Nat.le_refl 1
  | 1 => exact Nat.le_refl 1024
  | 2 => show h + 1 ≤ 64; omega
  | 3 => exact Nat.le_refl 128

theorem inb_oQry {k : ℕ} (hk : k < 8) :
    ∀ a, oQry k a + S1x1024x128.size a ≤ S8x1024x128.size a := by
  intro a
  match a with
  | 0 => show k + 1 ≤ 8; omega
  | 1 => exact Nat.le_refl 1024
  | 2 => exact Nat.le_refl 128

theorem inb_oWgt (s : ℕ) {k : ℕ} (hk : k < 8) :
    ∀ a, oWgt s k a + S1x128x1024.size a ≤ S2x1024x1024.size a := by
  intro a
  have h := Nat.mod_lt s (show 0 < 2 by decide)
  match a with
  | 0 => show s % 2 + 1 ≤ 2; omega
  | 1 => show 128 * k + 128 ≤ 1024; omega
  | 2 => exact Nat.le_refl 1024

/-- Start the loads of the head of trip `k` of step `s`. -/
def startHead (s : ℕ) (d : Dev nD) (k : ℕ) (hk : k < 8) (K : KProg F) : KProg F :=
  startKV (oSem k 0) (oSem k 1) (inb_oSem k 0) (inb_oSem k 1) (oBuf k) (inb_oBuf k)
    (oSrc (headOf s d k)) (inb_oSrc (headOf_lt s d hk)) K

/-- Wait for the loads of the head of trip `k` of step `s`. -/
def waitHead (s : ℕ) (d : Dev nD) (k : ℕ) (hk : k < 8) (K : KProg F) : KProg F :=
  waitKV (oSem k 0) (oSem k 1) (inb_oSem k 0) (inb_oSem k 1) (oBuf k) (inb_oBuf k)
    (oSrc (headOf s d k)) (inb_oSrc (headOf_lt s d hk)) K

/-- Trip `k` of step `s`. -/
def tripC (s : ℕ) (d : Dev nD) (k : ℕ) (hk : k < 8) : KProg F :=
  if h : k + 1 < 8 then
    startHead s d (k + 1) h (waitHead s d k hk
      (headProg (oQry k) (oBuf k) (oWgt s k) (inb_oQry hk) (inb_oBuf k) (inb_oWgt s hk) (.ret ⟨⟩)))
  else waitHead s d k hk
      (headProg (oQry k) (oBuf k) (oWgt s k) (inb_oQry hk) (inb_oBuf k) (inb_oWgt s hk) (.ret ⟨⟩))

/-- A trip with the canonical corners is the canonical trip. -/
theorem trip_canon (s : ℕ) (d : Dev nD) (k : ℕ) (hk : k < 8)
    {cond : BitVec 1} {o2 o5 o6 o9 : Fin 2 → ℕ} {o3 o7 o10 o11 o12 : Fin 3 → ℕ}
    {o4 o8 : Fin 4 → ℕ} {h2 h3 h4 h5 h6 h7 h8 h9 h10 h11 h12}
    (hc : cond = 1#1 ↔ k + 1 < 8)
    (e2 : cond = 1#1 → o2 = oSem (k + 1) 0) (e3 : cond = 1#1 → o3 = oBuf (k + 1))
    (e4 : cond = 1#1 → o4 = oSrc (headOf s d (k + 1))) (e5 : cond = 1#1 → o5 = oSem (k + 1) 1)
    (e6 : o6 = oSem k 0) (e7 : o7 = oBuf k) (e8 : o8 = oSrc (headOf s d k)) (e9 : o9 = oSem k 1)
    (e10 : o10 = oQry k) (e11 : o11 = oBuf k) (e12 : o12 = oWgt s k) :
    (trip cond o2 o5 o6 o9 o3 o7 o10 o11 o12 o4 o8 h2 h3 h4 h5 h6 h7 h8 h9 h10 h11 h12 : KProg F) =
      tripC s d k hk := by
  subst e6 e7 e8 e9 e10 e11 e12
  unfold trip tripC
  by_cases h : cond = 1#1
  · obtain rfl := e2 h
    obtain rfl := e3 h
    obtain rfl := e4 h
    obtain rfl := e5 h
    rw [dif_pos h, dif_pos (hc.mp h)]
    rfl
  · rw [dif_neg h, dif_neg (fun h' => h (hc.mpr h'))]
    rfl

/-! ## The loops of the printed body -/

variable (d0 : Dev nD)

set_option maxRecDepth 65536 in
theorem trips_t1 : k0_t1_loop.trips = 8 := by decide +kernel

set_option maxRecDepth 65536 in
/-- The loop of step 0 runs the canonical trips. -/
theorem body_t1 (a0 : BitVec 32) (a1 : BitVec 32) (a2 : FVec F S1024x1024 .f32) (a3 : FVec F S1024x128 .f32) :
    k0_t1_body (F := F) (Memref.whole cc0_stg0_0) (Memref.isWhole_whole _) (Memref.whole cc0_stg1_0) (Memref.isWhole_whole _) (Memref.whole main_arg2) (Memref.isWhole_whole _) (Memref.whole main_arg3) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10
      d0 a0 a1 a2 a3 =
    fun k _ => tripC 0 d0 k.val (trips_t1 ▸ k.isLt) := by
  funext k u
  refine Eq.trans ?_ (trip_canon 0 d0 k.val (trips_t1 ▸ k.isLt)
    (cond := k0_cond1 k) (o2 := k0_off2 k) (o3 := k0_off3 k) (o4 := k0_off4 d0 k) (o5 := k0_off5 k)
    (o6 := k0_off6 k) (o7 := k0_off7 k) (o8 := k0_off8 d0 k) (o9 := k0_off9 k) (o10 := k0_off10 k)
    (o11 := k0_off11 k) (o12 := k0_off12 k)
    (h2 := k0_off2_inb k) (h3 := k0_off3_inb k) (h4 := k0_off4_inb d0 k) (h5 := k0_off5_inb k)
    (h6 := k0_off6_inb k) (h7 := k0_off7_inb k) (h8 := k0_off8_inb d0 k) (h9 := k0_off9_inb k)
    (h10 := k0_off10_inb k) (h11 := k0_off11_inb k) (h12 := k0_off12_inb k)
    (by revert k; decide +kernel) (by revert k; decide +kernel) (by revert k; decide +kernel)
    (by revert k d0; decide +kernel) (by revert k; decide +kernel) (by revert k; decide +kernel)
    (by revert k; decide +kernel) (by revert k d0; decide +kernel) (by revert k; decide +kernel)
    (by revert k; decide +kernel) (by revert k; decide +kernel) (by revert k; decide +kernel))
  simp only [k0_t1_body, k0_part1_eq_skeleton, k0_part1_skel, k0_part2_eq_skeleton, k0_part2_skel, k0_part3_eq_skeleton, k0_part3_skel, k0_part4_eq_skeleton, k0_part4_skel, Prog.lift,
    Prog.pure_eq_ret, trip]
  by_cases h : k0_cond1 k = 1#1 <;>
  · simp only [h, ↓reduceDIte, Prog.bind_op, Prog.bind_ret]
    rfl

set_option maxRecDepth 65536 in
theorem trips_t2 : k0_t2_loop.trips = 8 := by decide +kernel

set_option maxRecDepth 65536 in
/-- The loop of step 1 runs the canonical trips. -/
theorem body_t2 (a0 : BitVec 32) (a1 : BitVec 32) (a2 : BitVec 32) (a3 : FVec F S1024x1024 .f32) (a4 : FVec F S1x1024x128 .f32) :
    k0_t2_body (F := F) (Memref.whole cc0_stg0_0) (Memref.isWhole_whole _) (Memref.whole cc0_stg1_0) (Memref.isWhole_whole _) (Memref.whole main_arg2) (Memref.isWhole_whole _) (Memref.whole main_arg3) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10
      d0 a0 a1 a2 a3 a4 =
    fun k _ => tripC 1 d0 k.val (trips_t2 ▸ k.isLt) := by
  funext k u
  refine Eq.trans ?_ (trip_canon 1 d0 k.val (trips_t2 ▸ k.isLt)
    (cond := k0_cond2 k) (o2 := k0_off13 k) (o3 := k0_off14 k) (o4 := k0_off15 d0 k) (o5 := k0_off16 k)
    (o6 := k0_off17 k) (o7 := k0_off18 k) (o8 := k0_off19 d0 k) (o9 := k0_off20 k) (o10 := k0_off21 k)
    (o11 := k0_off22 k) (o12 := k0_off23 k)
    (h2 := k0_off13_inb k) (h3 := k0_off14_inb k) (h4 := k0_off15_inb d0 k) (h5 := k0_off16_inb k)
    (h6 := k0_off17_inb k) (h7 := k0_off18_inb k) (h8 := k0_off19_inb d0 k) (h9 := k0_off20_inb k)
    (h10 := k0_off21_inb k) (h11 := k0_off22_inb k) (h12 := k0_off23_inb k)
    (by revert k; decide +kernel) (by revert k; decide +kernel) (by revert k; decide +kernel)
    (by revert k d0; decide +kernel) (by revert k; decide +kernel) (by revert k; decide +kernel)
    (by revert k; decide +kernel) (by revert k d0; decide +kernel) (by revert k; decide +kernel)
    (by revert k; decide +kernel) (by revert k; decide +kernel) (by revert k; decide +kernel))
  simp only [k0_t2_body, k0_part5_eq_skeleton, k0_part5_skel, k0_part6_eq_skeleton, k0_part6_skel, k0_part7_eq_skeleton, k0_part7_skel, k0_part8_eq_skeleton, k0_part8_skel, Prog.lift,
    Prog.pure_eq_ret, trip]
  by_cases h : k0_cond2 k = 1#1 <;>
  · simp only [h, ↓reduceDIte, Prog.bind_op, Prog.bind_ret]
    rfl

set_option maxRecDepth 65536 in
theorem trips_t3 : k0_t3_loop.trips = 8 := by decide +kernel

set_option maxRecDepth 65536 in
/-- The loop of step 2 runs the canonical trips. -/
theorem body_t3 (a0 : BitVec 32) (a1 : BitVec 32) (a2 : FVec F S1024x1024 .f32) (a3 : FVec F S1024x128 .f32) :
    k0_t3_body (F := F) (Memref.whole cc0_stg0_0) (Memref.isWhole_whole _) (Memref.whole cc0_stg1_0) (Memref.isWhole_whole _) (Memref.whole main_arg2) (Memref.isWhole_whole _) (Memref.whole main_arg3) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10
      d0 a0 a1 a2 a3 =
    fun k _ => tripC 2 d0 k.val (trips_t3 ▸ k.isLt) := by
  funext k u
  refine Eq.trans ?_ (trip_canon 2 d0 k.val (trips_t3 ▸ k.isLt)
    (cond := k0_cond3 k) (o2 := k0_off24 k) (o3 := k0_off25 k) (o4 := k0_off26 d0 k) (o5 := k0_off27 k)
    (o6 := k0_off28 k) (o7 := k0_off29 k) (o8 := k0_off30 d0 k) (o9 := k0_off31 k) (o10 := k0_off32 k)
    (o11 := k0_off33 k) (o12 := k0_off34 k)
    (h2 := k0_off24_inb k) (h3 := k0_off25_inb k) (h4 := k0_off26_inb d0 k) (h5 := k0_off27_inb k)
    (h6 := k0_off28_inb k) (h7 := k0_off29_inb k) (h8 := k0_off30_inb d0 k) (h9 := k0_off31_inb k)
    (h10 := k0_off32_inb k) (h11 := k0_off33_inb k) (h12 := k0_off34_inb k)
    (by revert k; decide +kernel) (by revert k; decide +kernel) (by revert k; decide +kernel)
    (by revert k d0; decide +kernel) (by revert k; decide +kernel) (by revert k; decide +kernel)
    (by revert k; decide +kernel) (by revert k d0; decide +kernel) (by revert k; decide +kernel)
    (by revert k; decide +kernel) (by revert k; decide +kernel) (by revert k; decide +kernel))
  simp only [k0_t3_body, k0_part9_eq_skeleton, k0_part9_skel, k0_part10_eq_skeleton, k0_part10_skel, k0_part11_eq_skeleton, k0_part11_skel, k0_part12_eq_skeleton, k0_part12_skel, Prog.lift,
    Prog.pure_eq_ret, trip]
  by_cases h : k0_cond3 k = 1#1 <;>
  · simp only [h, ↓reduceDIte, Prog.bind_op, Prog.bind_ret]
    rfl

set_option maxRecDepth 65536 in
theorem trips_t4 : k0_t4_loop.trips = 8 := by decide +kernel

set_option maxRecDepth 65536 in
/-- The loop of step 3 runs the canonical trips. -/
theorem body_t4 (a0 : BitVec 32) (a1 : BitVec 32) (a2 : BitVec 32) (a3 : FVec F S1024x1024 .f32) (a4 : FVec F S1024x128 .f32) (a5 : FVec F S1x1024x128 .f32) :
    k0_t4_body (F := F) (Memref.whole cc0_stg0_0) (Memref.isWhole_whole _) (Memref.whole cc0_stg1_0) (Memref.isWhole_whole _) (Memref.whole main_arg2) (Memref.isWhole_whole _) (Memref.whole main_arg3) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10
      d0 a0 a1 a2 a3 a4 a5 =
    fun k _ => tripC 3 d0 k.val (trips_t4 ▸ k.isLt) := by
  funext k u
  refine Eq.trans ?_ (trip_canon 3 d0 k.val (trips_t4 ▸ k.isLt)
    (cond := k0_cond4 k) (o2 := k0_off35 k) (o3 := k0_off36 k) (o4 := k0_off37 d0 k) (o5 := k0_off38 k)
    (o6 := k0_off39 k) (o7 := k0_off40 k) (o8 := k0_off41 d0 k) (o9 := k0_off42 k) (o10 := k0_off43 k)
    (o11 := k0_off44 k) (o12 := k0_off45 k)
    (h2 := k0_off35_inb k) (h3 := k0_off36_inb k) (h4 := k0_off37_inb d0 k) (h5 := k0_off38_inb k)
    (h6 := k0_off39_inb k) (h7 := k0_off40_inb k) (h8 := k0_off41_inb d0 k) (h9 := k0_off42_inb k)
    (h10 := k0_off43_inb k) (h11 := k0_off44_inb k) (h12 := k0_off45_inb k)
    (by revert k; decide +kernel) (by revert k; decide +kernel) (by revert k; decide +kernel)
    (by revert k d0; decide +kernel) (by revert k; decide +kernel) (by revert k; decide +kernel)
    (by revert k; decide +kernel) (by revert k d0; decide +kernel) (by revert k; decide +kernel)
    (by revert k; decide +kernel) (by revert k; decide +kernel) (by revert k; decide +kernel))
  simp only [k0_t4_body, k0_part13_eq_skeleton, k0_part13_skel, k0_part14_eq_skeleton, k0_part14_skel, k0_part15_eq_skeleton, k0_part15_skel, k0_part16_eq_skeleton, k0_part16_skel, Prog.lift,
    Prog.pure_eq_ret, trip]
  by_cases h : k0_cond4 k = 1#1 <;>
  · simp only [h, ↓reduceDIte, Prog.bind_op, Prog.bind_ret]
    rfl

set_option maxRecDepth 65536 in
theorem trips_t5 : k0_t5_loop.trips = 8 := by decide +kernel

set_option maxRecDepth 65536 in
/-- The loop of step 4 runs the canonical trips. -/
theorem body_t5 (a0 : BitVec 32) (a1 : BitVec 32) (a2 : BitVec 32) (a3 : FVec F S1024x128 .f32) :
    k0_t5_body (F := F) (Memref.whole cc0_stg0_0) (Memref.isWhole_whole _) (Memref.whole cc0_stg1_0) (Memref.isWhole_whole _) (Memref.whole main_arg2) (Memref.isWhole_whole _) (Memref.whole main_arg3) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10
      d0 a0 a1 a2 a3 =
    fun k _ => tripC 4 d0 k.val (trips_t5 ▸ k.isLt) := by
  funext k u
  refine Eq.trans ?_ (trip_canon 4 d0 k.val (trips_t5 ▸ k.isLt)
    (cond := k0_cond5 k) (o2 := k0_off46 k) (o3 := k0_off47 k) (o4 := k0_off48 d0 k) (o5 := k0_off49 k)
    (o6 := k0_off50 k) (o7 := k0_off51 k) (o8 := k0_off52 d0 k) (o9 := k0_off53 k) (o10 := k0_off54 k)
    (o11 := k0_off55 k) (o12 := k0_off56 k)
    (h2 := k0_off46_inb k) (h3 := k0_off47_inb k) (h4 := k0_off48_inb d0 k) (h5 := k0_off49_inb k)
    (h6 := k0_off50_inb k) (h7 := k0_off51_inb k) (h8 := k0_off52_inb d0 k) (h9 := k0_off53_inb k)
    (h10 := k0_off54_inb k) (h11 := k0_off55_inb k) (h12 := k0_off56_inb k)
    (by revert k; decide +kernel) (by revert k; decide +kernel) (by revert k; decide +kernel)
    (by revert k d0; decide +kernel) (by revert k; decide +kernel) (by revert k; decide +kernel)
    (by revert k; decide +kernel) (by revert k d0; decide +kernel) (by revert k; decide +kernel)
    (by revert k; decide +kernel) (by revert k; decide +kernel) (by revert k; decide +kernel))
  simp only [k0_t5_body, k0_part17_eq_skeleton, k0_part17_skel, k0_part18_eq_skeleton, k0_part18_skel, k0_part19_eq_skeleton, k0_part19_skel, k0_part20_eq_skeleton, k0_part20_skel, Prog.lift,
    Prog.pure_eq_ret, trip]
  by_cases h : k0_cond5 k = 1#1 <;>
  · simp only [h, ↓reduceDIte, Prog.bind_op, Prog.bind_ret]
    rfl

set_option maxRecDepth 65536 in
theorem trips_t6 : k0_t6_loop.trips = 8 := by decide +kernel

set_option maxRecDepth 65536 in
/-- The loop of step 5 runs the canonical trips. -/
theorem body_t6 (a0 : BitVec 32) (a1 : BitVec 32) (a2 : FVec F S1024x1024 .f32) (a3 : FVec F S1024x128 .f32) :
    k0_t6_body (F := F) (Memref.whole cc0_stg0_0) (Memref.isWhole_whole _) (Memref.whole cc0_stg1_0) (Memref.isWhole_whole _) (Memref.whole main_arg2) (Memref.isWhole_whole _) (Memref.whole main_arg3) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10
      d0 a0 a1 a2 a3 =
    fun k _ => tripC 5 d0 k.val (trips_t6 ▸ k.isLt) := by
  funext k u
  refine Eq.trans ?_ (trip_canon 5 d0 k.val (trips_t6 ▸ k.isLt)
    (cond := k0_cond6 k) (o2 := k0_off57 k) (o3 := k0_off58 k) (o4 := k0_off59 d0 k) (o5 := k0_off60 k)
    (o6 := k0_off61 k) (o7 := k0_off62 k) (o8 := k0_off63 d0 k) (o9 := k0_off64 k) (o10 := k0_off65 k)
    (o11 := k0_off66 k) (o12 := k0_off67 k)
    (h2 := k0_off57_inb k) (h3 := k0_off58_inb k) (h4 := k0_off59_inb d0 k) (h5 := k0_off60_inb k)
    (h6 := k0_off61_inb k) (h7 := k0_off62_inb k) (h8 := k0_off63_inb d0 k) (h9 := k0_off64_inb k)
    (h10 := k0_off65_inb k) (h11 := k0_off66_inb k) (h12 := k0_off67_inb k)
    (by revert k; decide +kernel) (by revert k; decide +kernel) (by revert k; decide +kernel)
    (by revert k d0; decide +kernel) (by revert k; decide +kernel) (by revert k; decide +kernel)
    (by revert k; decide +kernel) (by revert k d0; decide +kernel) (by revert k; decide +kernel)
    (by revert k; decide +kernel) (by revert k; decide +kernel) (by revert k; decide +kernel))
  simp only [k0_t6_body, k0_part21_eq_skeleton, k0_part21_skel, k0_part22_eq_skeleton, k0_part22_skel, k0_part23_eq_skeleton, k0_part23_skel, k0_part24_eq_skeleton, k0_part24_skel, Prog.lift,
    Prog.pure_eq_ret, trip]
  by_cases h : k0_cond6 k = 1#1 <;>
  · simp only [h, ↓reduceDIte, Prog.bind_op, Prog.bind_ret]
    rfl

set_option maxRecDepth 65536 in
theorem trips_t7 : k0_t7_loop.trips = 8 := by decide +kernel

set_option maxRecDepth 65536 in
/-- The loop of step 6 runs the canonical trips. -/
theorem body_t7 (a0 : BitVec 32) (a1 : BitVec 32) (a2 : BitVec 32) (a3 : FVec F S1024x1024 .f32) (a4 : FVec F S1024x128 .f32) :
    k0_t7_body (F := F) (Memref.whole cc0_stg0_0) (Memref.isWhole_whole _) (Memref.whole cc0_stg1_0) (Memref.isWhole_whole _) (Memref.whole main_arg2) (Memref.isWhole_whole _) (Memref.whole main_arg3) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10
      d0 a0 a1 a2 a3 a4 =
    fun k _ => tripC 6 d0 k.val (trips_t7 ▸ k.isLt) := by
  funext k u
  refine Eq.trans ?_ (trip_canon 6 d0 k.val (trips_t7 ▸ k.isLt)
    (cond := k0_cond7 k) (o2 := k0_off68 k) (o3 := k0_off69 k) (o4 := k0_off70 d0 k) (o5 := k0_off71 k)
    (o6 := k0_off72 k) (o7 := k0_off73 k) (o8 := k0_off74 d0 k) (o9 := k0_off75 k) (o10 := k0_off76 k)
    (o11 := k0_off77 k) (o12 := k0_off78 k)
    (h2 := k0_off68_inb k) (h3 := k0_off69_inb k) (h4 := k0_off70_inb d0 k) (h5 := k0_off71_inb k)
    (h6 := k0_off72_inb k) (h7 := k0_off73_inb k) (h8 := k0_off74_inb d0 k) (h9 := k0_off75_inb k)
    (h10 := k0_off76_inb k) (h11 := k0_off77_inb k) (h12 := k0_off78_inb k)
    (by revert k; decide +kernel) (by revert k; decide +kernel) (by revert k; decide +kernel)
    (by revert k d0; decide +kernel) (by revert k; decide +kernel) (by revert k; decide +kernel)
    (by revert k; decide +kernel) (by revert k d0; decide +kernel) (by revert k; decide +kernel)
    (by revert k; decide +kernel) (by revert k; decide +kernel) (by revert k; decide +kernel))
  simp only [k0_t7_body, k0_part25_eq_skeleton, k0_part25_skel, k0_part26_eq_skeleton, k0_part26_skel, k0_part27_eq_skeleton, k0_part27_skel, k0_part28_eq_skeleton, k0_part28_skel, Prog.lift,
    Prog.pure_eq_ret, trip]
  by_cases h : k0_cond7 k = 1#1 <;>
  · simp only [h, ↓reduceDIte, Prog.bind_op, Prog.bind_ret]
    rfl

set_option maxRecDepth 65536 in
theorem trips_t8 : k0_t8_loop.trips = 8 := by decide +kernel

set_option maxRecDepth 65536 in
/-- The loop of step 7 runs the canonical trips. -/
theorem body_t8 (a0 : BitVec 32) (a1 : BitVec 32) (a2 : BitVec 32) :
    k0_t8_body (F := F) (Memref.whole cc0_stg0_0) (Memref.isWhole_whole _) (Memref.whole cc0_stg1_0) (Memref.isWhole_whole _) (Memref.whole main_arg2) (Memref.isWhole_whole _) (Memref.whole main_arg3) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10
      d0 a0 a1 a2 =
    fun k _ => tripC 7 d0 k.val (trips_t8 ▸ k.isLt) := by
  funext k u
  refine Eq.trans ?_ (trip_canon 7 d0 k.val (trips_t8 ▸ k.isLt)
    (cond := k0_cond8 k) (o2 := k0_off79 k) (o3 := k0_off80 k) (o4 := k0_off81 d0 k) (o5 := k0_off82 k)
    (o6 := k0_off83 k) (o7 := k0_off84 k) (o8 := k0_off85 d0 k) (o9 := k0_off86 k) (o10 := k0_off87 k)
    (o11 := k0_off88 k) (o12 := k0_off89 k)
    (h2 := k0_off79_inb k) (h3 := k0_off80_inb k) (h4 := k0_off81_inb d0 k) (h5 := k0_off82_inb k)
    (h6 := k0_off83_inb k) (h7 := k0_off84_inb k) (h8 := k0_off85_inb d0 k) (h9 := k0_off86_inb k)
    (h10 := k0_off87_inb k) (h11 := k0_off88_inb k) (h12 := k0_off89_inb k)
    (by revert k; decide +kernel) (by revert k; decide +kernel) (by revert k; decide +kernel)
    (by revert k d0; decide +kernel) (by revert k; decide +kernel) (by revert k; decide +kernel)
    (by revert k; decide +kernel) (by revert k d0; decide +kernel) (by revert k; decide +kernel)
    (by revert k; decide +kernel) (by revert k; decide +kernel) (by revert k; decide +kernel))
  simp only [k0_t8_body, k0_part29_eq_skeleton, k0_part29_skel, k0_part30_eq_skeleton, k0_part30_skel, k0_part31_eq_skeleton, k0_part31_skel, k0_part32_eq_skeleton, k0_part32_skel, Prog.lift,
    Prog.pure_eq_ret, trip]
  by_cases h : k0_cond8 k = 1#1 <;>
  · simp only [h, ↓reduceDIte, Prog.bind_op, Prog.bind_ret]
    rfl

end Cert.KernelIdeal.Attn
-- ==== Proof.KernelIdeal.Body.lean ====
module

public import proofs.«01_k».proof.Proof.KernelIdeal.Ops

/-!
# The whole body as a chain of named pieces

The hand-shake, the copies into the first slot, eight steps of computation with seven hops between
them, and the un-permutation. `body_eq` says that the printed body is this chain.
-/

@[expose] public section

set_option synthInstance.maxSize 4096

noncomputable section

namespace Cert.KernelIdeal.Attn

open Idealize.ShloMosaic Idealize.SL.Sem Cert.KernelIdeal Cert.KernelIdeal.Gen

variable {F : FTy → Type} [FloatOps F]

/-- The entry hand-shake: tell both neighbours, then wait for both. -/
def handshake (n₀ n₁ : Dev nD) (K : KProg F) : KProg F :=
  .op (.semSignal (Dev.tc n₀) (SemArray.scalar (sig.barrier 0 rfl) : Sems sig S_).sem (1#32 : BitVec 32).toInt) fun _ =>
  .op (.semSignal (Dev.tc n₁) (SemArray.scalar (sig.barrier 0 rfl) : Sems sig S_).sem (1#32 : BitVec 32).toInt) fun _ =>
  .op (.semWait (SemArray.scalar (sig.barrier 0 rfl) : Sems sig S_).sem (2#32 : BitVec 32).toInt) fun _ => K

/-- Copy the device's own weights into the first slots, clear the accumulator, read the rows. -/
def prologue (K : FVec F S1024x1024 .f32 → KProg F) : KProg F :=
  .op (.load (Memref.whole cc0_stg1_0) (Rect.unit (s := S1024x1024) ![0, 0] S1024x1024.size
    inb_S1024x1024_S1024x1024_0_0).toLoadRect (View.loadsAt_vmem h_S1024x1024)) fun wq =>
  .op (.load (Memref.whole cc0_scratch0) (Rect.unit (s := S2x1024x1024) ![0, 0, 0]
    S1x1024x1024.size inb_S2x1024x1024_S1x1024x1024_0_0_0).toLoadRect
    (View.loadsAt_vmem h_S1x1024x1024)) fun _ =>
  .op (.store (Memref.whole cc0_scratch0) (Rect.unit (s := S2x1024x1024) ![0, 0, 0]
    S1x1024x1024.size inb_S2x1024x1024_S1x1024x1024_0_0_0) (k0_pay101 wq) Finset.univ
    (View.stores_vmem_bits_univ h_S1x1024x1024 rfl) (.inl rfl)) fun _ =>
  .op (.load (Memref.whole cc0_stg2_0) (Rect.unit (s := S1024x1024) ![0, 0] S1024x1024.size
    inb_S1024x1024_S1024x1024_0_0).toLoadRect (View.loadsAt_vmem h_S1024x1024)) fun wo =>
  .op (.load (Memref.whole cc0_scratch1) (Rect.unit (s := S2x1024x1024) ![0, 0, 0]
    S1x1024x1024.size inb_S2x1024x1024_S1x1024x1024_0_0_0).toLoadRect
    (View.loadsAt_vmem h_S1x1024x1024)) fun _ =>
  .op (.store (Memref.whole cc0_scratch1) (Rect.unit (s := S2x1024x1024) ![0, 0, 0]
    S1x1024x1024.size inb_S2x1024x1024_S1x1024x1024_0_0_0) (k0_pay102 wo) Finset.univ
    (View.stores_vmem_bits_univ h_S1x1024x1024 rfl) (.inl rfl)) fun _ =>
  .op (.load (Memref.whole cc0_scratch5) (Rect.unit (s := S1024x1024) ![0, 0] S1024x1024.size
    inb_S1024x1024_S1024x1024_0_0).toLoadRect (View.loadsAt_vmem h_S1024x1024)) fun _ =>
  .op (.store (Memref.whole cc0_scratch5) (Rect.unit (s := S1024x1024) ![0, 0] S1024x1024.size
    inb_S1024x1024_S1024x1024_0_0) (k0_pay104 (k0_pay103 (F := F))) Finset.univ
    (View.stores_vmem_bits_univ h_S1024x1024 rfl) (.inl rfl)) fun _ =>
  .op (.load (Memref.whole cc0_stg0_0) (Rect.unit (s := S1x1024x1024) ![0, 0, 0]
    S1x1024x1024.size inb_S1x1024x1024_S1x1024x1024_0_0_0).toLoadRect
    (View.loadsAt_vmem h_S1x1024x1024)) fun x => K (k0_pay105 x)

theorem inb_qry : ∀ (h : Fin 8), ∀ a,
    (![h.val, 0, 0] : Fin 3 → ℕ) a + S1x1024x128.size a ≤ S8x1024x128.size a := by
  decide +kernel

/-- A head's queries out of the product of the rows with the slot's query weights. -/
def qPay (h : Fin 8) (x : FVec F S1024x1024 .f32) (w : Vec F S1x1024x1024 .f32) :
    FVec F S1x1024x128 .f32 :=
  match h with
  | 0 => k0_pay107 x w
  | 1 => k0_pay108 x w
  | 2 => k0_pay110 (k0_pay109 x w)
  | 3 => k0_pay111 (k0_pay106 x w)
  | 4 => k0_pay112 (k0_pay106 x w)
  | 5 => k0_pay113 (k0_pay106 x w)
  | 6 => k0_pay114 (k0_pay106 x w)
  | 7 => k0_pay115 (k0_pay106 x w)

/-- Keep a head's queries. -/
def storeQ (h : Fin 8) (p : FVec F S1x1024x128 .f32) (K : KProg F) : KProg F :=
  .op (.load (Memref.whole cc0_scratch2) (Rect.unit (s := S8x1024x128) ![h.val, 0, 0]
    S1x1024x128.size (inb_qry h)).toLoadRect (View.loadsAt_vmem h_S1x1024x128)) fun _ =>
  .op (.store (Memref.whole cc0_scratch2) (Rect.unit (s := S8x1024x128) ![h.val, 0, 0]
    S1x1024x128.size (inb_qry h)) p Finset.univ (View.stores_vmem_bits_univ h_S1x1024x128 rfl)
    (.inl rfl)) fun _ => K

/-- Keep the queries of all eight heads. -/
def storeQs (p : Fin 8 → FVec F S1x1024x128 .f32) (K : KProg F) : KProg F :=
  storeQ 0 (p 0) (storeQ 1 (p 1) (storeQ 2 (p 2) (storeQ 3 (p 3) (storeQ 4 (p 4) (storeQ 5 (p 5)
    (storeQ 6 (p 6) (storeQ 7 (p 7) K)))))))

/-- The computation of a step: start the first head's loads, form the queries, run the heads. -/
def compute (s : ℕ) (oS : Fin 4 → ℕ)
    (hS : ∀ a, oS a + S1x1024x1x128.size a ≤ S1x1024x64x128.size a) (x : FVec F S1024x1024 .f32)
    (l : Scf.Loop 32) (ok : l.OK)
    (body : Fin l.trips → Unit → Prog (TpuEff nD τ sig (Elt F) Λ₀ .tc) Unit) (K : KProg F) :
    KProg F :=
  startKV (oSem 0 0) (oSem 0 1) (inb_oSem 0 0) (inb_oSem 0 1) (oBuf 0) (inb_oBuf 0) oS hS
  (.op (.load (Memref.whole cc0_scratch0) (Rect.unit (s := S2x1024x1024) ![(slot s).val, 0, 0]
    S1x1024x1024.size (inb_slot (slot s))).toLoadRect (View.loadsAt_vmem h_S1x1024x1024)) fun w =>
  storeQs (fun h => qPay h x w) (Scf.Loop.for l ok ⟨⟩ body >>= fun _ => K))

/-- The hop after a step that is followed by another hop. -/
def hop (s : ℕ) (n₀ n₁ n₂ n₃ n₄ n₅ : Dev nD) (K : KProg F) : KProg F :=
  waits s (credits n₀ n₁ (sends (s + 1) n₂ n₃ n₄ n₅ K))

theorem inb_accRow : ∀ (i : Fin 16), ∀ a,
    (![64 * i.val, 0] : Fin 2 → ℕ) a + S64x1024.size a ≤ S1024x1024.size a := by
  decide +kernel

theorem inb_outRow : ∀ (i : Fin 16), ∀ a,
    (![0, 256 * (i.val % 4) + 64 * (i.val / 4), 0] : Fin 3 → ℕ) a + S1x64x1024.size a ≤
      S1x1024x1024.size a := by
  decide +kernel

/-- Copy one block of rows of the accumulator to its place in the result. -/
def outRow (i : Fin 16) (K : KProg F) : KProg F :=
  .op (.load (Memref.whole cc0_scratch5) (Rect.unit (s := S1024x1024) ![64 * i.val, 0]
    S64x1024.size (inb_accRow i)).toLoadRect (View.loadsAt_vmem h_S64x1024)) fun g =>
  .op (.load (Memref.whole cc0_stg3_0) (Rect.unit (s := S1x1024x1024)
    ![0, 256 * (i.val % 4) + 64 * (i.val / 4), 0] S1x64x1024.size (inb_outRow i)).toLoadRect
    (View.loadsAt_vmem h_S1x64x1024)) fun _ =>
  .op (.store (Memref.whole cc0_stg3_0) (Rect.unit (s := S1x1024x1024)
    ![0, 256 * (i.val % 4) + 64 * (i.val / 4), 0] S1x64x1024.size (inb_outRow i)) (k0_pay1 g)
    Finset.univ (View.stores_vmem_bits_univ h_S1x64x1024 rfl) (.inl rfl)) fun _ => K

/-- Copy all sixteen blocks. -/
def outRows : KProg F :=
  outRow 0 (outRow 1 (outRow 2 (outRow 3 (outRow 4 (outRow 5 (outRow 6 (outRow 7 (outRow 8
    (outRow 9 (outRow 10 (outRow 11 (outRow 12 (outRow 13 (outRow 14 (outRow 15
      (.ret ⟨⟩))))))))))))))))

/-- The body after the device has read its own number. -/
def bodyAt (d0 : Dev nD) : KProg F :=
  handshake ⟨k0_dev1 d0, k0_dev1_lt d0⟩ ⟨k0_dev2 d0, k0_dev2_lt d0⟩ <|
  prologue fun x =>
  sends 1 ⟨k0_dev3 d0, k0_dev3_lt d0⟩ ⟨k0_dev4 d0, k0_dev4_lt d0⟩
    ⟨k0_dev5 d0, k0_dev5_lt d0⟩ ⟨k0_dev6 d0, k0_dev6_lt d0⟩ <|
  compute 0 (k0_off1 d0 0#32 0#32) (k0_off1_inb d0 0) x k0_t1_loop k0_t1_ok
    (fun k _ => tripC 0 d0 k.val (trips_t1 ▸ k.isLt)) <|
  hop 1 ⟨k0_dev7 d0, k0_dev7_lt d0⟩ ⟨k0_dev8 d0, k0_dev8_lt d0⟩
    ⟨k0_dev9 d0, k0_dev9_lt d0⟩ ⟨k0_dev10 d0, k0_dev10_lt d0⟩
    ⟨k0_dev11 d0, k0_dev11_lt d0⟩ ⟨k0_dev12 d0, k0_dev12_lt d0⟩ <|
  compute 1 (k0_off1 d0 1#32 1#32) (k0_off1_inb d0 1) x k0_t2_loop k0_t2_ok
    (fun k _ => tripC 1 d0 k.val (trips_t2 ▸ k.isLt)) <|
  hop 2 ⟨k0_dev13 d0, k0_dev13_lt d0⟩ ⟨k0_dev14 d0, k0_dev14_lt d0⟩
    ⟨k0_dev15 d0, k0_dev15_lt d0⟩ ⟨k0_dev16 d0, k0_dev16_lt d0⟩
    ⟨k0_dev17 d0, k0_dev17_lt d0⟩ ⟨k0_dev18 d0, k0_dev18_lt d0⟩ <|
  compute 2 (k0_off1 d0 2#32 2#32) (k0_off1_inb d0 2) x k0_t3_loop k0_t3_ok
    (fun k _ => tripC 2 d0 k.val (trips_t3 ▸ k.isLt)) <|
  hop 3 ⟨k0_dev19 d0, k0_dev19_lt d0⟩ ⟨k0_dev20 d0, k0_dev20_lt d0⟩
    ⟨k0_dev21 d0, k0_dev21_lt d0⟩ ⟨k0_dev22 d0, k0_dev22_lt d0⟩
    ⟨k0_dev23 d0, k0_dev23_lt d0⟩ ⟨k0_dev24 d0, k0_dev24_lt d0⟩ <|
  compute 3 (k0_off1 d0 3#32 3#32) (k0_off1_inb d0 3) x k0_t4_loop k0_t4_ok
    (fun k _ => tripC 3 d0 k.val (trips_t4 ▸ k.isLt)) <|
  hop 4 ⟨k0_dev25 d0, k0_dev25_lt d0⟩ ⟨k0_dev26 d0, k0_dev26_lt d0⟩
    ⟨k0_dev27 d0, k0_dev27_lt d0⟩ ⟨k0_dev28 d0, k0_dev28_lt d0⟩
    ⟨k0_dev29 d0, k0_dev29_lt d0⟩ ⟨k0_dev30 d0, k0_dev30_lt d0⟩ <|
  compute 4 (k0_off1 d0 4#32 4#32) (k0_off1_inb d0 4) x k0_t5_loop k0_t5_ok
    (fun k _ => tripC 4 d0 k.val (trips_t5 ▸ k.isLt)) <|
  hop 5 ⟨k0_dev31 d0, k0_dev31_lt d0⟩ ⟨k0_dev32 d0, k0_dev32_lt d0⟩
    ⟨k0_dev33 d0, k0_dev33_lt d0⟩ ⟨k0_dev34 d0, k0_dev34_lt d0⟩
    ⟨k0_dev35 d0, k0_dev35_lt d0⟩ ⟨k0_dev36 d0, k0_dev36_lt d0⟩ <|
  compute 5 (k0_off1 d0 5#32 5#32) (k0_off1_inb d0 5) x k0_t6_loop k0_t6_ok
    (fun k _ => tripC 5 d0 k.val (trips_t6 ▸ k.isLt)) <|
  hop 6 ⟨k0_dev37 d0, k0_dev37_lt d0⟩ ⟨k0_dev38 d0, k0_dev38_lt d0⟩
    ⟨k0_dev39 d0, k0_dev39_lt d0⟩ ⟨k0_dev40 d0, k0_dev40_lt d0⟩
    ⟨k0_dev41 d0, k0_dev41_lt d0⟩ ⟨k0_dev42 d0, k0_dev42_lt d0⟩ <|
  compute 6 (k0_off1 d0 6#32 6#32) (k0_off1_inb d0 6) x k0_t7_loop k0_t7_ok
    (fun k _ => tripC 6 d0 k.val (trips_t7 ▸ k.isLt)) <|
  waits 7 <|
  compute 7 (k0_off1 d0 7#32 7#32) (k0_off1_inb d0 7) x k0_t8_loop k0_t8_ok
    (fun k _ => tripC 7 d0 k.val (trips_t8 ▸ k.isLt)) <|
  outRows

set_option maxRecDepth 65536 in
set_option maxHeartbeats 4000000 in
/-- The printed body reads the device's number and runs the chain. -/
theorem body_eq :
    cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10 =
    .op .deviceId fun d0 => bodyAt d0 := by
  simp only [cc0_body_eq_skeleton, cc0_body_skel, k0_part84_eq_skeleton, k0_part84_skel,
    k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel,
    body_t1, body_t2, body_t3, body_t4, body_t5, body_t6, body_t7, body_t8, semSignalWord, semWaitWord, Prog.lift, Prog.pure_eq_ret, Prog.bind_op, Prog.bind_ret, Prog.bind_assoc]
  rfl

end Cert.KernelIdeal.Attn
-- ==== Proof.KernelIdeal.Geometry.lean ====
module

public import proofs.«01_k».proof.Proof.KernelIdeal.Body
public import Idealize.ShloMosaic.Lib.Pipeline.Launch
public import Idealize.ShloMosaic.Lib.Pipeline.Kit
public import Idealize.ShloMosaic.Lib.Pipeline.Value
public import Idealize.ShloMosaic.Lib.VecWindow
public import Idealize.ShloMosaic.Lib.ValueIdxCore
public import Idealize.ShloMosaic.Lib.ValueLayout
public import Idealize.ShloMosaic.Lib.Tactic

/-!
# The ring, the slots and what they hold

Device `c` sends to `nb 0 c`, its right neighbour, and to `nb 1 c`, its left one; it receives in
direction `hi` from `un hi c`. A slot of the weight buffers falls into two lanes, one for each
direction. At step `s` a slot of device `c` holds, in lane 0, the weights of device `c - s` and, in
lane 1, those of device `c + s`: a function of the step that does not depend on the slot.
-/

@[expose] public section

set_option synthInstance.maxSize 4096

noncomputable section

namespace Cert.KernelIdeal.Attn

open Idealize.ShloMosaic Idealize.ShloMosaic.TcCoe Idealize.SL.Sem Idealize.ShloMosaic.ValueIdx Cert.KernelIdeal Cert.KernelIdeal.Gen

variable {F : FTy → Type} [FloatOps F]

/-! ## The ring -/

/-- The device `s` places to the left. -/
def back (s : ℕ) (c : Dev nD) : Dev nD := ⟨(c.val + 16 - s) % 8, Nat.mod_lt _ (by decide)⟩
/-- The device `s` places to the right. -/
def fwd (s : ℕ) (c : Dev nD) : Dev nD := ⟨(c.val + s) % 8, Nat.mod_lt _ (by decide)⟩

/-- The device that direction `hi` sends to. -/
def nb (hi : Fin 2) (c : Dev nD) : Dev nD := if hi = 0 then fwd 1 c else back 1 c
/-- The device that direction `hi` receives from. -/
def un (hi : Fin 2) (c : Dev nD) : Dev nD := if hi = 0 then back 1 c else fwd 1 c

theorem nb_un : ∀ hi c, nb hi (un hi c) = c := by decide +kernel
theorem un_nb : ∀ hi c, un hi (nb hi c) = c := by decide +kernel

/-- The neighbour map as a permutation of the devices. -/
def nbEquiv (hi : Fin 2) : Dev nD ≃ Dev nD := ⟨nb hi, un hi, un_nb hi, nb_un hi⟩
/-- Its inverse. -/
def unEquiv (hi : Fin 2) : Dev nD ≃ Dev nD := ⟨un hi, nb hi, nb_un hi, un_nb hi⟩

theorem back_nb : ∀ c : Dev nD, ∀ s, s ≤ 8 → back (s + 1) (nb 0 c) = back s c := by
  intro c s hs
  apply Fin.ext
  have := c.isLt
  show ((c.val + 1) % 8 + 16 - (s + 1)) % 8 = (c.val + 16 - s) % 8
  have : c.val < 8 := c.isLt
  omega

theorem fwd_nb : ∀ c : Dev nD, ∀ s, fwd (s + 1) (nb 1 c) = fwd s c := by
  intro c s
  apply Fin.ext
  show ((c.val + 16 - 1) % 8 + (s + 1)) % 8 = (c.val + s) % 8
  omega

theorem headOf_eq (s : ℕ) (d : Dev nD) (k : ℕ) :
    headOf s d k = 8 * (if k < 4 then back s d else fwd s d).val + k := by
  unfold headOf back fwd
  split <;> rfl

/-! ## Element sets of the lanes -/

theorem mem_rectW {σ hi : Fin 2} {i : S2x1024x1024.Idx} :
    i ∈ (Rect.unit (s := S2x1024x1024) ![σ.val, 0, 512 * hi.val] S1x1024x512.size (inb_laneW σ hi)).set ↔
      (i 0).val = σ.val ∧ 512 * hi.val ≤ (i 2).val ∧ (i 2).val < 512 * hi.val + 512 := by
  rw [Rect.mem_set_unit]
  constructor
  · intro h
    have h0 : σ.val ≤ (i 0).val ∧ (i 0).val < σ.val + 1 := h 0
    have h2 : 512 * hi.val ≤ (i 2).val ∧ (i 2).val < 512 * hi.val + 512 := h 2
    exact ⟨by omega, h2⟩
  · rintro ⟨h0, h2⟩ a
    match a with
    | 0 => exact ⟨h0.ge, by show (i 0).val < σ.val + 1; omega⟩
    | 1 => exact ⟨Nat.zero_le _, by have : (i 1).val < 1024 := (i 1).isLt; show (i 1).val < 0 + 1024; omega⟩
    | 2 => exact h2

theorem mem_laneW {σ hi : Fin 2} (i : S2x1024x1024.Idx) :
    i ∈ (laneW σ hi).view.set ↔ (i 0).val = σ.val ∧ 512 * hi.val ≤ (i 2).val ∧ (i 2).val < 512 * hi.val + 512 := by
  have e : (laneW σ hi).view.set = (Rect.unit (s := S2x1024x1024) ![σ.val, 0, 512 * hi.val]
      S1x1024x512.size (inb_laneW σ hi)).set := by
    show (View.reshape _ _ _).set = _
    rw [View.set_reshape]
    exact View.set_slice_whole _ _
  refine Iff.trans ?_ mem_rectW
  exact Eq.to_iff (congrArg (fun s : Finset S2x1024x1024.Idx => i ∈ s) e)

theorem mem_rectO {σ hi : Fin 2} {i : S2x1024x1024.Idx} :
    i ∈ (Rect.unit (s := S2x1024x1024) ![σ.val, 512 * hi.val, 0] S1x512x1024.size (inb_laneO σ hi)).set ↔
      (i 0).val = σ.val ∧ 512 * hi.val ≤ (i 1).val ∧ (i 1).val < 512 * hi.val + 512 := by
  rw [Rect.mem_set_unit]
  constructor
  · intro h
    have h0 : σ.val ≤ (i 0).val ∧ (i 0).val < σ.val + 1 := h 0
    have h2 : 512 * hi.val ≤ (i 1).val ∧ (i 1).val < 512 * hi.val + 512 := h 1
    exact ⟨by omega, h2⟩
  · rintro ⟨h0, h2⟩ a
    match a with
    | 0 => exact ⟨h0.ge, by show (i 0).val < σ.val + 1; omega⟩
    | 1 => exact h2
    | 2 => exact ⟨Nat.zero_le _, by have : (i 2).val < 1024 := (i 2).isLt; show (i 2).val < 0 + 1024; omega⟩

theorem mem_laneO {σ hi : Fin 2} (i : S2x1024x1024.Idx) :
    i ∈ (laneO σ hi).view.set ↔ (i 0).val = σ.val ∧ 512 * hi.val ≤ (i 1).val ∧ (i 1).val < 512 * hi.val + 512 := by
  have e : (laneO σ hi).view.set = (Rect.unit (s := S2x1024x1024) ![σ.val, 512 * hi.val, 0]
      S1x512x1024.size (inb_laneO σ hi)).set := by
    show (View.reshape _ _ _).set = _
    rw [View.set_reshape]
    exact View.set_slice_whole _ _
  refine Iff.trans ?_ mem_rectO
  exact Eq.to_iff (congrArg (fun s : Finset S2x1024x1024.Idx => i ∈ s) e)

/-- A slot's elements of a weight buffer. -/
def slotSet (σ : Fin 2) : Finset S2x1024x1024.Idx := Finset.univ.filter fun i => (i 0).val = σ.val

/-- The elements of a lane. -/
def setW (σ hi : Fin 2) : Finset S2x1024x1024.Idx :=
  Finset.univ.filter fun i => (i 0).val = σ.val ∧ 512 * hi.val ≤ (i 2).val ∧ (i 2).val < 512 * hi.val + 512

theorem mem_setW {σ hi : Fin 2} {i : S2x1024x1024.Idx} :
    i ∈ setW σ hi ↔ (i 0).val = σ.val ∧ 512 * hi.val ≤ (i 2).val ∧ (i 2).val < 512 * hi.val + 512 := by
  unfold setW
  rw [Finset.mem_filter]
  exact and_iff_right (Finset.mem_univ i)

theorem laneW_set (σ hi : Fin 2) : (laneW σ hi).view.set = setW σ hi :=
  Finset.ext fun (i : S2x1024x1024.Idx) => (mem_laneW i).trans mem_setW.symm

theorem slotW_eq (σ : Fin 2) : slotSet σ = setW σ 0 ∪ setW σ 1 := by
  ext i
  rw [Finset.mem_union, mem_setW, mem_setW, slotSet, Finset.mem_filter]
  have : (i 2).val < 1024 := (i 2).isLt
  constructor
  · intro h
    by_cases h2 : (i 2).val < 512
    · exact Or.inl ⟨h.2, by show 512 * 0 ≤ _; omega, by show _ < 512 * 0 + 512; omega⟩
    · exact Or.inr ⟨h.2, by show 512 * 1 ≤ _; omega, by show _ < 512 * 1 + 512; omega⟩
  · rintro (h | h) <;> exact ⟨Finset.mem_univ i, h.1⟩

theorem setW_disj (σ : Fin 2) : Disjoint (setW σ 0) (setW σ 1) :=
  Finset.disjoint_left.mpr fun i h h' => by
    have a : (i 2).val < 512 * 0 + 512 := (mem_setW.mp h).2.2
    have b : 512 * 1 ≤ (i 2).val := (mem_setW.mp h').2.1
    omega

/-- The elements of a lane. -/
def setO (σ hi : Fin 2) : Finset S2x1024x1024.Idx :=
  Finset.univ.filter fun i => (i 0).val = σ.val ∧ 512 * hi.val ≤ (i 1).val ∧ (i 1).val < 512 * hi.val + 512

theorem mem_setO {σ hi : Fin 2} {i : S2x1024x1024.Idx} :
    i ∈ setO σ hi ↔ (i 0).val = σ.val ∧ 512 * hi.val ≤ (i 1).val ∧ (i 1).val < 512 * hi.val + 512 := by
  unfold setO
  rw [Finset.mem_filter]
  exact and_iff_right (Finset.mem_univ i)

theorem laneO_set (σ hi : Fin 2) : (laneO σ hi).view.set = setO σ hi :=
  Finset.ext fun (i : S2x1024x1024.Idx) => (mem_laneO i).trans mem_setO.symm

theorem slotO_eq (σ : Fin 2) : slotSet σ = setO σ 0 ∪ setO σ 1 := by
  ext i
  rw [Finset.mem_union, mem_setO, mem_setO, slotSet, Finset.mem_filter]
  have : (i 1).val < 1024 := (i 1).isLt
  constructor
  · intro h
    by_cases h2 : (i 1).val < 512
    · exact Or.inl ⟨h.2, by show 512 * 0 ≤ _; omega, by show _ < 512 * 0 + 512; omega⟩
    · exact Or.inr ⟨h.2, by show 512 * 1 ≤ _; omega, by show _ < 512 * 1 + 512; omega⟩
  · rintro (h | h) <;> exact ⟨Finset.mem_univ i, h.1⟩

theorem setO_disj (σ : Fin 2) : Disjoint (setO σ 0) (setO σ 1) :=
  Finset.disjoint_left.mpr fun i h h' => by
    have a : (i 1).val < 512 * 0 + 512 := (mem_setO.mp h).2.2
    have b : 512 * 1 ≤ (i 1).val := (mem_setO.mp h').2.1
    omega

theorem mem_slotSet {σ : Fin 2} {i : S2x1024x1024.Idx} : i ∈ slotSet σ ↔ (i 0).val = σ.val := by
  unfold slotSet
  rw [Finset.mem_filter]
  exact and_iff_right (Finset.mem_univ i)

theorem slot_disj : Disjoint (slotSet 0) (slotSet 1) :=
  Finset.disjoint_left.mpr fun i h h' => by
    have a : (i 0).val = 0 := mem_slotSet.mp h
    have b : (i 0).val = 1 := mem_slotSet.mp h'
    omega

theorem slot_univ : slotSet 0 ∪ slotSet 1 = Finset.univ := by
  ext i
  rw [Finset.mem_union, mem_slotSet, mem_slotSet]
  have : (i 0).val < 2 := (i 0).isLt
  refine ⟨fun _ => Finset.mem_univ i, fun _ => ?_⟩
  show (i 0).val = 0 ∨ (i 0).val = 1
  omega

/-! ## What the slots hold -/

/-- Where an element of a lane lies in its buffer. -/
abbrev embW (σ hi : Fin 2) (x : S1024x512.Idx) : S2x1024x1024.Idx := (laneW σ hi).view.emb x
/-- Where an element of a lane lies in its buffer. -/
abbrev embO (σ hi : Fin 2) (x : S512x1024.Idx) : S2x1024x1024.Idx := (laneO σ hi).view.emb x
/-- Where an element of a head lies in its landing buffer. -/
abbrev embB (p : ℕ) (x : S1024x128.Idx) : S2x1024x128.Idx := (kBuf (oBuf p) (inb_oBuf p)).view.emb x

section Contents
variable (wq wo : Dev nD → Vec F S1024x1024 .f32)

/-- The query weights a slot of device `c` holds at step `s`. -/
def wAt (s : ℕ) (c : Dev nD) : Vec F S2x1024x1024 .f32 := fun i =>
  (if (i 2).val < 512 then wq (back s c) else wq (fwd s c)) (ix2 (i 1) (i 2))

/-- The output weights a slot of device `c` holds at step `s`. -/
def oAt (s : ℕ) (c : Dev nD) : Vec F S2x1024x1024 .f32 := fun i =>
  (if (i 1).val < 512 then wo (back s c) else wo (fwd s c)) (ix2 (i 1) (i 2))

omit [FloatOps F] in
theorem wAt_next (hi : Fin 2) (h : ℕ) (hh : h ≤ 8) (c : Dev nD) (i j : S2x1024x1024.Idx) (e1 : i 1 = j 1)
    (e2 : i 2 = j 2) (m : 512 * hi.val ≤ (j 2).val ∧ (j 2).val < 512 * hi.val + 512) :
    wAt wq h c i = wAt wq (h + 1) (nb hi c) j := by
  unfold wAt
  rw [e1, e2]
  match hi with
  | 0 =>
    have l : (j 2).val < 512 := m.2
    rw [if_pos l, if_pos l, back_nb c h hh]
  | 1 =>
    have l : ¬ (j 2).val < 512 := by
      have : 512 * 1 ≤ (j 2).val := m.1
      omega
    rw [if_neg l, if_neg l, fwd_nb c h]

omit [FloatOps F] in
/-- Lane `hi` of the query weights arrives as the next step's. -/
theorem laneW_arrives (hi : Fin 2) (h : ℕ) (hh : h ≤ 8) (σ σ' : Fin 2) (c : Dev nD)
    (fd : (laneW σ' hi).view.ty.Contents (Elt F)) :
    ∀ i ∈ (laneW σ' hi).view.set,
      (laneW σ' hi).view.write (Elt F) fd ((laneW σ hi).view.read (Elt F) (wAt wq h c)) Finset.univ i =
        wAt wq (h + 1) (nb hi c) i := by
  intro i hi'
  obtain ⟨x, -, rfl⟩ := Finset.mem_map.mp hi'
  refine (View.write_emb_of_mem _ _ (Finset.mem_univ x)).trans ?_
  exact wAt_next wq hi h hh c (embW σ hi x) (embW σ' hi x) rfl rfl
    ((mem_laneW (embW σ' hi x)).mp ((laneW σ' hi).view.emb_mem_set x)).2

omit [FloatOps F] in
theorem oAt_next (hi : Fin 2) (h : ℕ) (hh : h ≤ 8) (c : Dev nD) (i j : S2x1024x1024.Idx) (e1 : i 1 = j 1)
    (e2 : i 2 = j 2) (m : 512 * hi.val ≤ (j 1).val ∧ (j 1).val < 512 * hi.val + 512) :
    oAt wo h c i = oAt wo (h + 1) (nb hi c) j := by
  unfold oAt
  rw [e1, e2]
  match hi with
  | 0 =>
    have l : (j 1).val < 512 := m.2
    rw [if_pos l, if_pos l, back_nb c h hh]
  | 1 =>
    have l : ¬ (j 1).val < 512 := by
      have : 512 * 1 ≤ (j 1).val := m.1
      omega
    rw [if_neg l, if_neg l, fwd_nb c h]

omit [FloatOps F] in
/-- Lane `hi` of the output weights arrives as the next step's. -/
theorem laneO_arrives (hi : Fin 2) (h : ℕ) (hh : h ≤ 8) (σ σ' : Fin 2) (c : Dev nD)
    (fd : (laneO σ' hi).view.ty.Contents (Elt F)) :
    ∀ i ∈ (laneO σ' hi).view.set,
      (laneO σ' hi).view.write (Elt F) fd ((laneO σ hi).view.read (Elt F) (oAt wo h c)) Finset.univ i =
        oAt wo (h + 1) (nb hi c) i := by
  intro i hi'
  obtain ⟨x, -, rfl⟩ := Finset.mem_map.mp hi'
  refine (View.write_emb_of_mem _ _ (Finset.mem_univ x)).trans ?_
  exact oAt_next wo hi h hh c (embO σ hi x) (embO σ' hi x) rfl rfl
    ((mem_laneO (embO σ' hi x)).mp ((laneO σ' hi).view.emb_mem_set x)).2

end Contents

/-! ## The landing buffers of the heads -/

/-- The elements of a landing buffer. -/
def bufSet (p : ℕ) : Finset S2x1024x128.Idx := Finset.univ.filter fun i => (i 0).val = p % 2

theorem mem_bufSet {p : ℕ} {i : S2x1024x128.Idx} : i ∈ bufSet p ↔ (i 0).val = p % 2 := by
  unfold bufSet
  rw [Finset.mem_filter]
  exact and_iff_right (Finset.mem_univ i)

theorem buf_disj : Disjoint (bufSet 0) (bufSet 1) :=
  Finset.disjoint_left.mpr fun i h h' => by
    have a : (i 0).val = 0 % 2 := mem_bufSet.mp h
    have b : (i 0).val = 1 % 2 := mem_bufSet.mp h'
    omega

theorem buf_univ : bufSet 0 ∪ bufSet 1 = Finset.univ := by
  ext i
  rw [Finset.mem_union, mem_bufSet, mem_bufSet]
  have : (i 0).val < 2 := (i 0).isLt
  refine ⟨fun _ => Finset.mem_univ i, fun _ => ?_⟩
  omega

theorem mem_rectBuf (p : ℕ) (i : S2x1024x128.Idx) :
    i ∈ (Rect.unit (s := S2x1024x128) (oBuf p) S1x1024x128.size (inb_oBuf p)).set ↔ (i 0).val = p % 2 := by
  rw [Rect.mem_set_unit]
  constructor
  · intro h
    have h0 : p % 2 ≤ (i 0).val ∧ (i 0).val < p % 2 + 1 := h 0
    omega
  · intro h a
    match a with
    | 0 => exact ⟨h.ge, by show (i 0).val < p % 2 + 1; omega⟩
    | 1 => exact ⟨Nat.zero_le _, by have : (i 1).val < 1024 := (i 1).isLt; show (i 1).val < 0 + 1024; omega⟩
    | 2 => exact ⟨Nat.zero_le _, by have : (i 2).val < 128 := (i 2).isLt; show (i 2).val < 0 + 128; omega⟩

theorem kBuf_set (p : ℕ) : (kBuf (oBuf p) (inb_oBuf p)).view.set = bufSet p := by
  have e : (kBuf (oBuf p) (inb_oBuf p)).view.set = (Rect.unit (s := S2x1024x128) (oBuf p)
      S1x1024x128.size (inb_oBuf p)).set := by
    show (View.reshape _ _ _).set = _
    rw [View.set_reshape]
    exact View.set_slice_whole _ _
  exact e.trans (Finset.ext fun (i : S2x1024x128.Idx) => (mem_rectBuf p i).trans mem_bufSet.symm)

theorem vBuf_set (p : ℕ) : (vBuf (oBuf p) (inb_oBuf p)).view.set = bufSet p := by
  have e : (vBuf (oBuf p) (inb_oBuf p)).view.set = (Rect.unit (s := S2x1024x128) (oBuf p)
      S1x1024x128.size (inb_oBuf p)).set := by
    show (View.reshape _ _ _).set = _
    rw [View.set_reshape]
    exact View.set_slice_whole _ _
  exact e.trans (Finset.ext fun (i : S2x1024x128.Idx) => (mem_rectBuf p i).trans mem_bufSet.symm)

/-- A head of an array of heads, as a landing buffer holds it. -/
def headBuf (X : Vec F S1x1024x64x128 .f32) (h : ℕ) (hh : h < 64) : Vec F S2x1024x128 .f32 := fun i =>
  X (ix4 (0 : Fin 1) (i 1) (⟨h, hh⟩ : Fin 64) (i 2))

omit [FloatOps F] in
theorem src_read {T : Type} (X : S1x1024x64x128.Idx → T) (h : ℕ) (hh : h < 64) (p : ℕ) (x : S1024x128.Idx) :
    X ((kSrc (oSrc h) (inb_oSrc hh)).view.emb x) =
      X (ix4 (0 : Fin 1) ((embB p x) 1) (⟨h, hh⟩ : Fin 64)
        ((embB p x) 2)) := by
  have r : Shape.reshapeEquiv squeezes_S1x1024x1x128_S1024x128.numel_eq x =
      (ix4 (0 : Fin 1) (x 0) (0 : Fin 1) (x 1) : S1x1024x1x128.Idx) :=
    Shape.reshapeEquiv_eq_of_rowMajor _ ((Shape.rowMajor_val_four _).trans (Eq.trans (by
      show (((0 * 1024 + (x 0).val) * 1 + 0) * 128 + (x 1).val) = (x 0).val * 128 + (x 1).val
      omega) (Shape.rowMajor_val_two _).symm))
  have r' : Shape.reshapeEquiv squeezes_S1x1024x128_S1024x128.numel_eq x =
      (ix3 (0 : Fin 1) (x 0) (x 1) : S1x1024x128.Idx) :=
    Shape.reshapeEquiv_eq_of_rowMajor _ ((Shape.rowMajor_val_three _).trans (Eq.trans (by
      show ((0 * 1024 + (x 0).val) * 128 + (x 1).val) = (x 0).val * 128 + (x 1).val
      omega) (Shape.rowMajor_val_two _).symm))
  have e : (kSrc (oSrc h) (inb_oSrc hh)).view.emb x = (Rect.unit (s := S1x1024x64x128) (oSrc h)
      S1x1024x1x128.size (inb_oSrc hh)).emb (ix4 (0 : Fin 1) (x 0) (0 : Fin 1) (x 1) : S1x1024x1x128.Idx) :=
    congrArg (Rect.unit (s := S1x1024x64x128) (oSrc h) S1x1024x1x128.size (inb_oSrc hh)).emb r
  have e' : embB p x = (Rect.unit (s := S2x1024x128) (oBuf p)
      S1x1024x128.size (inb_oBuf p)).emb (ix3 (0 : Fin 1) (x 0) (x 1) : S1x1024x128.Idx) :=
    congrArg (Rect.unit (s := S2x1024x128) (oBuf p) S1x1024x128.size (inb_oBuf p)).emb r'
  rw [e']
  refine congrArg X (e.trans (funext fun a => Fin.ext ?_))
  match a with
  | 0 => rfl
  | 1 => rfl
  | 2 => show h + 1 * 0 = h; omega
  | 3 => rfl

omit [FloatOps F] in
/-- A key head lands. -/
theorem kBuf_lands (X : Vec F S1x1024x64x128 .f32) (h : ℕ) (hh : h < 64) (p : ℕ)
    (fd : (kBuf (oBuf p) (inb_oBuf p)).view.ty.Contents (Elt F)) :
    ∀ i ∈ (kBuf (oBuf p) (inb_oBuf p)).view.set,
      (kBuf (oBuf p) (inb_oBuf p)).view.write (Elt F) fd
        ((kSrc (oSrc h) (inb_oSrc hh)).view.read (Elt F) X) Finset.univ i = headBuf X h hh i := by
  intro i hi'
  obtain ⟨x, -, rfl⟩ := Finset.mem_map.mp hi'
  refine (View.write_emb_of_mem _ _ (Finset.mem_univ x)).trans ?_
  exact src_read X h hh p x

omit [FloatOps F] in
/-- A value head lands. -/
theorem vBuf_lands (X : Vec F S1x1024x64x128 .f32) (h : ℕ) (hh : h < 64) (p : ℕ)
    (fd : (vBuf (oBuf p) (inb_oBuf p)).view.ty.Contents (Elt F)) :
    ∀ i ∈ (vBuf (oBuf p) (inb_oBuf p)).view.set,
      (vBuf (oBuf p) (inb_oBuf p)).view.write (Elt F) fd
        ((vSrc (oSrc h) (inb_oSrc hh)).view.read (Elt F) X) Finset.univ i = headBuf X h hh i := by
  intro i hi'
  obtain ⟨x, -, rfl⟩ := Finset.mem_map.mp hi'
  refine (View.write_emb_of_mem _ _ (Finset.mem_univ x)).trans ?_
  exact src_read X h hh p x

end Cert.KernelIdeal.Attn
-- ==== Proof.KernelIdeal.Protocol.lean ====
module

public import proofs.«01_k».proof.Proof.KernelIdeal.Geometry
public import proofs.«01_k».proof.Proof.Gen.KernelIdeal.Launch
public import Idealize.ShloMosaic.Lib.Transfers

/-!
# The ring's protocol

Every device owns a barrier cell, two credit cells (one a direction) and, for each direction, kind
of weight and slot, a departure and an arrival cell. Hop `h` (1 to 7) moves every lane from the
slot of parity `h - 1` to the neighbour's slot of parity `h`, and is round `(h - 1) / 2` of its
departure and arrival cells. A departure returns the half share that was lent, an arrival brings
the lane at its next step, and a credit of step `h` hands back the lanes that were read at step
`h - 1`. Each arrival also carries that the sender has reached the next round of its credit cell,
and each credit that the receiver has reached the round of its arrival cell that the coming hop
will use.
-/

@[expose] public section

set_option synthInstance.maxSize 4096

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- The ring's rounds. -/
abbrev UR2 : Type := URounds (GSem nD τ sig) (Fin 2)
/-- The user algebra: the pipeline's rounds, the ring's, and the counters of local copies. -/
abbrev UU : Type := UR sig nD τ × (UR2 × Counters)

local notation "𝕄" => MT nD τ sig ℕ (Elt F) ℕ UU ℕ

/-- The pipeline's rounds. -/
abbrev EP : Emb (UR sig nD τ) (MT nD τ sig ℕ (Elt F) ℕ UU ℕ) := embL
/-- The ring's rounds. -/
def ER : Emb UR2 (MT nD τ sig ℕ (Elt F) ℕ UU ℕ) := (Emb.inl : Emb UR2 (UR2 × Counters)).trans embR
/-- The counters of local copies. -/
abbrev EC : UEmb Counters (MT nD τ sig ℕ (Elt F) ℕ UU ℕ) := countersEmb (U := UU)

instance ER_landsIn : (ER (F := F)).LandsIn (upEmb : UEmb _ 𝕄) := by unfold ER; infer_instance

/-! ## Cells -/

/-- The cells of one device. -/
inductive CK
  | bar
  | crd (hi : Fin 2)
  | snd (hi kd σ : Fin 2)
  | rcv (hi kd σ : Fin 2)
  deriving DecidableEq

instance : Fintype CK where
  elems := insert .bar ((Finset.univ : Finset (Fin 2)).image .crd
    ∪ ((Finset.univ : Finset (Fin 2 × Fin 2 × Fin 2)).image (fun p => .snd p.1 p.2.1 p.2.2)
      ∪ (Finset.univ : Finset (Fin 2 × Fin 2 × Fin 2)).image (fun p => .rcv p.1 p.2.1 p.2.2)))
  complete k := by
    simp only [Finset.mem_insert, Finset.mem_union, Finset.mem_image, Finset.mem_univ, true_and]
    cases k with
    | bar => exact Or.inl rfl
    | crd hi => exact Or.inr (Or.inl ⟨hi, rfl⟩)
    | snd hi kd σ => exact Or.inr (Or.inr (Or.inl ⟨(hi, kd, σ), rfl⟩))
    | rcv hi kd σ => exact Or.inr (Or.inr (Or.inr ⟨(hi, kd, σ), rfl⟩))

/-- The semaphore of a cell. -/
def csem : CK → SemLoc sig
  | .bar => .reg (SemArray.scalar (sig.barrier 0 rfl) : Sems sig S_).sem
  | .crd hi => if hi = 0 then .reg cc0_scratch9.sem else .reg cc0_scratch10.sem
  | .snd hi kd σ => .dma (sendSem hi kd σ)
  | .rcv hi kd σ => .dma (recvSem hi kd σ)

theorem csem_inj : ∀ k k' : CK, csem k = csem k' → k = k' := by decide +kernel

theorem csem_injective : Function.Injective csem := fun k k' h => csem_inj k k' h

/-- A cell of a device. -/
abbrev cell (c : Dev nD) (k : CK) : GSem nD τ sig := ((c : Thread nD τ), csem k)

theorem cell_injective : Function.Injective (fun ck : Dev nD × CK => cell ck.1 ck.2) := by
  rintro ⟨c, k⟩ ⟨c', k'⟩ h
  have h1 : (c : Thread nD τ) = c' := congrArg Prod.fst h
  have h2 : csem k = csem k' := congrArg Prod.snd h
  rw [csem_injective h2]
  exact congrArg (·, k') (congrArg Prod.fst h1)

/-- The units a lane's copy credits. -/
def NN : ℕ := (laneW 0 0).view.dmaCredit
theorem NN_pos : 0 < NN := View.dmaCredit_pos _ (by decide)
theorem creditW (σ hi : Fin 2) : (laneW σ hi).view.dmaCredit = NN := rfl
theorem creditO (σ hi : Fin 2) : (laneO σ hi).view.dmaCredit = NN := by decide +revert +kernel

/-! ## Lanes -/

section Proto
variable (wq wo : Dev nD → Vec F S1024x1024 .f32)

/-- A lane at the contents of a step: kind 0 the query weights, kind 1 the output weights. -/
def lanePts (kd σ hi : Fin 2) (c : Dev nD) (q : PosShare TreeShare) (s : ℕ) : sProp 𝕄 :=
  if kd = 0 then ((c : Thread nD τ).loc cc0_scratch0) ↦[setW σ hi]{q} wAt wq s c
  else ((c : Thread nD τ).loc cc0_scratch1) ↦[setO σ hi]{q} oAt wo s c

/-- A lane at any contents. -/
def laneFree (kd σ hi : Fin 2) (c : Dev nD) : sProp 𝕄 :=
  if kd = 0 then
    iprop(∃ f : Buf (Elt F) ((c : Thread nD τ).loc cc0_scratch0),
      ((c : Thread nD τ).loc cc0_scratch0) ↦[setW σ hi]{fullShare} f)
  else
    iprop(∃ f : Buf (Elt F) ((c : Thread nD τ).loc cc0_scratch1),
      ((c : Thread nD τ).loc cc0_scratch1) ↦[setO σ hi]{fullShare} f)

omit [FloatOps F] in
instance lanePts_storable (kd σ hi : Fin 2) (c : Dev nD) (q : PosShare TreeShare) (s : ℕ) :
    BI.Storable (upEmb : UEmb _ 𝕄) (lanePts wq wo kd σ hi c q s) := by
  unfold lanePts; split <;> infer_instance
omit [FloatOps F] in
instance laneFree_storable (kd σ hi : Fin 2) (c : Dev nD) :
    BI.Storable (upEmb : UEmb _ 𝕄) (laneFree (F := F) kd σ hi c) := by
  unfold laneFree; split <;> infer_instance

omit [FloatOps F] in
/-- Forget a lane's contents. -/
theorem laneFree_intro (kd σ hi : Fin 2) (c : Dev nD) (s : ℕ) :
    lanePts wq wo kd σ hi c fullShare s ⊢ laneFree (F := F) kd σ hi c := by
  unfold lanePts laneFree
  split <;> (iintro H; iexists _; iexact H)

/-! ## The schedule -/

/-- The share lent to a departing copy, and the share kept meanwhile. -/
abbrev lent : PosShare TreeShare := (fullShare : PosShare TreeShare).left
/-- The share kept. -/
abbrev kept : PosShare TreeShare := (fullShare : PosShare TreeShare).right

/-- The duties of a cell's round. -/
def dutiesK : CK → ℕ → Finset (Fin 2)
  | .bar, r => if r = 0 then Finset.univ else ∅
  | .crd _, r => if r < 6 then {0} else ∅
  | .snd _ _ σ, r => if 2 * r + σ.val + 1 ≤ 7 then {0} else ∅
  | .rcv _ _ σ, r => if 2 * r + 2 - σ.val ≤ 7 then {0} else ∅

/-- The units a duty contributes. -/
def amountK : CK → ℕ
  | .bar => 1
  | .crd _ => 1
  | .snd _ _ _ => NN
  | .rcv _ _ _ => NN

theorem amountK_pos (k : CK) : 0 < amountK k := by
  cases k <;> first | exact Nat.one_pos | exact NN_pos

/-- What the neighbour of direction `hi` hands over at the barrier: its second slot's lanes. -/
def barPay (hi : Fin 2) (c : Dev nD) : sProp 𝕄 :=
  iprop(laneFree 0 1 hi (nb hi c) ∗ laneFree 1 1 hi (nb hi c))

/-- What the credit of step `h` hands over: the neighbour's lanes for hop `h + 1`, and that the
    arrival cells have reached that hop's round. -/
def crdPay (hi : Fin 2) (c : Dev nD) (h : ℕ) : sProp 𝕄 :=
  iprop((laneFree 0 (slot (h + 1)) hi (nb hi c) ∗ laneFree 1 (slot (h + 1)) hi (nb hi c))
    ∗ reached ER (cell (nb hi c) (.rcv hi 0 (slot (h + 1)))) (h / 2)
    ∗ reached ER (cell (nb hi c) (.rcv hi 1 (slot (h + 1)))) (h / 2))

/-- What the arrival of hop `h` brings. -/
def rcvPay (hi kd : Fin 2) (c : Dev nD) (h : ℕ) : sProp 𝕄 :=
  iprop(lanePts wq wo kd (slot h) hi c fullShare h ∗ reached ER (cell (un hi c) (.crd hi)) (h - 1))

/-- What a duty hands over. -/
def payK (c : Dev nD) : CK → ℕ → Fin 2 → sProp 𝕄
  | .bar, _, d => barPay d c
  | .crd hi, r, _ => crdPay hi c (r + 1)
  | .snd hi kd σ, r, _ => lanePts wq wo kd (slot (2 * r + σ.val)) hi c lent (2 * r + σ.val)
  | .rcv hi kd σ, r, _ => rcvPay wq wo hi kd c (2 * r + 2 - σ.val)

instance payK_storable (c : Dev nD) (k : CK) (r : ℕ) (d : Fin 2) :
    BI.Storable (upEmb : UEmb _ 𝕄) (payK wq wo c k r d) := by
  cases k <;> (unfold payK) <;> first | (unfold barPay; infer_instance) | (unfold crdPay; infer_instance) | (unfold rcvPay; infer_instance) | infer_instance

/-- Which cell a semaphore is. -/
def decode (s : SemLoc sig) : Option CK := Function.partialInv csem s

theorem decode_csem (k : CK) : decode (csem k) = some k := Function.partialInv_left csem_injective k

/-- The ring's schedule. -/
def Rd : Rounds.Schedule (GSem nD τ sig) (Fin 2) 𝕄 where
  duties g r := if g.1.2 = .tc then (match decode g.2 with | some k => dutiesK k r | none => ∅) else ∅
  amount g _ _ := match decode g.2 with | some k => amountK k | none => 1
  payload g r d := match decode g.2 with | some k => payK wq wo g.1.1 k r d | none => iprop(emp)
  amount_pos g _ _ _ := by
    split
    · exact amountK_pos _
    · exact Nat.one_pos

instance Rd_storable (g : GSem nD τ sig) (r : ℕ) (d : Fin 2) :
    BI.Storable (upEmb : UEmb _ 𝕄) ((Rd wq wo).payload g r d) := by
  show BI.Storable upEmb (match decode g.2 with | some k => payK wq wo g.1.1 k r d | none => iprop(emp))
  split <;> infer_instance

theorem duties_cell (c : Dev nD) (k : CK) (r : ℕ) : (Rd wq wo).duties (cell c k) r = dutiesK k r := by
  dsimp only [Rd]
  rw [if_pos rfl, decode_csem]
theorem amount_cell (c : Dev nD) (k : CK) (r : ℕ) (d : Fin 2) : (Rd wq wo).amount (cell c k) r d = amountK k := by
  dsimp only [Rd]
  rw [decode_csem]
theorem payload_cell (c : Dev nD) (k : CK) (r : ℕ) (d : Fin 2) :
    (Rd wq wo).payload (cell c k) r d = payK wq wo c k r d := by
  dsimp only [Rd]
  rw [decode_csem]

/-- A round with one duty expects that duty's units. -/
theorem expect_one (c : Dev nD) (k : CK) (r : ℕ) (h : dutiesK k r = {0}) :
    (Rd wq wo).expect (cell c k) r = amountK k := by
  unfold Schedule.expect Schedule.amountOf
  rw [duties_cell, h, Finset.sum_singleton, amount_cell]

theorem expect_bar (c : Dev nD) : (Rd wq wo).expect (cell c .bar) 0 = 2 := by
  unfold Schedule.expect Schedule.amountOf
  rw [duties_cell, show dutiesK .bar 0 = Finset.univ from rfl, Fin.sum_univ_two, amount_cell, amount_cell]
  rfl

theorem rest_one (c : Dev nD) (k : CK) (r : ℕ) (h : dutiesK k r = {0}) :
    bigSep ((Rd wq wo).duties (cell c k) r \ ∅) (fun d => (Rd wq wo).payload (cell c k) r d) =
      payK wq wo c k r 0 := by
  rw [Finset.sdiff_empty, duties_cell, h, bigSep_singleton, payload_cell]

theorem rest_bar (c : Dev nD) :
    bigSep ((Rd wq wo).duties (cell c .bar) 0 \ ∅) (fun d => (Rd wq wo).payload (cell c .bar) 0 d) =
      iprop(barPay (F := F) 0 c ∗ barPay 1 c) := by
  rw [Finset.sdiff_empty, duties_cell, show dutiesK .bar 0 = Finset.univ from rfl,
    bigSep_univ_eq_bigSepL [(0 : Fin 2), 1] (by decide) (by decide), bigSepL_cons_cons, bigSepL_singleton,
    payload_cell, payload_cell]
  rfl

theorem duties_after (c : Dev nD) (k : CK) (r : ℕ) (h : ∀ r', r ≤ r' → dutiesK k r' = ∅) :
    ∀ r', r ≤ r' → (Rd wq wo).duties (cell c k) r' = ∅ :=
  fun r' hr => (duties_cell wq wo c k r').trans (h r' hr)

/-! Hop `h` seen from its cells. -/

theorem duties_snd (hi kd : Fin 2) {h : ℕ} (h1 : 1 ≤ h) (h7 : h ≤ 7) :
    dutiesK (.snd hi kd (slot (h + 1))) ((h - 1) / 2) = {0} :=
  if_pos (by show 2 * ((h - 1) / 2) + (h + 1) % 2 + 1 ≤ 7; omega)
theorem duties_rcv (hi kd : Fin 2) {h : ℕ} (h1 : 1 ≤ h) (h7 : h ≤ 7) :
    dutiesK (.rcv hi kd (slot h)) ((h - 1) / 2) = {0} :=
  if_pos (by show 2 * ((h - 1) / 2) + 2 - h % 2 ≤ 7; omega)
theorem duties_crd (hi : Fin 2) {h : ℕ} (h1 : 1 ≤ h) (h6 : h ≤ 6) : dutiesK (.crd hi) (h - 1) = {0} :=
  if_pos (by omega)

theorem pay_snd (c : Dev nD) (hi kd : Fin 2) {h : ℕ} (h1 : 1 ≤ h) (d : Fin 2) :
    payK wq wo c (.snd hi kd (slot (h + 1))) ((h - 1) / 2) d =
      lanePts wq wo kd (slot (h + 1)) hi c lent (h - 1) := by
  have e : 2 * ((h - 1) / 2) + (slot (h + 1)).val = h - 1 := by
    show 2 * ((h - 1) / 2) + (h + 1) % 2 = h - 1
    omega
  have e' : slot (h - 1) = slot (h + 1) := Fin.ext (by show (h - 1) % 2 = (h + 1) % 2; omega)
  show lanePts wq wo kd (slot (2 * ((h - 1) / 2) + (slot (h + 1)).val)) hi c lent _ = _
  rw [e, e']
theorem pay_rcv (c : Dev nD) (hi kd : Fin 2) {h : ℕ} (h1 : 1 ≤ h) (d : Fin 2) :
    payK wq wo c (.rcv hi kd (slot h)) ((h - 1) / 2) d = rcvPay wq wo hi kd c h := by
  have e : 2 * ((h - 1) / 2) + 2 - (slot h).val = h := by
    show 2 * ((h - 1) / 2) + 2 - h % 2 = h
    omega
  show rcvPay wq wo hi kd c (2 * ((h - 1) / 2) + 2 - (slot h).val) = _
  rw [e]
theorem pay_crd (c : Dev nD) (hi : Fin 2) {h : ℕ} (h1 : 1 ≤ h) (d : Fin 2) :
    payK wq wo c (.crd hi) (h - 1) d = crdPay (F := F) hi c h := by
  show crdPay hi c (h - 1 + 1) = _
  rw [Nat.sub_add_cancel h1]

end Proto

/-! ## Levels -/

/-- The indices of a cell that carry a level. -/
def L (g : GSem nD τ sig) : Finset ℕ := if g.1.2 = .tc then Finset.range 8 else ∅
/-- A cell's level at an index. -/
def lvK : CK → ℕ → ℕ
  | .bar, _ => 1
  | .crd _, ι => 2 * ι + 1
  | .snd _ _ _, _ => 0
  | .rcv _ _ _, ι => 2 * ι
/-- The levels. -/
def lv (g : GSem nD τ sig) (ι : ℕ) : ℕ := match decode g.2 with | some k => lvK k ι | none => 0

theorem lv_cell (c : Dev nD) (k : CK) (ι : ℕ) : lv (cell c k) ι = lvK k ι := by
  unfold lv
  rw [decode_csem]

theorem mem_L (c : Dev nD) (sm : SemLoc sig) {ι : ℕ} (h : ι < 8) : ι ∈ L ((c : Thread nD τ), sm) := by
  unfold L
  rw [if_pos rfl]
  exact Finset.mem_range.mpr h

/-- Everything owed lies at level `n` or above. -/
def OweGe (n : ℕ) (O : CellTallies nD τ sig ℕ) : Prop := ∀ g ι, 0 < O g ι → ι ∈ L g ∧ n ≤ lv g ι

theorem OweGe.zero (n : ℕ) : OweGe n 0 := fun _ _ h => absurd h (Nat.lt_irrefl 0)
theorem OweGe.add {n : ℕ} {O O' : CellTallies nD τ sig ℕ} (h : OweGe n O) (h' : OweGe n O') : OweGe n (O + O') := by
  intro g ι hp
  rw [Pi.add_apply, Finsupp.add_apply] at hp
  rcases Nat.eq_zero_or_pos (O g ι) with e | e
  · exact h' g ι (by omega)
  · exact h g ι e
theorem OweGe.mono {n n' : ℕ} (hn : n' ≤ n) {O : CellTallies nD τ sig ℕ} (h : OweGe n O) : OweGe n' O :=
  fun g ι hp => ⟨(h g ι hp).1, hn.trans (h g ι hp).2⟩
theorem OweGe.tally {n : ℕ} (c : Dev nD) (k : CK) {ι : ℕ} (a : ℕ) (hι : ι < 8) (hn : n ≤ lvK k ι) :
    OweGe n (tallyAt (cell c k) ι a) := by
  intro g ι' hp
  rw [tallyAt_apply] at hp
  by_cases e : g = cell c k ∧ ι' = ι
  · rw [e.1, e.2, lv_cell]
    exact ⟨mem_L c _ hι, hn⟩
  · rw [if_neg e] at hp
    exact absurd hp (Nat.lt_irrefl 0)

omit [FloatOps F] in
/-- One may wait below everything owed. -/
theorem mayWait (c : Dev nD) (sm : SemLoc sig) {ι : ℕ} (n : ℕ) (hι : ι < 8)
    (hl : lv ((c : Thread nD τ), sm) ι ≤ n) {O : CellTallies nD τ sig ℕ} (hO : OweGe (n + 1) O) :
    (levAts L lv : sProp 𝕄) ⊢ MayWait (c : Thread nD τ) sm ι O :=
  MayOwe.of_cut (L := L) (lev := lv) n
    (fun p hp => by rw [Finset.mem_singleton.mp hp]; exact mem_L c sm hι)
    (fun g ι hg => (hO g ι hg).1)
    (fun p hp => by rw [Finset.mem_singleton.mp hp]; exact hl)
    (fun g ι hg => (hO g ι hg).2)

/-! ## What a device owes -/

/-- A lane of hop `h`. -/
abbrev sendTL (h : ℕ) (c : Dev nD) (hi kd : Fin 2) : CellTallies nD τ sig ℕ :=
  tallyAt (cell (nb hi c) (.rcv hi kd (slot h))) h NN
/-- The arrivals of hop `h`. -/
def sendT (h : ℕ) (c : Dev nD) : CellTallies nD τ sig ℕ :=
  sendTL h c 1 1 + sendTL h c 1 0 + sendTL h c 0 1 + sendTL h c 0 0
/-- A credit of step `h`. -/
abbrev crdTL (h : ℕ) (c : Dev nD) (hi : Fin 2) : CellTallies nD τ sig ℕ := tallyAt (cell (un hi c) (.crd hi)) h 1
/-- The credits of step `h`. -/
def crdT (h : ℕ) (c : Dev nD) : CellTallies nD τ sig ℕ := crdTL h c 1 + crdTL h c 0
/-- The entry hand-shake: the left neighbour first. -/
def barT (c : Dev nD) : CellTallies nD τ sig ℕ :=
  tallyAt (cell (un 1 c) .bar) 0 1 + tallyAt (cell (un 0 c) .bar) 0 1
/-- What the last `n` hops owe: each hop's arrivals and the credits of the step before it. -/
def restN (c : Dev nD) : ℕ → CellTallies nD τ sig ℕ
  | 0 => 0
  | n + 1 => restN c n + sendT (7 - n) c + crdT (6 - n) c
/-- What follows the sends of hop `h`. -/
def restT (c : Dev nD) (h : ℕ) : CellTallies nD τ sig ℕ := restN c (7 - h)
/-- Everything. -/
def O₀ (c : Dev nD) : CellTallies nD τ sig ℕ := restT c 1 + sendT 1 c + barT c

theorem restT_step (c : Dev nD) {h : ℕ} (h6 : h ≤ 6) : restT c h = restT c (h + 1) + sendT (h + 1) c + crdT h c := by
  have e : 7 - h = (7 - (h + 1)) + 1 := by omega
  have e1 : 7 - (7 - (h + 1)) = h + 1 := by omega
  have e2 : 6 - (7 - (h + 1)) = h := by omega
  unfold restT
  rw [e, restN, e1, e2]
theorem restT_last (c : Dev nD) : restT c 7 = 0 := rfl

theorem OweGe.sendT {n h : ℕ} (c : Dev nD) (h7 : h ≤ 7) (hn : n ≤ 2 * h) : OweGe n (sendT h c) := by
  unfold Attn.sendT
  refine OweGe.add (OweGe.add (OweGe.add ?_ ?_) ?_) ?_ <;> exact OweGe.tally _ _ _ (by omega) hn
theorem OweGe.crdT {n h : ℕ} (c : Dev nD) (h7 : h ≤ 7) (hn : n ≤ 2 * h + 1) : OweGe n (crdT h c) := by
  unfold Attn.crdT
  refine OweGe.add ?_ ?_ <;> exact OweGe.tally _ _ _ (by omega) hn
theorem OweGe.restN {n : ℕ} (c : Dev nD) : ∀ m, m ≤ 6 → n ≤ 2 * (7 - m) + 1 → OweGe n (restN c m)
  | 0, _, _ => OweGe.zero n
  | m + 1, h, hn => ((OweGe.restN c m (by omega) (by omega)).add
      (OweGe.sendT c (by omega) (by omega))).add (OweGe.crdT c (by omega) (by omega))
theorem OweGe.restT {n h : ℕ} (c : Dev nD) (h1 : 1 ≤ h) (h7 : h ≤ 7) (hn : n ≤ 2 * h + 1) : OweGe n (restT c h) :=
  OweGe.restN c _ (by omega) (by omega)
theorem OweGe.barT (c : Dev nD) : OweGe 1 (barT c) :=
  (OweGe.tally _ _ _ (by omega) (le_refl 1)).add (OweGe.tally _ _ _ (by omega) (le_refl 1))
theorem OweGe.O₀ (c : Dev nD) : OweGe 1 (O₀ c) :=
  ((OweGe.restT c (by omega) (by omega) (by omega)).add (OweGe.sendT c (by omega) (by omega))).add (OweGe.barT c)

end Cert.KernelIdeal.Attn
-- ==== Proof.KernelIdeal.Ring.lean ====
module

public import proofs.«01_k».proof.Proof.KernelIdeal.Protocol

/-!
# Rules for the ring's operations

One rule for a lane's send, one for a lane's two waits, and from them the four sends and the waits
of a hop; the credits of a step; the entry hand-shake.
-/

@[expose] public section

set_option synthInstance.maxSize 4096

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a piece of the body on device `c`. -/
abbrev wpc (c : Dev nD) (P : KProg F) (Q : PUnit → sProp 𝕄) : sProp 𝕄 :=
  wp frame (wpE (defs₀ (F := F)) 𝒱₀ (c : Thread nD τ) none) Set.univ P Q

/-- What a device owes, whatever it has waited for. -/
def owesE (c : Dev nD) (O : CellTallies nD τ sig ℕ) : sProp 𝕄 := iprop(∃ W, owes (c : Thread nD τ) O W)

/-- An owner's position at the start of a round. -/
def stand (c : Dev nD) (k : CK) (r : ℕ) : sProp 𝕄 :=
  iprop(atPos ER (cell c k) r ∅ 0 ∗ reached ER (cell c k) r)

/-- A proposition for each direction and kind, in the order of the body. -/
def four (P : Fin 2 → Fin 2 → sProp 𝕄) : sProp 𝕄 := iprop(P 0 0 ∗ P 0 1 ∗ P 1 0 ∗ P 1 1)

omit [FloatOps F] in
theorem four_mono {P P' : Fin 2 → Fin 2 → sProp 𝕄} (h : ∀ hi kd, P hi kd ⊢ P' hi kd) : four P ⊢ four P' :=
  BIClass.sep_mono (h 0 0) (BIClass.sep_mono (h 0 1) (BIClass.sep_mono (h 1 0) (h 1 1)))
omit [FloatOps F] in
theorem four_sep {P P' : Fin 2 → Fin 2 → sProp 𝕄} : four (fun hi kd => iprop(P hi kd ∗ P' hi kd)) ⊢ iprop(four P ∗ four P') := by
  unfold four
  iintro ⟨⟨A, A'⟩, ⟨B, B'⟩, ⟨C, C'⟩, ⟨D, D'⟩⟩
  isplitl [A B C D]
  · isplitl [A]; · iexact A
    isplitl [B]; · iexact B
    isplitl [C] <;> iassumption
  · isplitl [A']; · iexact A'
    isplitl [B']; · iexact B'
    isplitl [C'] <;> iassumption
omit [FloatOps F] in
theorem four_join {P P' : Fin 2 → Fin 2 → sProp 𝕄} : iprop(four P ∗ four P') ⊢ four (fun hi kd => iprop(P hi kd ∗ P' hi kd)) := by
  unfold four
  iintro ⟨⟨A, B, C, D⟩, A', B', C', D'⟩
  isplitl [A A']; · isplitl [A] <;> iassumption
  isplitl [B B']; · isplitl [B] <;> iassumption
  isplitl [C C']; · isplitl [C] <;> iassumption
  isplitl [D] <;> iassumption
omit [FloatOps F] in
instance four_persistent (P : Fin 2 → Fin 2 → sProp 𝕄) [∀ hi kd, BI.Persistent (P hi kd)] : BI.Persistent (four P) := by
  unfold four; infer_instance

section Rules
variable (wq wo : Dev nD → Vec F S1024x1024 .f32) (K : Dev nD × CK → ℕ)

/-- Every device knows every cell's invariant, and that round 0 is reached. -/
def records : sProp 𝕄 :=
  iprop(bigSep Finset.univ (fun ck : Dev nD × CK => cellInv ER (Rd wq wo) (K ck) (cell ck.1 ck.2))
    ∗ bigSep Finset.univ (fun ck : Dev nD × CK => reached ER (cell ck.1 ck.2) 0))

instance records_persistent : BI.Persistent (records wq wo K) := by unfold records; infer_instance

theorem inv_elim (c : Dev nD) (k : CK) :
    bigSep Finset.univ (fun ck : Dev nD × CK => (cellInv ER (Rd wq wo) (K ck) (cell ck.1 ck.2) : sProp 𝕄))
      ⊢ cellInv ER (Rd wq wo) (K (c, k)) (cell c k) :=
  bigSep_elim (Finset.mem_univ (c, k))
omit [FloatOps F] in
theorem reached_elim (c : Dev nD) (k : CK) :
    bigSep Finset.univ (fun ck : Dev nD × CK => (reached ER (cell ck.1 ck.2) 0 : sProp 𝕄)) ⊢ reached ER (cell c k) 0 :=
  bigSep_elim (Finset.mem_univ (c, k))
theorem inv_at (c : Dev nD) (k : CK) : records wq wo K ⊢ cellInv ER (Rd wq wo) (K (c, k)) (cell c k) := by
  unfold records
  iintro ⟨H, -⟩
  iapply (inv_elim wq wo K c k)
  iexact H
theorem reached_at (c : Dev nD) (k : CK) : records wq wo K ⊢ (reached ER (cell c k) 0 : sProp 𝕄) := by
  unfold records
  iintro ⟨-, H⟩
  iapply (reached_elim c k)
  iexact H

/-! ## One lane -/

/-- What a lane's send of hop `h` uses beside what is owed. -/
def sendPre (h : ℕ) (c : Dev nD) (hi kd : Fin 2) : sProp 𝕄 :=
  iprop(lanePts wq wo kd (slot (h + 1)) hi c lent (h - 1) ∗ laneFree kd (slot h) hi (nb hi c)
    ∗ dutyTok ER (cell c (.snd hi kd (slot (h + 1)))) ((h - 1) / 2) 0
    ∗ dutyTok ER (cell (nb hi c) (.rcv hi kd (slot h))) ((h - 1) / 2) 0
    ∗ reached ER (cell c (.snd hi kd (slot (h + 1)))) ((h - 1) / 2)
    ∗ reached ER (cell (nb hi c) (.rcv hi kd (slot h))) ((h - 1) / 2)
    ∗ reached ER (cell c (.crd hi)) (h - 1))

/-- The credit a lane's send leaves. -/
def sndCred (h : ℕ) (c : Dev nD) (hi kd : Fin 2) : sProp 𝕄 := cred (tallyAt (cell c (.snd hi kd (slot (h + 1)))) h NN)

theorem wp_lane_send (hi kd : Fin 2) {h : ℕ} (h1 : 1 ≤ h) (h7 : h ≤ 7) (c n : Dev nD) (hn : n = nb hi c)
    {s : Shape} (src dst : Memref sig .tc .vmem s .f32) (fs : Buf (Elt F) (src.view.loc (c : Thread nD τ)))
    (hN : dst.view.dmaCredit = NN)
    (hsrc : lanePts wq wo kd (slot (h + 1)) hi c lent (h - 1) = (src.view.loc (c : Thread nD τ) ↦[src.view.set]{lent} fs : sProp 𝕄))
    (hdst : laneFree kd (slot h) hi (nb hi c) ⊢ iprop(∃ fd : Buf (Elt F) (dst.view.loc (nb hi c : Thread nD τ)),
      (dst.view.loc (nb hi c : Thread nD τ) ↦[dst.view.set]{fullShare} fd : sProp 𝕄)))
    (harr : ∀ fd : Buf (Elt F) (dst.view.loc (nb hi c : Thread nD τ)),
      (dst.view.loc (nb hi c : Thread nD τ) ↦[dst.view.set]{fullShare} (dst.view.write (Elt F) fd (src.view.read (Elt F) fs) Finset.univ) : sProp 𝕄)
        ⊢ lanePts wq wo kd (slot h) hi (nb hi c) fullShare h)
    {hsc : (dst : Memref sig (Dev.tc n : Thread nD τ).2.kind .vmem s .f32).view.ref.isScScratch = false}
    {hs : src.view.WordExact} {hd : dst.view.WordExact}
    {hty : DmaTarget.Typed .vmem (.dma (recvSem hi kd (slot h)))
      (.remote (Dev.tc n : Thread nD τ) (dst : Memref sig .tc .vmem s .f32) (.dma (sendSem hi kd (slot (h + 1)))) hsc)}
    {k : PUnit → KProg F} {Q : PUnit → sProp 𝕄} (O : CellTallies nD τ sig ℕ) :
    iprop(records wq wo K ∗ sendPre wq wo h c hi kd ∗ owesE c (O + sendTL h c hi kd))
      ⊢ iprop(((sndCred h c hi kd ∗ owesE c O) -∗ wpc c (k ⟨⟩) Q)
        -∗ wpc c (.op (.enqueueDma src (.remote (Dev.tc n : Thread nD τ) dst (.dma (sendSem hi kd (slot (h + 1)))) hsc)
            (.dma (recvSem hi kd (slot h))) hs hd hty) k) Q) := by
  subst hn
  unfold sendPre owesE sndCred
  iintro ⟨#HR, ⟨Hs, Hd, Ht1, Ht2, #Hr1, #Hr2, #Hr3⟩, ⟨%W, HO⟩⟩ Hk
  ihave Hd' := hdst $$ Hd
  icases Hd' with ⟨%fd, Hd⟩
  ihave Hs' := (Entails.of_eq hsrc) $$ Hs
  iapply (Rounds.wp_send_pointsTo_with 𝒱₀ ER (Rd wq wo) (c : Thread nD τ) none (κ₁ := K (c, .snd hi kd (slot (h + 1))))
      (κ₂ := K (nb hi c, .rcv hi kd (slot h))) (r₁ := (h - 1) / 2) (r₂ := (h - 1) / 2) (d₁ := 0) (d₂ := 0) (fd := fd)
      (F := reached ER (cell c (.crd hi)) (h - 1)) (sS := csem (.snd hi kd (slot (h + 1)))) (sem := csem (.rcv hi kd (slot h)))
      (by show (0 : Fin 2) ∈ (Rd wq wo).duties (cell c (.snd hi kd (slot (h + 1)))) _
          rw [duties_cell, duties_snd hi kd h1 h7]; exact Finset.mem_singleton_self _)
      (by show (0 : Fin 2) ∈ (Rd wq wo).duties (cell (nb hi c) (.rcv hi kd (slot h))) _
          rw [duties_cell, duties_rcv hi kd h1 h7]; exact Finset.mem_singleton_self _)
      h h NN hN (amount_cell wq wo c (.snd hi kd (slot (h + 1))) _ _) (amount_cell wq wo (nb hi c) (.rcv hi kd (slot h)) _ _)
      O rfl (W := W)
      (by rw [← hsrc]; exact Entails.of_eq ((payload_cell wq wo c (.snd hi kd (slot (h + 1))) _ _).trans (pay_snd wq wo c hi kd h1 0)).symm)
      (by
        refine BIBase.Entails.trans ?_ (Entails.of_eq ((payload_cell wq wo (nb hi c) (.rcv hi kd (slot h)) _ _).trans (pay_rcv wq wo (nb hi c) hi kd h1 0)).symm)
        unfold rcvPay
        rw [un_nb]
        exact BIClass.sep_mono (harr fd) (Entails.refl _)))
    $$ [HO Hs' Hd Ht1 Ht2]
  · isplitr; · iapply (inv_at wq wo K c (.snd hi kd (slot (h + 1)))); iexact HR
    isplitr; · iapply (inv_at wq wo K (nb hi c) (.rcv hi kd (slot h))); iexact HR
    isplitl [Hs']; · iexact Hs'
    isplitl [Hd]
    · isplitl [Hd]; · iexact Hd
      iexact Hr3
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W
  iexact HO

/-- What a lane's waits of hop `h` use. -/
def waitPre (h : ℕ) (c : Dev nD) (hi kd : Fin 2) : sProp 𝕄 :=
  iprop(stand c (.snd hi kd (slot (h + 1))) ((h - 1) / 2) ∗ stand c (.rcv hi kd (slot h)) ((h - 1) / 2)
    ∗ sndCred h c hi kd ∗ cred (tallyAt (cell c (.rcv hi kd (slot h))) h NN))
/-- What they leave. -/
def waitPost (h : ℕ) (c : Dev nD) (hi kd : Fin 2) : sProp 𝕄 :=
  iprop((stand c (.snd hi kd (slot (h + 1))) ((h - 1) / 2 + 1) ∗ stand c (.rcv hi kd (slot h)) ((h - 1) / 2 + 1))
    ∗ lanePts wq wo kd (slot (h + 1)) hi c lent (h - 1) ∗ rcvPay wq wo hi kd c h)

theorem wp_lane_wait (hi kd : Fin 2) {h : ℕ} (h1 : 1 ≤ h) (h7 : h ≤ 7) (c : Dev nD)
    {s : Shape} (src dst : Memref sig .tc .vmem s .f32) (hN : dst.view.dmaCredit = NN) (hN' : src.view.dmaCredit = NN)
    {hs hs' : src.view.WordExact} {hd hd' : dst.view.WordExact}
    {k : PUnit → KProg F} {Q : PUnit → sProp 𝕄} {O : CellTallies nD τ sig ℕ} (hO : OweGe (2 * h + 1) O) :
    iprop(records wq wo K ∗ levAts L lv ∗ waitPre h c hi kd ∗ owesE c O)
      ⊢ iprop(((waitPost wq wo h c hi kd ∗ owesE c O) -∗ wpc c (k ⟨⟩) Q)
        -∗ wpc c (.op (.waitDma2 (sendSem hi kd (slot (h + 1))) dst src hd hs) fun _ =>
            .op (.waitDma2 (recvSem hi kd (slot h)) src dst hs' hd') k) Q) := by
  unfold waitPre owesE sndCred stand
  iintro ⟨#HR, #Hlev, ⟨⟨Ha, -⟩, ⟨Hb, -⟩, Hc, Hc'⟩, ⟨%W, HO⟩⟩ Hk
  iapply (Rounds.wp_wait_rest_token 𝒱₀ ER (Rd wq wo) (c : Thread nD τ) none (κ := K (c, .snd hi kd (slot (h + 1))))
      (k' := NN) (sm := csem (.snd hi kd (slot (h + 1))))
      (fun K' => (wpE_waitDma2_eq 𝒱₀ (c : Thread nD τ) none Set.univ K').trans (by rw [hN']; rfl)) (Set.mem_univ _) h (O := O) (W := W) (R := (h - 1) / 2) (m := 0) (T := ∅)
      (by rw [Nat.zero_add]; exact (expect_one wq wo c (.snd hi kd (slot (h + 1))) _ (duties_snd hi kd h1 h7)).symm))
    $$ [Hc HO Ha]
  · isplitr; · iapply (inv_at wq wo K c (.snd hi kd (slot (h + 1)))); iexact HR
    isplitl [Hc]; · iexact Hc
    isplitl [HO]; · iexact HO
    isplitr
    · iapply (mayWait c (csem (.snd hi kd (slot (h + 1)))) 0 (by omega) (le_of_eq (lv_cell c (.snd hi kd (slot (h + 1))) h)) (hO.mono (by omega)))
      iexact Hlev
    iexact Ha
  iintro ⟨HO, Ha, #Hra, Hpay⟩
  ihave Hp := (Entails.of_eq ((rest_one wq wo c (.snd hi kd (slot (h + 1))) _ (duties_snd hi kd h1 h7)).trans (pay_snd wq wo c hi kd h1 0))) $$ Hpay
  iapply (Rounds.wp_wait_rest_token 𝒱₀ ER (Rd wq wo) (c : Thread nD τ) none (κ := K (c, .rcv hi kd (slot h)))
      (k' := NN) (sm := csem (.rcv hi kd (slot h)))
      (fun K' => (wpE_waitDma2_eq 𝒱₀ (c : Thread nD τ) none Set.univ K').trans (by rw [hN]; rfl)) (Set.mem_univ _) h (O := O) (R := (h - 1) / 2) (m := 0) (T := ∅)
      (by rw [Nat.zero_add]; exact (expect_one wq wo c (.rcv hi kd (slot h)) _ (duties_rcv hi kd h1 h7)).symm))
    $$ [Hc' HO Hb]
  · isplitr; · iapply (inv_at wq wo K c (.rcv hi kd (slot h))); iexact HR
    isplitl [Hc']; · iexact Hc'
    isplitl [HO]; · iexact HO
    isplitr
    · iapply (mayWait c (csem (.rcv hi kd (slot h))) (2 * h) (by omega) (le_of_eq (lv_cell c (.rcv hi kd (slot h)) h)) hO)
      iexact Hlev
    iexact Hb
  iintro ⟨HO, Hb, #Hrb, Hpay⟩
  ihave Hp' := (Entails.of_eq ((rest_one wq wo c (.rcv hi kd (slot h)) _ (duties_rcv hi kd h1 h7)).trans (pay_rcv wq wo c hi kd h1 0))) $$ Hpay
  iapply Hk
  isplitr [HO]
  · unfold waitPost stand
    isplitl [Ha Hb]
    · isplitl [Ha]
      · isplitl [Ha]; · iexact Ha
        iexact Hra
      · isplitl [Hb]; · iexact Hb
        iexact Hrb
    isplitl [Hp]; · iexact Hp
    iexact Hp'
  · iexists _
    iexact HO

/-! ## The operations of a hop -/

theorem wp_sendW (hi : Fin 2) {h : ℕ} (h1 : 1 ≤ h) (h7 : h ≤ 7) (c n : Dev nD) (hn : n = nb hi c)
    {P : KProg F} {Q : PUnit → sProp 𝕄} (O : CellTallies nD τ sig ℕ) :
    iprop(records wq wo K ∗ sendPre wq wo h c hi 0 ∗ owesE c (O + sendTL h c hi 0))
      ⊢ iprop(((sndCred h c hi 0 ∗ owesE c O) -∗ wpc c P Q) -∗ wpc c (sendW hi h n P) Q) := by
  unfold sendW
  exact wp_lane_send (k := fun _ => P) (Q := Q) wq wo K hi 0 h1 h7 c n hn (laneW (slot (h + 1)) hi) (laneW (slot h) hi) (wAt wq (h - 1) c) (creditW _ _)
    ((if_pos rfl).trans (congrArg (fun S => (((c : Thread nD τ).loc cc0_scratch0) ↦[S]{lent} wAt wq (h - 1) c : sProp 𝕄))
      (laneW_set (slot (h + 1)) hi).symm))
    (by
      unfold laneFree
      rw [if_pos rfl]
      iintro ⟨%f, H⟩
      iexists f
      iapply (Entails.of_eq (congrArg (fun S => (((nb hi c : Thread nD τ).loc cc0_scratch0) ↦[S]{fullShare} f : sProp 𝕄))
        (laneW_set (slot h) hi).symm))
      iexact H)
    (fun fd => Entails.of_eq (by
      have e : h - 1 + 1 = h := Nat.sub_add_cancel h1
      refine (pointsTo_congr (laneW_arrives wq hi (h - 1) (by omega) (slot (h + 1)) (slot h) c fd)).trans ?_
      rw [e]
      exact (congrArg (fun S => (((nb hi c : Thread nD τ).loc cc0_scratch0) ↦[S]{fullShare} wAt wq h (nb hi c) : sProp 𝕄))
        (laneW_set (slot h) hi)).trans (if_pos rfl).symm)) O

theorem wp_sendO (hi : Fin 2) {h : ℕ} (h1 : 1 ≤ h) (h7 : h ≤ 7) (c n : Dev nD) (hn : n = nb hi c)
    {P : KProg F} {Q : PUnit → sProp 𝕄} (O : CellTallies nD τ sig ℕ) :
    iprop(records wq wo K ∗ sendPre wq wo h c hi 1 ∗ owesE c (O + sendTL h c hi 1))
      ⊢ iprop(((sndCred h c hi 1 ∗ owesE c O) -∗ wpc c P Q) -∗ wpc c (sendO hi h n P) Q) := by
  unfold sendO
  exact wp_lane_send (k := fun _ => P) (Q := Q) wq wo K hi 1 h1 h7 c n hn (laneO (slot (h + 1)) hi) (laneO (slot h) hi) (oAt wo (h - 1) c) (creditO _ _)
    ((if_neg (by decide)).trans (congrArg (fun S => (((c : Thread nD τ).loc cc0_scratch1) ↦[S]{lent} oAt wo (h - 1) c : sProp 𝕄))
      (laneO_set (slot (h + 1)) hi).symm))
    (by
      unfold laneFree
      rw [if_neg (by decide)]
      iintro ⟨%f, H⟩
      iexists f
      iapply (Entails.of_eq (congrArg (fun S => (((nb hi c : Thread nD τ).loc cc0_scratch1) ↦[S]{fullShare} f : sProp 𝕄))
        (laneO_set (slot h) hi).symm))
      iexact H)
    (fun fd => Entails.of_eq (by
      have e : h - 1 + 1 = h := Nat.sub_add_cancel h1
      refine (pointsTo_congr (laneO_arrives wo hi (h - 1) (by omega) (slot (h + 1)) (slot h) c fd)).trans ?_
      rw [e]
      exact (congrArg (fun S => (((nb hi c : Thread nD τ).loc cc0_scratch1) ↦[S]{fullShare} oAt wo h (nb hi c) : sProp 𝕄))
        (laneO_set (slot h) hi)).trans (if_neg (by decide)).symm)) O

/-- The four sends of a hop. -/
theorem wp_sends {h : ℕ} (h1 : 1 ≤ h) (h7 : h ≤ 7) (c n₀ n₁ n₂ n₃ : Dev nD) (e₀ : n₀ = nb 0 c) (e₁ : n₁ = nb 0 c)
    (e₂ : n₂ = nb 1 c) (e₃ : n₃ = nb 1 c) {P : KProg F} {Q : PUnit → sProp 𝕄} (O : CellTallies nD τ sig ℕ) :
    iprop(records wq wo K ∗ four (sendPre wq wo h c) ∗ owesE c (O + sendT h c))
      ⊢ iprop(((four (sndCred h c) ∗ owesE c O) -∗ wpc c P Q) -∗ wpc c (sends h n₀ n₁ n₂ n₃ P) Q) := by
  rw [show O + sendT h c = O + sendTL h c 1 1 + sendTL h c 1 0 + sendTL h c 0 1 + sendTL h c 0 0 by
    unfold sendT; simp only [add_assoc]]
  unfold four sends
  iintro ⟨#HR, ⟨H00, H01, H10, H11⟩, HO⟩ Hk
  iapply (wp_sendW wq wo K 0 h1 h7 c n₀ e₀ _) $$ [H00 HO]
  · isplitr; · iexact HR
    isplitl [H00] <;> iassumption
  iintro ⟨H00, HO⟩
  iapply (wp_sendO wq wo K 0 h1 h7 c n₁ e₁ _) $$ [H01 HO]
  · isplitr; · iexact HR
    isplitl [H01] <;> iassumption
  iintro ⟨H01, HO⟩
  iapply (wp_sendW wq wo K 1 h1 h7 c n₂ e₂ _) $$ [H10 HO]
  · isplitr; · iexact HR
    isplitl [H10] <;> iassumption
  iintro ⟨H10, HO⟩
  iapply (wp_sendO wq wo K 1 h1 h7 c n₃ e₃ _) $$ [H11 HO]
  · isplitr; · iexact HR
    isplitl [H11] <;> iassumption
  iintro ⟨H11, HO⟩
  iapply Hk
  isplitr [HO]
  · isplitl [H00]; · iexact H00
    isplitl [H01]; · iexact H01
    isplitl [H10] <;> iassumption
  iexact HO

theorem wp_waitW (hi : Fin 2) {h : ℕ} (h1 : 1 ≤ h) (h7 : h ≤ 7) (c : Dev nD) {P : KProg F} {Q : PUnit → sProp 𝕄}
    {O : CellTallies nD τ sig ℕ} (hO : OweGe (2 * h + 1) O) :
    iprop(records wq wo K ∗ levAts L lv ∗ waitPre h c hi 0 ∗ owesE c O)
      ⊢ iprop(((waitPost wq wo h c hi 0 ∗ owesE c O) -∗ wpc c P Q) -∗ wpc c (waitW hi h P) Q) := by
  unfold waitW
  exact wp_lane_wait (k := fun _ => P) (Q := Q) wq wo K hi 0 h1 h7 c (laneW (slot (h + 1)) hi) (laneW (slot h) hi)
    (creditW _ _) (creditW _ _) hO

theorem wp_waitO (hi : Fin 2) {h : ℕ} (h1 : 1 ≤ h) (h7 : h ≤ 7) (c : Dev nD) {P : KProg F} {Q : PUnit → sProp 𝕄}
    {O : CellTallies nD τ sig ℕ} (hO : OweGe (2 * h + 1) O) :
    iprop(records wq wo K ∗ levAts L lv ∗ waitPre h c hi 1 ∗ owesE c O)
      ⊢ iprop(((waitPost wq wo h c hi 1 ∗ owesE c O) -∗ wpc c P Q) -∗ wpc c (waitO hi h P) Q) := by
  unfold waitO
  exact wp_lane_wait (k := fun _ => P) (Q := Q) wq wo K hi 1 h1 h7 c (laneO (slot (h + 1)) hi) (laneO (slot h) hi)
    (creditO _ _) (creditO _ _) hO

/-- The waits for a hop. -/
theorem wp_waits {h : ℕ} (h1 : 1 ≤ h) (h7 : h ≤ 7) (c : Dev nD) {P : KProg F} {Q : PUnit → sProp 𝕄}
    {O : CellTallies nD τ sig ℕ} (hO : OweGe (2 * h + 1) O) :
    iprop(records wq wo K ∗ levAts L lv ∗ four (waitPre h c) ∗ owesE c O)
      ⊢ iprop(((four (waitPost wq wo h c) ∗ owesE c O) -∗ wpc c P Q) -∗ wpc c (waits h P) Q) := by
  unfold four waits
  iintro ⟨#HR, #Hl, ⟨H00, H01, H10, H11⟩, HO⟩ Hk
  iapply (wp_waitW wq wo K 0 h1 h7 c hO) $$ [H00 HO]
  · isplitr; · iexact HR
    isplitr; · iexact Hl
    isplitl [H00] <;> iassumption
  iintro ⟨H00, HO⟩
  iapply (wp_waitO wq wo K 0 h1 h7 c hO) $$ [H01 HO]
  · isplitr; · iexact HR
    isplitr; · iexact Hl
    isplitl [H01] <;> iassumption
  iintro ⟨H01, HO⟩
  iapply (wp_waitW wq wo K 1 h1 h7 c hO) $$ [H10 HO]
  · isplitr; · iexact HR
    isplitr; · iexact Hl
    isplitl [H10] <;> iassumption
  iintro ⟨H10, HO⟩
  iapply (wp_waitO wq wo K 1 h1 h7 c hO) $$ [H11 HO]
  · isplitr; · iexact HR
    isplitr; · iexact Hl
    isplitl [H11] <;> iassumption
  iintro ⟨H11, HO⟩
  iapply Hk
  isplitr [HO]
  · isplitl [H00]; · iexact H00
    isplitl [H01]; · iexact H01
    isplitl [H10] <;> iassumption
  iexact HO

/-! ## The credits of a step -/

/-- What a direction's credit of step `h` uses when it is given. -/
def crdPre (h : ℕ) (c : Dev nD) (hi : Fin 2) : sProp 𝕄 :=
  iprop((laneFree 0 (slot (h + 1)) hi c ∗ laneFree 1 (slot (h + 1)) hi c)
    ∗ (reached ER (cell c (.rcv hi 0 (slot (h + 1)))) (h / 2) ∗ reached ER (cell c (.rcv hi 1 (slot (h + 1)))) (h / 2))
    ∗ dutyTok ER (cell (un hi c) (.crd hi)) (h - 1) 0 ∗ reached ER (cell (un hi c) (.crd hi)) (h - 1))

theorem wp_give (hi : Fin 2) {h : ℕ} (h1 : 1 ≤ h) (h6 : h ≤ 6) (c n : Dev nD) (hn : n = un hi c) {sem : Sem sig}
    (hs : csem (.crd hi) = .reg sem) {k : PUnit → KProg F} {Q : PUnit → sProp 𝕄} (O : CellTallies nD τ sig ℕ) :
    iprop(records wq wo K ∗ crdPre h c hi ∗ owesE c (O + crdTL h c hi))
      ⊢ iprop((owesE c O -∗ wpc c (k ⟨⟩) Q)
        -∗ wpc c (.op (.semSignal (Dev.tc n) sem (1#32 : BitVec 32).toInt) k) Q) := by
  subst hn
  unfold crdPre owesE
  iintro ⟨#HR, ⟨⟨Hf0, Hf1⟩, ⟨#Hr0, #Hr1⟩, Ht, #Hrc⟩, ⟨%W, HO⟩⟩ Hk
  iapply (Rounds.wp_signal 𝒱₀ ER (Rd wq wo) (c : Thread nD τ) none (dst := (un hi c : Thread nD τ)) (κ := K (un hi c, .crd hi))
      (sem := sem) (r := h - 1) (d := 0) (k' := 1)
      (by rw [← hs]
          show (0 : Fin 2) ∈ (Rd wq wo).duties (cell (un hi c) (.crd hi)) _
          rw [duties_cell, duties_crd hi h1 h6]; exact Finset.mem_singleton_self _)
      (by rw [← hs]; exact amount_cell wq wo (un hi c) (.crd hi) _ _) h O (by rw [← hs])) $$ [HO Ht Hf0 Hf1]
  · rw [← hs]
    isplitr; · iapply (inv_at wq wo K (un hi c) (.crd hi)); iexact HR
    isplitl [HO]; · iexact HO
    isplitl [Ht]; · iexact Ht
    isplitl [Hf0 Hf1]
    · iapply (Entails.of_eq ((payload_cell wq wo (un hi c) (.crd hi) (h - 1) 0).trans (pay_crd wq wo (un hi c) hi h1 0)).symm)
      unfold crdPay
      rw [nb_un]
      isplitl [Hf0 Hf1]; · isplitl [Hf0] <;> iassumption
      isplitr; · iexact Hr0
      iexact Hr1
    iexact Hrc
  iintro HO
  iapply Hk
  iexists W
  iexact HO

/-- What a direction's credit of step `h` uses when it is awaited. -/
def crdWait (h : ℕ) (c : Dev nD) (hi : Fin 2) : sProp 𝕄 :=
  iprop(stand c (.crd hi) (h - 1) ∗ cred (tallyAt (cell c (.crd hi)) h 1))
/-- What the awaited credit leaves. -/
def crdPost (h : ℕ) (c : Dev nD) (hi : Fin 2) : sProp 𝕄 := iprop(stand c (.crd hi) h ∗ crdPay hi c h)

theorem wp_take (hi : Fin 2) {h : ℕ} (h1 : 1 ≤ h) (h6 : h ≤ 6) (c : Dev nD) {sem : Sem sig}
    (hs : csem (.crd hi) = .reg sem) {k : PUnit → KProg F} {Q : PUnit → sProp 𝕄} {O : CellTallies nD τ sig ℕ}
    (hO : OweGe (2 * h + 2) O) :
    iprop(records wq wo K ∗ levAts L lv ∗ crdWait h c hi ∗ owesE c O)
      ⊢ iprop(((crdPost h c hi ∗ owesE c O) -∗ wpc c (k ⟨⟩) Q)
        -∗ wpc c (.op (.semWait sem (1#32 : BitVec 32).toInt) k) Q) := by
  unfold crdWait owesE stand
  iintro ⟨#HR, #Hlev, ⟨⟨Ha, -⟩, Hc⟩, ⟨%W, HO⟩⟩ Hk
  iapply (Rounds.wp_wait_rest_token 𝒱₀ ER (Rd wq wo) (c : Thread nD τ) none (κ := K (c, .crd hi))
      (k' := 1) (sm := csem (.crd hi))
      (fun K' => (wpE_semWait_eq 𝒱₀ (c : Thread nD τ) none Set.univ K').trans (by rw [hs]; rfl)) (Set.mem_univ _) h
      (O := O) (W := W) (R := h - 1) (m := 0) (T := ∅)
      (by rw [Nat.zero_add]; exact (expect_one wq wo c (.crd hi) _ (duties_crd hi h1 h6)).symm))
    $$ [Hc HO Ha]
  · isplitr; · iapply (inv_at wq wo K c (.crd hi)); iexact HR
    isplitl [Hc]; · iexact Hc
    isplitl [HO]; · iexact HO
    isplitr
    · iapply (mayWait c (csem (.crd hi)) (2 * h + 1) (by omega) (le_of_eq (lv_cell c (.crd hi) h)) hO)
      iexact Hlev
    iexact Ha
  rw [Nat.sub_add_cancel h1]
  iintro ⟨HO, Ha, #Hra, Hpay⟩
  ihave Hp := (Entails.of_eq ((rest_one wq wo c (.crd hi) _ (duties_crd hi h1 h6)).trans (pay_crd wq wo c hi h1 0))) $$ Hpay
  iapply Hk
  isplitr [HO]
  · unfold crdPost stand
    isplitl [Ha]
    · isplitl [Ha]; · iexact Ha
      iexact Hra
    iexact Hp
  · iexists _
    iexact HO

/-- The credits of a step. -/
theorem wp_credits {h : ℕ} (h1 : 1 ≤ h) (h6 : h ≤ 6) (c n₀ n₁ : Dev nD) (e₀ : n₀ = un 0 c) (e₁ : n₁ = un 1 c)
    {P : KProg F} {Q : PUnit → sProp 𝕄} (O : CellTallies nD τ sig ℕ) (hO : OweGe (2 * h + 2) O) :
    iprop(records wq wo K ∗ levAts L lv ∗ (crdPre h c 0 ∗ crdPre h c 1) ∗ (crdWait h c 0 ∗ crdWait h c 1) ∗ owesE c (O + crdT h c))
      ⊢ iprop((((crdPost h c 0 ∗ crdPost h c 1) ∗ owesE c O) -∗ wpc c P Q) -∗ wpc c (credits n₀ n₁ P) Q) := by
  rw [show O + crdT h c = O + crdTL h c 1 + crdTL h c 0 by unfold crdT; simp only [add_assoc]]
  unfold credits
  iintro ⟨#HR, #Hl, ⟨P0, P1⟩, ⟨W0, W1⟩, HO⟩ Hk
  iapply (wp_give wq wo K 0 h1 h6 c n₀ e₀ rfl _) $$ [P0 HO]
  · isplitr; · iexact HR
    isplitl [P0] <;> iassumption
  iintro HO
  iapply (wp_give wq wo K 1 h1 h6 c n₁ e₁ rfl _) $$ [P1 HO]
  · isplitr; · iexact HR
    isplitl [P1] <;> iassumption
  iintro HO
  iapply (wp_take wq wo K 0 h1 h6 c rfl hO) $$ [W0 HO]
  · isplitr; · iexact HR
    isplitr; · iexact Hl
    isplitl [W0] <;> iassumption
  iintro ⟨W0, HO⟩
  iapply (wp_take wq wo K 1 h1 h6 c rfl hO) $$ [W1 HO]
  · isplitr; · iexact HR
    isplitr; · iexact Hl
    isplitl [W1] <;> iassumption
  iintro ⟨W1, HO⟩
  iapply Hk
  isplitr [HO]
  · isplitl [W0] <;> iassumption
  iexact HO

/-! ## The entry hand-shake -/

/-- What a direction's entry signal uses. -/
def barPre (c : Dev nD) (hi : Fin 2) : sProp 𝕄 :=
  iprop((laneFree 0 1 hi c ∗ laneFree 1 1 hi c) ∗ dutyTok ER (cell (un hi c) .bar) 0 hi)

theorem wp_enter (hi : Fin 2) (c n : Dev nD) (hn : n = un hi c) {sem : Sem sig} (hs : csem .bar = .reg sem)
    {k : PUnit → KProg F} {Q : PUnit → sProp 𝕄} (O : CellTallies nD τ sig ℕ) :
    iprop(records wq wo K ∗ barPre c hi ∗ owesE c (O + tallyAt (cell (un hi c) .bar) 0 1))
      ⊢ iprop((owesE c O -∗ wpc c (k ⟨⟩) Q)
        -∗ wpc c (.op (.semSignal (Dev.tc n) sem (1#32 : BitVec 32).toInt) k) Q) := by
  subst hn
  unfold barPre owesE
  iintro ⟨#HR, ⟨⟨Hf0, Hf1⟩, Ht⟩, ⟨%W, HO⟩⟩ Hk
  iapply (Rounds.wp_signal 𝒱₀ ER (Rd wq wo) (c : Thread nD τ) none (dst := (un hi c : Thread nD τ)) (κ := K (un hi c, .bar))
      (sem := sem) (r := 0) (d := hi) (k' := 1)
      (by rw [← hs]
          show hi ∈ (Rd wq wo).duties (cell (un hi c) .bar) _
          rw [duties_cell]; exact Finset.mem_univ _)
      (by rw [← hs]; exact amount_cell wq wo (un hi c) .bar _ _) 0 O (by rw [← hs])) $$ [HO Ht Hf0 Hf1]
  · rw [← hs]
    isplitr; · iapply (inv_at wq wo K (un hi c) .bar); iexact HR
    isplitl [HO]; · iexact HO
    isplitl [Ht]; · iexact Ht
    isplitl [Hf0 Hf1]
    · iapply (show (barPay hi (un hi c) : sProp 𝕄) ⊢ (Rd wq wo).payload (cell (un hi c) .bar) 0 hi from
        Entails.of_eq (payload_cell wq wo (un hi c) .bar 0 hi).symm)
      unfold barPay
      rw [nb_un]
      isplitl [Hf0] <;> iassumption
    iapply (reached_at wq wo K (un hi c) .bar)
    iexact HR
  iintro HO
  iapply Hk
  iexists W
  iexact HO

/-- The entry hand-shake. -/
theorem wp_handshake (c n₀ n₁ : Dev nD) (e₀ : n₀ = un 0 c) (e₁ : n₁ = un 1 c)
    {P : KProg F} {Q : PUnit → sProp 𝕄} (O : CellTallies nD τ sig ℕ) (hO : OweGe 2 O) :
    iprop(records wq wo K ∗ levAts L lv ∗ (barPre c 0 ∗ barPre c 1)
        ∗ (atPos ER (cell c .bar) 0 ∅ 0 ∗ cred (tallyAt (cell c .bar) 0 2)) ∗ owesE c (O + barT c))
      ⊢ iprop(((atPos ER (cell c .bar) 1 ∅ 0 ∗ (barPay 0 c ∗ barPay 1 c) ∗ owesE c O) -∗ wpc c P Q)
        -∗ wpc c (handshake n₀ n₁ P) Q) := by
  rw [show O + barT c = O + tallyAt (cell (un 1 c) .bar) 0 1 + tallyAt (cell (un 0 c) .bar) 0 1 by
    unfold barT; simp only [add_assoc]]
  unfold handshake
  iintro ⟨#HR, #Hlev, ⟨P0, P1⟩, ⟨Ha, Hc⟩, HO⟩ Hk
  iapply (wp_enter wq wo K 0 c n₀ e₀ rfl _) $$ [P0 HO]
  · isplitr; · iexact HR
    isplitl [P0] <;> iassumption
  iintro HO
  iapply (wp_enter wq wo K 1 c n₁ e₁ rfl _) $$ [P1 HO]
  · isplitr; · iexact HR
    isplitl [P1] <;> iassumption
  unfold owesE
  iintro ⟨%W, HO⟩
  iapply (Rounds.wp_wait_rest_token 𝒱₀ ER (Rd wq wo) (c : Thread nD τ) none (κ := K (c, .bar))
      (k' := 2) (sm := csem .bar)
      (wpE_semWait_eq 𝒱₀ (c : Thread nD τ) none Set.univ) (Set.mem_univ _) 0
      (O := O) (W := W) (R := 0) (m := 0) (T := ∅)
      (by rw [Nat.zero_add]; exact (expect_bar wq wo c).symm))
    $$ [Hc HO Ha]
  · isplitr; · iapply (inv_at wq wo K c .bar); iexact HR
    isplitl [Hc]; · iexact Hc
    isplitl [HO]; · iexact HO
    isplitr
    · iapply (mayWait c (csem .bar) 1 (by omega) (le_of_eq (lv_cell c .bar 0)) hO)
      iexact Hlev
    iexact Ha
  iintro ⟨HO, Ha, -, Hpay⟩
  ihave Hp := (Entails.of_eq (rest_bar wq wo c)) $$ Hpay
  iapply Hk
  isplitl [Ha]; · iexact Ha
  isplitl [Hp]; · iexact Hp
  iexists _
  iexact HO

end Rules
end Cert.KernelIdeal.Attn
-- ==== Proof.KernelIdeal.Values.lean ====
module

public import proofs.«01_k».proof.Proof.KernelIdeal.Geometry

/-!
# What the body computes

The contents of the query buffer, of the accumulator after each head, and of the result, as functions
of the rows, the weights and the heads.
-/

@[expose] public section

set_option synthInstance.maxSize 4096

noncomputable section

namespace Cert.KernelIdeal.Attn

open Idealize.ShloMosaic Idealize.ShloMosaic.TcCoe Idealize.SL.Sem Idealize.ShloMosaic.ValueIdx Cert.KernelIdeal Cert.KernelIdeal.Gen

variable {F : FTy → Type} [FloatOps F]

/-- A row group of the accumulator after adding to it. -/
def accRow (r : Fin 4) (p : Vec F S256x1024 .f32 → FVec F S256x1024 .f32) (a : Vec F S1024x1024 .f32) :
    Vec F S1024x1024 .f32 :=
  VecWindow.put a ![256 * r.val, 0] S256x1024.size
    (p (VecWindow.window a ![256 * r.val, 0] S256x1024.size (inb_group r)))

/-- The accumulator after one head. -/
def accHead (q k v : Vec F S1x1024x128 .f32) (w : Vec F S1x128x1024 .f32) (a : Vec F S1024x1024 .f32) :
    Vec F S1024x1024 .f32 :=
  accRow 3 (rowPay 3 q k v w) (accRow 2 (rowPay 2 q k v w) (accRow 1 (rowPay 1 q k v w)
    (accRow 0 (rowPay 0 q k v w) a)))

/-- The slot's query weights at a step, as the body reads them. -/
def wRead (wq : Dev nD → Vec F S1024x1024 .f32) (s : ℕ) (c : Dev nD) : Vec F S1x1024x1024 .f32 :=
  VecWindow.window (wAt wq s c) ![(slot s).val, 0, 0] S1x1024x1024.size (inb_slot (slot s))

/-- The query buffer at a step. -/
def qAll (x : FVec F S1024x1024 .f32) (w : Vec F S1x1024x1024 .f32) : Vec F S8x1024x128 .f32 := fun i =>
  qPay (i 0) x w (ix3 (0 : Fin 1) (i 1) (i 2))

/-- A head's queries out of the query buffer. -/
def qRead (q : Vec F S8x1024x128 .f32) (k : ℕ) (hk : k < 8) : Vec F S1x1024x128 .f32 :=
  VecWindow.window q (oQry k) S1x1024x128.size (inb_oQry hk)

/-- A head out of a landing buffer. -/
def hRead (X : Vec F S1x1024x64x128 .f32) (h : ℕ) (hh : h < 64) (k : ℕ) : Vec F S1x1024x128 .f32 :=
  VecWindow.window (headBuf X h hh) (oBuf k) S1x1024x128.size (inb_oBuf k)

/-- A head's rows of the output weights held in the slot at a step. -/
def oRead (wo : Dev nD → Vec F S1024x1024 .f32) (s : ℕ) (c : Dev nD) (k : ℕ) (hk : k < 8) :
    Vec F S1x128x1024 .f32 :=
  VecWindow.window (oAt wo s c) (oWgt s k) S1x128x1024.size (inb_oWgt s hk)

section Run
variable (x : Vec F S1x1024x1024 .f32) (wq wo : Dev nD → Vec F S1024x1024 .f32)
    (X V : Vec F S1x1024x64x128 .f32) (c : Dev nD)

/-- What a trip of a step does to the accumulator. -/
def accTrip (s k : ℕ) (hk : k < 8) (a : Vec F S1024x1024 .f32) : Vec F S1024x1024 .f32 :=
  accHead (qRead (qAll (k0_pay105 x) (wRead wq s c)) k hk) (hRead X (headOf s c k) (headOf_lt s c hk) k)
    (hRead V (headOf s c k) (headOf_lt s c hk) k) (oRead wo s c k hk) a

/-- The accumulator of a step after its first `k` trips. -/
def accTrips (s : ℕ) (a : Vec F S1024x1024 .f32) : ℕ → Vec F S1024x1024 .f32
  | 0 => a
  | k + 1 => if hk : k < 8 then accTrip x wq wo X V c s k hk (accTrips s a k) else accTrips s a k

/-- The accumulator before a step. -/
def accAt : ℕ → Vec F S1024x1024 .f32
  | 0 => k0_pay104 (k0_pay103 (F := F))
  | s + 1 => accTrips x wq wo X V c s (accAt s) 8

theorem accTrips_succ (s : ℕ) (a : Vec F S1024x1024 .f32) {k : ℕ} (hk : k < 8) :
    accTrips x wq wo X V c s a (k + 1) = accTrip x wq wo X V c s k hk (accTrips x wq wo X V c s a k) :=
  dif_pos hk

end Run

/-- The result's rows out of the accumulator's: block `4 b + a` of sixty-four rows goes to rows
    `256 a + 64 b`. -/
def outOf (a : Vec F S1024x1024 .f32) : Vec F S1x1024x1024 .f32 := fun i =>
  a (ix2 (⟨64 * (4 * ((i 1).val % 256 / 64) + (i 1).val / 256) + (i 1).val % 64, by
      have : (i 1).val < 1024 := (i 1).isLt
      omega⟩ : Fin 1024) (i 2))

/-! ## The windows read -/

omit [FloatOps F] in
/-- Blocks stored so far, and one more. -/
theorem outOf_put (a : Vec F S1024x1024 .f32) (f : Vec F S1x1024x1024 .f32) (n : Fin 16)
    (h : ∀ i, 4 * ((i 1).val % 256 / 64) + (i 1).val / 256 < n.val → f i = outOf a i) :
    ∀ i, 4 * ((i 1).val % 256 / 64) + (i 1).val / 256 < n.val + 1 →
      VecWindow.put (s := S1x1024x1024) f ![0, 256 * (n.val % 4) + 64 * (n.val / 4), 0] S1x64x1024.size
        (shapeCast S1x64x1024 (VecWindow.window (s := S1024x1024) a ![64 * n.val, 0] S64x1024.size (inb_accRow n))
          shapeCasts_S64x1024_S1x64x1024) i = outOf a i := by
  intro i hi
  have h1 : (i 1).val < 1024 := (i 1).isLt
  have h2 : (i 2).val < 1024 := (i 2).isLt
  have h0 : (i 0).val < 1 := (i 0).isLt
  have hn := n.isLt
  unfold VecWindow.put
  split
  · next hin =>
    have g1 : 256 * (n.val % 4) + 64 * (n.val / 4) ≤ (i 1).val ∧ (i 1).val < 256 * (n.val % 4) + 64 * (n.val / 4) + 64 := hin 1
    have r : Shape.reshapeEquiv shapeCasts_S64x1024_S1x64x1024 (Rect.unitLocal (s := S1x1024x1024) (off := ![0, 256 * (n.val % 4) + 64 * (n.val / 4), 0]) (size := S1x64x1024.size) i hin) =
        (ix2 (⟨(i 1).val - (256 * (n.val % 4) + 64 * (n.val / 4)), by omega⟩ : Fin 64) (i 2) : S64x1024.Idx) :=
      Shape.reshapeEquiv_eq_of_rowMajor _ ((Shape.rowMajor_val_two _).trans (Eq.trans (by
        show ((i 1).val - (256 * (n.val % 4) + 64 * (n.val / 4))) * 1024 + (i 2).val =
          (((i 0).val - 0) * 64 + ((i 1).val - (256 * (n.val % 4) + 64 * (n.val / 4)))) * 1024 + ((i 2).val - 0)
        omega) (Shape.rowMajor_val_three _).symm))
    show a _ = a _
    refine congrArg a ?_
    refine (congrArg (Rect.unit (s := S1024x1024) ![64 * n.val, 0] S64x1024.size (inb_accRow n)).emb r).trans ?_
    funext b
    apply Fin.ext
    match b with
    | 0 =>
      show 64 * n.val + 1 * ((i 1).val - (256 * (n.val % 4) + 64 * (n.val / 4))) = 64 * (4 * ((i 1).val % 256 / 64) + (i 1).val / 256) + (i 1).val % 64
      omega
    | 1 => show 0 + 1 * (i 2).val = (i 2).val; omega
  · next hin =>
    apply h
    by_contra hc
    apply hin
    intro b
    match b with
    | 0 => exact ⟨Nat.zero_le _, by show (i 0).val < 0 + 1; omega⟩
    | 1 =>
      show 256 * (n.val % 4) + 64 * (n.val / 4) ≤ (i 1).val ∧ (i 1).val < 256 * (n.val % 4) + 64 * (n.val / 4) + 64
      omega
    | 2 => exact ⟨Nat.zero_le _, by show (i 2).val < 0 + 1024; omega⟩

/-- Queries stored so far, and one head more. -/
theorem qAll_put (x : FVec F S1024x1024 .f32) (w : Vec F S1x1024x1024 .f32) (f : Vec F S8x1024x128 .f32) (n : Fin 8)
    (h : ∀ i, (i 0).val < n.val → f i = qAll x w i) :
    ∀ i, (i 0).val < n.val + 1 →
      VecWindow.put (s := S8x1024x128) f ![n.val, 0, 0] S1x1024x128.size (qPay n x w) i = qAll x w i := by
  intro i hi
  have h1 : (i 1).val < 1024 := (i 1).isLt
  have h2 : (i 2).val < 128 := (i 2).isLt
  unfold VecWindow.put
  split
  · next hin =>
    have g0 : n.val ≤ (i 0).val ∧ (i 0).val < n.val + 1 := hin 0
    have e : i 0 = n := Fin.ext (by omega)
    unfold qAll
    rw [e]
    refine congrArg (qPay n x w) (funext fun b => Fin.ext ?_)
    match b with
    | 0 => show (i 0).val - n.val = 0; omega
    | 1 => show (i 1).val - 0 = (i 1).val; omega
    | 2 => show (i 2).val - 0 = (i 2).val; omega
  · next hin =>
    apply h
    by_contra hc
    apply hin
    intro b
    match b with
    | 0 => show n.val ≤ (i 0).val ∧ (i 0).val < n.val + 1; omega
    | 1 => exact ⟨Nat.zero_le _, by show (i 1).val < 0 + 1024; omega⟩
    | 2 => exact ⟨Nat.zero_le _, by show (i 2).val < 0 + 128; omega⟩

end Cert.KernelIdeal.Attn
-- ==== Proof.KernelIdeal.Heads.lean ====
module

public import proofs.«01_k».proof.Proof.KernelIdeal.Ring
public import proofs.«01_k».proof.Proof.KernelIdeal.Values
public import Idealize.ShloMosaic.Lib.Scf

/-!
# Rules for the work on one device

The loads and stores of the accumulator, the queries and the result; the loads of a head's keys and
values and their waits; one head, one trip, and the computation of a step.
-/

@[expose] public section

set_option synthInstance.maxSize 4096

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

/-! ## The accumulator, the queries, the result -/

/-- The accumulator at contents `a`. -/
def accPts (c : Dev nD) (a : Vec F S1024x1024 .f32) : sProp 𝕄 :=
  ((c : Thread nD τ).loc cc0_scratch5) ↦{fullShare} (a : Buf (Elt F) ((c : Thread nD τ).loc cc0_scratch5))

theorem wp_accum (r : Fin 4) (p : Vec F S256x1024 .f32 → FVec F S256x1024 .f32) (c : Dev nD)
    (a : Vec F S1024x1024 .f32) {P : KProg F} {Q : PUnit → sProp 𝕄} :
    accPts c a ⊢ iprop((accPts c (accRow r p a) -∗ wpc c P Q) -∗ wpc c (accum r p P) Q) := by
  unfold accum accPts
  iintro Ha Hk
  iapply (wp_load 𝒱₀ (c : Thread nD τ) none Set.univ (m := Memref.whole cc0_scratch5) (Finset.subset_univ _)) $$ Ha
  iintro Ha
  iapply (wp_load 𝒱₀ (c : Thread nD τ) none Set.univ (m := Memref.whole cc0_scratch5) (Finset.subset_univ _)) $$ Ha
  iintro Ha
  iapply (wp_store 𝒱₀ (c : Thread nD τ) none Set.univ (m := Memref.whole cc0_scratch5) (Finset.subset_univ _)) $$ [Ha]
  · iexact Ha
  iintro Ha
  iapply Hk
  rw [show accRow r p a = _ from VecWindow.put_eq_updateSlice (s := S1024x1024) a ![256 * r.val, 0] S256x1024.size (inb_group r) _]
  rw [← View.write_whole_slice_unit (Val := Elt F) cc0_scratch5 ![256 * r.val, 0] S256x1024.size (inb_group r) a]
  iexact Ha

/-- The query buffer, its first `n` heads stored. -/
def qryPts (c : Dev nD) (n : ℕ) (x : FVec F S1024x1024 .f32) (w : Vec F S1x1024x1024 .f32) : sProp 𝕄 :=
  iprop(∃ f : Vec F S8x1024x128 .f32, ⌜∀ i, (i 0).val < n → f i = qAll x w i⌝ ∗
    ((c : Thread nD τ).loc cc0_scratch2) ↦{fullShare} (f : Buf (Elt F) ((c : Thread nD τ).loc cc0_scratch2)))

theorem wp_storeQ (n : Fin 8) (x : FVec F S1024x1024 .f32) (w : Vec F S1x1024x1024 .f32) (c : Dev nD)
    {P : KProg F} {Q : PUnit → sProp 𝕄} :
    qryPts c n.val x w ⊢ iprop((qryPts c (n.val + 1) x w -∗ wpc c P Q) -∗ wpc c (storeQ n (qPay n x w) P) Q) := by
  unfold storeQ qryPts
  iintro ⟨%f, %hf, Hq⟩ Hk
  iapply (wp_load 𝒱₀ (c : Thread nD τ) none Set.univ (m := Memref.whole cc0_scratch2) (Finset.subset_univ _)) $$ Hq
  iintro Hq
  iapply (wp_store 𝒱₀ (c : Thread nD τ) none Set.univ (m := Memref.whole cc0_scratch2) (Finset.subset_univ _)) $$ [Hq]
  · iexact Hq
  iintro Hq
  iapply Hk
  iexists (VecWindow.put (s := S8x1024x128) f ![n.val, 0, 0] S1x1024x128.size (qPay n x w))
  isplitr
  · ipureintro; exact qAll_put x w f n hf
  rw [VecWindow.put_eq_updateSlice (s := S8x1024x128) f ![n.val, 0, 0] S1x1024x128.size (inb_qry n) _]
  rw [← View.write_whole_slice_unit (Val := Elt F) cc0_scratch2 ![n.val, 0, 0] S1x1024x128.size (inb_qry n) f]
  iexact Hq

/-- The query buffer at its contents. -/
def qryFull (c : Dev nD) (q : Vec F S8x1024x128 .f32) : sProp 𝕄 :=
  ((c : Thread nD τ).loc cc0_scratch2) ↦{fullShare} (q : Buf (Elt F) ((c : Thread nD τ).loc cc0_scratch2))

/-- The query buffer at any contents. -/
def qryFree (c : Dev nD) : sProp 𝕄 := iprop(∃ q : Vec F S8x1024x128 .f32, qryFull c q)

theorem wp_storeQs (x : FVec F S1024x1024 .f32) (w : Vec F S1x1024x1024 .f32) (c : Dev nD)
    {P : KProg F} {Q : PUnit → sProp 𝕄} :
    qryFree c ⊢ iprop((qryFull c (qAll x w) -∗ wpc c P Q) -∗ wpc c (storeQs (fun h => qPay h x w) P) Q) := by
  unfold storeQs qryFree
  iintro ⟨%f, Hq⟩ Hk
  iapply (wp_storeQ 0 x w c) $$ [Hq]
  · unfold qryPts
    iexists f
    isplitr; · ipureintro; exact fun i hi => absurd hi (Nat.not_lt_zero _)
    unfold qryFull
    iexact Hq
  iintro Hq
  iapply (wp_storeQ 1 x w c) $$ [Hq]
  · iexact Hq
  iintro Hq
  iapply (wp_storeQ 2 x w c) $$ [Hq]
  · iexact Hq
  iintro Hq
  iapply (wp_storeQ 3 x w c) $$ [Hq]
  · iexact Hq
  iintro Hq
  iapply (wp_storeQ 4 x w c) $$ [Hq]
  · iexact Hq
  iintro Hq
  iapply (wp_storeQ 5 x w c) $$ [Hq]
  · iexact Hq
  iintro Hq
  iapply (wp_storeQ 6 x w c) $$ [Hq]
  · iexact Hq
  iintro Hq
  iapply (wp_storeQ 7 x w c) $$ [Hq]
  · iexact Hq
  iintro Hq
  iapply Hk
  unfold qryPts qryFull
  icases Hq with ⟨%g, %hg, Hq⟩
  obtain rfl : g = qAll x w := funext fun i => hg i (i 0).isLt
  iexact Hq

/-- The staged result, its first `n` blocks copied. -/
def outPts (c : Dev nD) (n : ℕ) (a : Vec F S1024x1024 .f32) : sProp 𝕄 :=
  iprop(∃ f : Vec F S1x1024x1024 .f32, ⌜∀ i, 4 * ((i 1).val % 256 / 64) + (i 1).val / 256 < n → f i = outOf a i⌝ ∗
    ((c : Thread nD τ).loc cc0_stg3_0) ↦{fullShare} (f : Buf (Elt F) ((c : Thread nD τ).loc cc0_stg3_0)))

theorem wp_outRow (n : Fin 16) (c : Dev nD) (a : Vec F S1024x1024 .f32) {P : KProg F} {Q : PUnit → sProp 𝕄} :
    iprop(accPts c a ∗ outPts c n.val a)
      ⊢ iprop(((accPts c a ∗ outPts c (n.val + 1) a) -∗ wpc c P Q) -∗ wpc c (outRow n P) Q) := by
  unfold outRow accPts outPts
  iintro ⟨Ha, ⟨%f, %hf, Ho⟩⟩ Hk
  iapply (wp_load 𝒱₀ (c : Thread nD τ) none Set.univ (m := Memref.whole cc0_scratch5) (Finset.subset_univ _)) $$ Ha
  iintro Ha
  iapply (wp_load 𝒱₀ (c : Thread nD τ) none Set.univ (m := Memref.whole cc0_stg3_0) (Finset.subset_univ _)) $$ Ho
  iintro Ho
  iapply (wp_store 𝒱₀ (c : Thread nD τ) none Set.univ (m := Memref.whole cc0_stg3_0) (Finset.subset_univ _)) $$ [Ho]
  · iexact Ho
  iintro Ho
  iapply Hk
  isplitl [Ha]; · iexact Ha
  iexists (VecWindow.put (s := S1x1024x1024) f ![0, 256 * (n.val % 4) + 64 * (n.val / 4), 0] S1x64x1024.size
        (shapeCast S1x64x1024 (VecWindow.window (s := S1024x1024) a ![64 * n.val, 0] S64x1024.size (inb_accRow n))
          shapeCasts_S64x1024_S1x64x1024))
  isplitr
  · ipureintro; exact outOf_put a f n hf
  rw [VecWindow.put_eq_updateSlice (s := S1x1024x1024) f _ S1x64x1024.size (inb_outRow n) _]
  rw [← View.write_whole_slice_unit (Val := Elt F) cc0_stg3_0 _ S1x64x1024.size (inb_outRow n) f]
  iexact Ho

theorem wp_outRows (c : Dev nD) (a : Vec F S1024x1024 .f32) {Q : PUnit → sProp 𝕄} :
    iprop(accPts c a ∗ outPts c 0 a)
      ⊢ iprop(((accPts c a ∗ ((c : Thread nD τ).loc cc0_stg3_0) ↦{fullShare} (outOf a : Buf (Elt F) ((c : Thread nD τ).loc cc0_stg3_0)))
          -∗ Q ⟨⟩) -∗ wpc c outRows Q) := by
  unfold outRows
  iintro H Hk
  iapply (wp_outRow 0 c a) $$ [H]
  · iexact H
  iintro H
  iapply (wp_outRow 1 c a) $$ [H]
  · iexact H
  iintro H
  iapply (wp_outRow 2 c a) $$ [H]
  · iexact H
  iintro H
  iapply (wp_outRow 3 c a) $$ [H]
  · iexact H
  iintro H
  iapply (wp_outRow 4 c a) $$ [H]
  · iexact H
  iintro H
  iapply (wp_outRow 5 c a) $$ [H]
  · iexact H
  iintro H
  iapply (wp_outRow 6 c a) $$ [H]
  · iexact H
  iintro H
  iapply (wp_outRow 7 c a) $$ [H]
  · iexact H
  iintro H
  iapply (wp_outRow 8 c a) $$ [H]
  · iexact H
  iintro H
  iapply (wp_outRow 9 c a) $$ [H]
  · iexact H
  iintro H
  iapply (wp_outRow 10 c a) $$ [H]
  · iexact H
  iintro H
  iapply (wp_outRow 11 c a) $$ [H]
  · iexact H
  iintro H
  iapply (wp_outRow 12 c a) $$ [H]
  · iexact H
  iintro H
  iapply (wp_outRow 13 c a) $$ [H]
  · iexact H
  iintro H
  iapply (wp_outRow 14 c a) $$ [H]
  · iexact H
  iintro H
  iapply (wp_outRow 15 c a) $$ [H]
  · iexact H
  iintro ⟨Ha, Ho⟩
  unfold wpc
  rw [wp_ret]; imodintro
  iapply Hk
  isplitl [Ha]; · iexact Ha
  unfold outPts
  icases Ho with ⟨%g, %hg, Ho⟩
  obtain rfl : g = outOf a := funext fun i => hg i (by
    have : (i 1).val < 1024 := (i 1).isLt
    show 4 * ((i 1).val % 256 / 64) + (i 1).val / 256 < 16
    omega)
  iexact Ho

/-! ## Loads of a head -/

/-- A semaphore of the loads. -/
abbrev kvCell (p : ℕ) (h : Fin 2) : SemLoc sig := .dma (kvSem (oSem p h.val) (inb_oSem p h))

/-- The share of an array of heads that serves the loads of a parity. -/
def shr (p : ℕ) : PosShare TreeShare := if p % 2 = 0 then lent else kept

/-- The units of a head's load. -/
def NB : ℕ := (kBuf (oBuf 0) (inb_oBuf 0)).view.dmaCredit
theorem NB_pos : 0 < NB := View.dmaCredit_pos _ (by decide)

/-- Where a head of the keys lies. -/
def kSet (h : ℕ) (hh : h < 64) : Finset S1x1024x64x128.Idx := (kSrc (oSrc h) (inb_oSrc hh)).view.set
/-- Where a head of the values lies. -/
def vSet (h : ℕ) (hh : h < 64) : Finset S1x1024x64x128.Idx := (vSrc (oSrc h) (inb_oSrc hh)).view.set

section Loads
variable (X V : Vec F S1x1024x64x128 .f32)

/-- The keys at a share. -/
def kArr (c : Dev nD) (S : Finset S1x1024x64x128.Idx) (q : PosShare TreeShare) : sProp 𝕄 :=
  ((c : Thread nD τ).loc main_arg2) ↦[S]{q} (X : Buf (Elt F) ((c : Thread nD τ).loc main_arg2))
/-- The values at a share. -/
def vArr (c : Dev nD) (S : Finset S1x1024x64x128.Idx) (q : PosShare TreeShare) : sProp 𝕄 :=
  ((c : Thread nD τ).loc main_arg3) ↦[S]{q} (V : Buf (Elt F) ((c : Thread nD τ).loc main_arg3))

/-- A landing buffer of the keys holding `B`. -/
def kLand (c : Dev nD) (p : ℕ) (B : Vec F S2x1024x128 .f32) : sProp 𝕄 :=
  ((c : Thread nD τ).loc cc0_scratch3) ↦[bufSet p]{fullShare} (B : Buf (Elt F) ((c : Thread nD τ).loc cc0_scratch3))
/-- A landing buffer of the values holding `B`. -/
def vLand (c : Dev nD) (p : ℕ) (B : Vec F S2x1024x128 .f32) : sProp 𝕄 :=
  ((c : Thread nD τ).loc cc0_scratch4) ↦[bufSet p]{fullShare} (B : Buf (Elt F) ((c : Thread nD τ).loc cc0_scratch4))

/-- A load of a head of the keys under way, and the keys beside it. -/
def kFly (c : Dev nD) (p h : ℕ) (hh : h < 64) : sProp 𝕄 :=
  iprop(Transfers.Flight EC (c : Thread nD τ) (kvCell p 0) (0 : ℕ) NB
      iprop(kLand c p (headBuf X h hh) ∗ kArr X c (kSet h hh) (shr p))
    ∗ kArr X c (Finset.univ \ kSet h hh) (shr p))
/-- A load of a head of the values under way, and the values beside it. -/
def vFly (c : Dev nD) (p h : ℕ) (hh : h < 64) : sProp 𝕄 :=
  iprop(Transfers.Flight EC (c : Thread nD τ) (kvCell p 1) (0 : ℕ) NB
      iprop(vLand c p (headBuf V h hh) ∗ vArr V c (vSet h hh) (shr p))
    ∗ vArr V c (Finset.univ \ vSet h hh) (shr p))

/-- A parity of the loads at rest, its buffers at given contents. -/
def kvHeld (c : Dev nD) (p : ℕ) (B B' : Vec F S2x1024x128 .f32) : sProp 𝕄 :=
  iprop((semVal ((c : Thread nD τ), kvCell p 0) 0 ∗ kLand c p B ∗ kArr X c Finset.univ (shr p))
    ∗ (semVal ((c : Thread nD τ), kvCell p 1) 0 ∗ vLand c p B' ∗ vArr V c Finset.univ (shr p)))
/-- A parity of the loads at rest. -/
def kvFree (c : Dev nD) (p : ℕ) : sProp 𝕄 := iprop(∃ B B', kvHeld X V c p B B')
/-- A head's loads under way. -/
def kvFly (c : Dev nD) (p h : ℕ) (hh : h < 64) : sProp 𝕄 := iprop(kFly X c p h hh ∗ vFly V c p h hh)

theorem kvFree_congr (c : Dev nD) {p p' : ℕ} (e : p % 2 = p' % 2) : kvFree X V c p = kvFree X V c p' := by
  have h1 : ∀ h : Fin 2, kvCell p h = kvCell p' h := fun h => by
    have : oSem p h.val = oSem p' h.val := by unfold oSem; rw [e]
    unfold kvCell; simp only [this]
  have h2 : bufSet p = bufSet p' := by unfold bufSet; rw [e]
  have h3 : shr p = shr p' := by unfold shr; rw [e]
  unfold kvFree kvHeld kLand vLand
  rw [h1, h1, h2, h3]

theorem kArr_open (c : Dev nD) (h : ℕ) (hh : h < 64) (q : PosShare TreeShare) :
    kArr X c (kSet h hh) q ⊢ (((kSrc (oSrc h) (inb_oSrc hh)).view.loc (c : Thread nD τ)) ↦[(kSrc (oSrc h) (inb_oSrc hh)).view.set]{q} X : sProp 𝕄) :=
  Entails.refl _

theorem wp_startK (c : Dev nD) (p h : ℕ) (hh : h < 64) (B : Vec F S2x1024x128 .f32)
    {h₁ h₂ h₃} {k : PUnit → KProg F} {Q : PUnit → sProp 𝕄} :
    iprop(semVal ((c : Thread nD τ), kvCell p 0) 0 ∗ kLand c p B ∗ kArr X c Finset.univ (shr p))
      ⊢ iprop((kFly X c p h hh -∗ wpc c (k ⟨⟩) Q)
        -∗ wpc c (.op (.enqueueDma (kSrc (oSrc h) (inb_oSrc hh)) (.here (kBuf (oBuf p) (inb_oBuf p))) (kvCell p 0) h₁ h₂ h₃) k) Q) := by
  unfold kLand
  iintro ⟨Hs, Hb, HX⟩ Hk
  ihave HX' := (show kArr X c Finset.univ (shr p) ⊢ iprop(kArr X c (kSet h hh) (shr p) ∗ kArr X c (Finset.univ \ kSet h hh) (shr p))
    from (pointsTo_split_subset (Finset.subset_univ _)).1) $$ HX
  icases HX' with ⟨HS, HR⟩
  iapply (Transfers.wp_dmaLocal EC 𝒱₀ (c : Thread nD τ) none (src := kSrc (oSrc h) (inb_oSrc hh)) (dst := kBuf (oBuf p) (inb_oBuf p))
    (sm := kvCell p 0) (q := shr p) (fs := X) (fd := B) (Sd := bufSet p) (0 : ℕ) NB rfl NB_pos (subset_of_eq (kBuf_set p))) $$ [Hs Hb HS]
  · isplitl [HS]; · iapply (kArr_open X c h hh (shr p)); iexact HS
    isplitl [Hb]; · iexact Hb
    iexact Hs
  iintro HF
  iapply Hk
  unfold kFly
  isplitl [HF]
  · iapply (Transfers.Flight_mono EC (c : Thread nD τ) ?_) $$ HF
    refine BIClass.sep_mono (Entails.of_eq ?_) (Entails.refl _)
    unfold kLand
    exact pointsTo_congr fun i hi => kBuf_lands X h hh p B i ((kBuf_set p).symm ▸ hi)
  iexact HR

theorem vArr_open (c : Dev nD) (h : ℕ) (hh : h < 64) (q : PosShare TreeShare) :
    vArr V c (vSet h hh) q ⊢ (((vSrc (oSrc h) (inb_oSrc hh)).view.loc (c : Thread nD τ)) ↦[(vSrc (oSrc h) (inb_oSrc hh)).view.set]{q} V : sProp 𝕄) :=
  Entails.refl _

theorem wp_startV (c : Dev nD) (p h : ℕ) (hh : h < 64) (B : Vec F S2x1024x128 .f32)
    {h₁ h₂ h₃} {k : PUnit → KProg F} {Q : PUnit → sProp 𝕄} :
    iprop(semVal ((c : Thread nD τ), kvCell p 1) 0 ∗ vLand c p B ∗ vArr V c Finset.univ (shr p))
      ⊢ iprop((vFly V c p h hh -∗ wpc c (k ⟨⟩) Q)
        -∗ wpc c (.op (.enqueueDma (vSrc (oSrc h) (inb_oSrc hh)) (.here (vBuf (oBuf p) (inb_oBuf p))) (kvCell p 1) h₁ h₂ h₃) k) Q) := by
  unfold vLand
  iintro ⟨Hs, Hb, HX⟩ Hk
  ihave HX' := (show vArr V c Finset.univ (shr p) ⊢ iprop(vArr V c (vSet h hh) (shr p) ∗ vArr V c (Finset.univ \ vSet h hh) (shr p))
    from (pointsTo_split_subset (Finset.subset_univ _)).1) $$ HX
  icases HX' with ⟨HS, HR⟩
  iapply (Transfers.wp_dmaLocal EC 𝒱₀ (c : Thread nD τ) none (src := vSrc (oSrc h) (inb_oSrc hh)) (dst := vBuf (oBuf p) (inb_oBuf p))
    (sm := kvCell p 1) (q := shr p) (fs := V) (fd := B) (Sd := bufSet p) (0 : ℕ) NB rfl NB_pos (subset_of_eq (vBuf_set p))) $$ [Hs Hb HS]
  · isplitl [HS]; · iapply (vArr_open V c h hh (shr p)); iexact HS
    isplitl [Hb]; · iexact Hb
    iexact Hs
  iintro HF
  iapply Hk
  unfold vFly
  isplitl [HF]
  · iapply (Transfers.Flight_mono EC (c : Thread nD τ) ?_) $$ HF
    refine BIClass.sep_mono (Entails.of_eq ?_) (Entails.refl _)
    unfold vLand
    exact pointsTo_congr fun i hi => vBuf_lands V h hh p B i ((vBuf_set p).symm ▸ hi)
  iexact HR

/-- Start a head's loads. -/
theorem wp_startKV (c : Dev nD) (p h : ℕ) (hh : h < 64) {P : KProg F} {Q : PUnit → sProp 𝕄} :
    kvFree X V c p ⊢ iprop((kvFly X V c p h hh -∗ wpc c P Q)
      -∗ wpc c (startKV (oSem p 0) (oSem p 1) (inb_oSem p 0) (inb_oSem p 1) (oBuf p) (inb_oBuf p) (oSrc h) (inb_oSrc hh) P) Q) := by
  unfold startKV kvFree kvHeld
  iintro ⟨%B, %B', HK, HV⟩ Hk
  iapply (wp_startK X c p h hh B (k := fun _ => .op _ _)) $$ HK
  iintro HK
  iapply (wp_startV V c p h hh B' (k := fun _ => P)) $$ HV
  iintro HV
  iapply Hk
  unfold kvFly
  isplitl [HK] <;> iassumption

/-- A DMA semaphore is waited for at level 0 of index 0. -/
theorem lv_dma (c : Dev nD) (q : DmaSem sig) : lv ((c : Thread nD τ), SemLoc.dma q) 0 = 0 := by
  unfold lv decode
  cases h : Function.partialInv csem (SemLoc.dma q) with
  | none => rfl
  | some k =>
    have e : csem k = SemLoc.dma q := (Function.partialInv_of_injective csem_injective k _).mp h
    cases k with
    | bar => cases e
    | crd hi =>
      revert e
      match hi with
      | 0 => intro e; cases e
      | 1 => intro e; cases e
    | snd hi kd σ => rfl
    | rcv hi kd σ => rfl

theorem wp_waitK (c : Dev nD) (p h : ℕ) (hh : h < 64) {O : CellTallies nD τ sig ℕ} (hO : OweGe 1 O)
    {h₁ h₂} {k : PUnit → KProg F} {Q : PUnit → sProp 𝕄} :
    iprop(levAts L lv ∗ kFly X c p h hh ∗ owesE c O)
      ⊢ iprop((((semVal ((c : Thread nD τ), kvCell p 0) 0 ∗ kLand c p (headBuf X h hh) ∗ kArr X c Finset.univ (shr p)) ∗ owesE c O) -∗ wpc c (k ⟨⟩) Q)
        -∗ wpc c (.op (.waitDma2 (kvSem (oSem p 0) (inb_oSem p 0)) (kSrc (oSrc h) (inb_oSrc hh)) (kBuf (oBuf p) (inb_oBuf p)) h₁ h₂) k) Q) := by
  unfold kFly owesE
  iintro ⟨#Hl, ⟨HF, HR⟩, ⟨%W, HO⟩⟩ Hk
  iapply (Transfers.wp_waitLocalO EC 𝒱₀ (c : Thread nD τ) none (srcw := kSrc (oSrc h) (inb_oSrc hh)) (dstw := kBuf (oBuf p) (inb_oBuf p))
    (0 : ℕ) (N := NB) rfl) $$ [HF HO]
  · isplitl [HF]; · iexact HF
    isplitl [HO]; · iexact HO
    iapply (mayWait c _ 0 (by decide) (le_of_eq (lv_dma c _)) hO)
    iexact Hl
  iintro ⟨⟨HB, HS⟩, Hv, HO⟩
  iapply Hk
  isplitr [HO]
  · isplitl [Hv]; · iexact Hv
    isplitl [HB]; · iexact HB
    iapply (show iprop(kArr X c (kSet h hh) (shr p) ∗ kArr X c (Finset.univ \ kSet h hh) (shr p)) ⊢ kArr X c Finset.univ (shr p)
      from (pointsTo_split_subset (Finset.subset_univ _)).2)
    isplitl [HS] <;> iassumption
  iexists _
  iexact HO

theorem wp_waitV (c : Dev nD) (p h : ℕ) (hh : h < 64) {O : CellTallies nD τ sig ℕ} (hO : OweGe 1 O)
    {h₁ h₂} {k : PUnit → KProg F} {Q : PUnit → sProp 𝕄} :
    iprop(levAts L lv ∗ vFly V c p h hh ∗ owesE c O)
      ⊢ iprop((((semVal ((c : Thread nD τ), kvCell p 1) 0 ∗ vLand c p (headBuf V h hh) ∗ vArr V c Finset.univ (shr p)) ∗ owesE c O) -∗ wpc c (k ⟨⟩) Q)
        -∗ wpc c (.op (.waitDma2 (kvSem (oSem p 1) (inb_oSem p 1)) (vSrc (oSrc h) (inb_oSrc hh)) (vBuf (oBuf p) (inb_oBuf p)) h₁ h₂) k) Q) := by
  unfold vFly owesE
  iintro ⟨#Hl, ⟨HF, HR⟩, ⟨%W, HO⟩⟩ Hk
  iapply (Transfers.wp_waitLocalO EC 𝒱₀ (c : Thread nD τ) none (srcw := vSrc (oSrc h) (inb_oSrc hh)) (dstw := vBuf (oBuf p) (inb_oBuf p))
    (0 : ℕ) (N := NB) rfl) $$ [HF HO]
  · isplitl [HF]; · iexact HF
    isplitl [HO]; · iexact HO
    iapply (mayWait c _ 0 (by decide) (le_of_eq (lv_dma c _)) hO)
    iexact Hl
  iintro ⟨⟨HB, HS⟩, Hv, HO⟩
  iapply Hk
  isplitr [HO]
  · isplitl [Hv]; · iexact Hv
    isplitl [HB]; · iexact HB
    iapply (show iprop(vArr V c (vSet h hh) (shr p) ∗ vArr V c (Finset.univ \ vSet h hh) (shr p)) ⊢ vArr V c Finset.univ (shr p)
      from (pointsTo_split_subset (Finset.subset_univ _)).2)
    isplitl [HS] <;> iassumption
  iexists _
  iexact HO

/-- Wait for a head's loads. -/
theorem wp_waitKV (c : Dev nD) (p h : ℕ) (hh : h < 64) {O : CellTallies nD τ sig ℕ} (hO : OweGe 1 O)
    {P : KProg F} {Q : PUnit → sProp 𝕄} :
    iprop(levAts L lv ∗ kvFly X V c p h hh ∗ owesE c O)
      ⊢ iprop(((kvHeld X V c p (headBuf X h hh) (headBuf V h hh) ∗ owesE c O) -∗ wpc c P Q)
        -∗ wpc c (waitKV (oSem p 0) (oSem p 1) (inb_oSem p 0) (inb_oSem p 1) (oBuf p) (inb_oBuf p) (oSrc h) (inb_oSrc hh) P) Q) := by
  unfold waitKV kvFly kvHeld
  iintro ⟨#Hl, ⟨HK, HV⟩, HO⟩ Hk
  iapply (wp_waitK X c p h hh hO (h₁ := (View.wordExact_bits rfl).reshape _ _) (h₂ := (View.wordExact_bits rfl).reshape _ _) (k := fun _ => .op _ _)) $$ [HK HO]
  · isplitr; · iexact Hl
    isplitl [HK] <;> iassumption
  iintro ⟨HK, HO⟩
  iapply (wp_waitV V c p h hh hO (h₁ := (View.wordExact_bits rfl).reshape _ _) (h₂ := (View.wordExact_bits rfl).reshape _ _) (k := fun _ => P)) $$ [HV HO]
  · isplitr; · iexact Hl
    isplitl [HV] <;> iassumption
  iintro ⟨HV, HO⟩
  iapply Hk
  isplitl [HK HV]
  · isplitl [HK] <;> iassumption
  iexact HO

end Loads

end Cert.KernelIdeal.Attn
-- ==== Proof.KernelIdeal.Steps.lean ====
module

public import proofs.«01_k».proof.Proof.KernelIdeal.Heads

/-!
# One head, one trip, one step

The arithmetic of a head over what the device holds, a trip of the loop over heads, the computation of
a step, and the copies at the start of the body.
-/

@[expose] public section

set_option synthInstance.maxSize 4096

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

section Run
variable (x : Vec F S1x1024x1024 .f32) (wq wo : Dev nD → Vec F S1024x1024 .f32)
    (X V : Vec F S1x1024x64x128 .f32) (c : Dev nD)

/-- The slot of the query weights a step reads. -/
def wSlot (s : ℕ) (q : PosShare TreeShare) : sProp 𝕄 :=
  ((c : Thread nD τ).loc cc0_scratch0) ↦[slotSet (slot s)]{q} (wAt wq s c : Buf (Elt F) ((c : Thread nD τ).loc cc0_scratch0))
/-- The slot of the output weights a step reads. -/
def oSlot (s : ℕ) (q : PosShare TreeShare) : sProp 𝕄 :=
  ((c : Thread nD τ).loc cc0_scratch1) ↦[slotSet (slot s)]{q} (oAt wo s c : Buf (Elt F) ((c : Thread nD τ).loc cc0_scratch1))

theorem wp_head (s k : ℕ) (hk : k < 8) (q : PosShare TreeShare) (Q8 : Vec F S8x1024x128 .f32)
    (B B' : Vec F S2x1024x128 .f32) (a : Vec F S1024x1024 .f32) {P : KProg F} {Q : PUnit → sProp 𝕄} :
    iprop(qryFull c Q8 ∗ kvHeld X V c k B B' ∗ oSlot wo c s q ∗ accPts c a)
      ⊢ iprop(((qryFull c Q8 ∗ kvHeld X V c k B B' ∗ oSlot wo c s q
            ∗ accPts c (accHead (qRead Q8 k hk) (VecWindow.window B (oBuf k) S1x1024x128.size (inb_oBuf k))
                (VecWindow.window B' (oBuf k) S1x1024x128.size (inb_oBuf k)) (oRead wo s c k hk) a)) -∗ wpc c P Q)
        -∗ wpc c (headProg (oQry k) (oBuf k) (oWgt s k) (inb_oQry hk) (inb_oBuf k) (inb_oWgt s hk) P) Q) := by
  unfold headProg qryFull kvHeld kLand vLand oSlot
  iintro ⟨Hq, ⟨⟨Hs, HB, HX⟩, ⟨Hs', HB', HV⟩⟩, Ho, Ha⟩ Hk
  iapply (wp_load 𝒱₀ (c : Thread nD τ) none Set.univ (m := Memref.whole cc0_scratch2) (Finset.subset_univ _)) $$ [Hq]
  · iexact Hq
  iintro Hq
  iapply (wp_load 𝒱₀ (c : Thread nD τ) none Set.univ (m := Memref.whole cc0_scratch3) (S := bufSet k) (by
    intro i hi
    obtain ⟨y, hy, rfl⟩ := Finset.mem_map.mp hi
    exact mem_bufSet.mpr ((mem_rectBuf k y).mp hy))) $$ [HB]
  · iexact HB
  iintro HB
  iapply (wp_load 𝒱₀ (c : Thread nD τ) none Set.univ (m := Memref.whole cc0_scratch4) (S := bufSet k) (by
    intro i hi
    obtain ⟨y, hy, rfl⟩ := Finset.mem_map.mp hi
    exact mem_bufSet.mpr ((mem_rectBuf k y).mp hy))) $$ [HB']
  · iexact HB'
  iintro HB'
  iapply (wp_load 𝒱₀ (c : Thread nD τ) none Set.univ (m := Memref.whole cc0_scratch1) (S := slotSet (slot s)) (by
    intro i hi
    obtain ⟨y, hy, rfl⟩ := Finset.mem_map.mp hi
    have h0 := (Rect.mem_set_unit.mp hy) 0
    refine mem_slotSet.mpr ?_
    have h0' : s % 2 ≤ (y 0).val ∧ (y 0).val < s % 2 + 1 := h0
    show (y 0).val = s % 2
    omega)) $$ [Ho]
  · iexact Ho
  iintro Ho
  iapply (wp_accum 0 _ c a) $$ Ha
  iintro Ha
  iapply (wp_accum 1 _ c _) $$ Ha
  iintro Ha
  iapply (wp_accum 2 _ c _) $$ Ha
  iintro Ha
  iapply (wp_accum 3 _ c _) $$ Ha
  iintro Ha
  iapply Hk
  isplitl [Hq]; · iexact Hq
  isplitl [Hs HB HX Hs' HB' HV]
  · isplitl [Hs HB HX]
    · isplitl [Hs]; · iexact Hs
      isplitl [HB] <;> iassumption
    · isplitl [Hs']; · iexact Hs'
      isplitl [HB'] <;> iassumption
  isplitl [Ho]; · iexact Ho
  iexact Ha

/-- The loads of trip `k`: under way before the last trip, at rest after it. -/
def kvOr (s k : ℕ) : sProp 𝕄 :=
  if hk : k < 8 then kvFly X V c k (headOf s c k) (headOf_lt s c hk) else kvFree X V c k

theorem kvOr_pos (s : ℕ) {k : ℕ} (hk : k < 8) : kvOr X V c s k = kvFly X V c k (headOf s c k) (headOf_lt s c hk) := dif_pos hk
theorem kvOr_neg (s : ℕ) {k : ℕ} (hk : ¬ k < 8) : kvOr X V c s k = kvFree X V c k := dif_neg hk

/-- Between the trips of a step. -/
def tripInv (s : ℕ) (q : PosShare TreeShare) (a : Vec F S1024x1024 .f32) (O : CellTallies nD τ sig ℕ) (k : ℕ) : sProp 𝕄 :=
  iprop(levAts L lv ∗ kvOr X V c s k ∗ kvFree X V c (k + 1) ∗ qryFull c (qAll (k0_pay105 x) (wRead wq s c))
    ∗ oSlot wo c s q ∗ accPts c (accTrips x wq wo X V c s a k) ∗ owesE c O)

theorem wp_trip (s : ℕ) (q : PosShare TreeShare) (a : Vec F S1024x1024 .f32) {O : CellTallies nD τ sig ℕ}
    (hO : OweGe 1 O) (k : ℕ) (hk : k < 8) :
    tripInv x wq wo X V c s q a O k ⊢ wpc c (tripC s c k hk) (fun _ => tripInv x wq wo X V c s q a O (k + 1)) := by
  unfold tripInv
  rw [accTrips_succ x wq wo X V c s a hk]
  iintro ⟨#Hl, HF, HN, Hq, Ho, Ha, HO⟩
  ihave HF' := (show kvOr X V c s k ⊢ kvFly X V c k (headOf s c k) (headOf_lt s c hk) from
    Entails.of_eq (kvOr_pos X V c s hk)) $$ HF
  unfold tripC
  by_cases h : k + 1 < 8
  · rw [dif_pos h]
    unfold startHead waitHead
    iapply (wp_startKV X V c (k + 1) (headOf s c (k + 1)) (headOf_lt s c h)) $$ HN
    iintro HN
    iapply (wp_waitKV X V c k (headOf s c k) (headOf_lt s c hk) hO) $$ [HF' HO]
    · isplitr; · iexact Hl
      isplitl [HF'] <;> iassumption
    iintro ⟨HF, HO⟩
    iapply (wp_head wo X V c s k hk q _ _ _ _) $$ [Hq HF Ho Ha]
    · isplitl [Hq]; · iexact Hq
      isplitl [HF]; · iexact HF
      isplitl [Ho] <;> iassumption
    iintro ⟨Hq, HF, Ho, Ha⟩
    unfold wpc
    rw [wp_ret]; imodintro
    isplitr; · iexact Hl
    isplitl [HN]
    · iapply (show kvFly X V c (k + 1) (headOf s c (k + 1)) (headOf_lt s c h) ⊢ kvOr X V c s (k + 1) from
        Entails.of_eq (kvOr_pos X V c s h).symm)
      iexact HN
    isplitl [HF]
    · rw [kvFree_congr X V c (show (k + 1 + 1) % 2 = k % 2 by omega)]
      unfold kvFree
      iexists _; iexists _; iexact HF
    isplitl [Hq]; · iexact Hq
    isplitl [Ho]; · iexact Ho
    isplitl [Ha]; · iexact Ha
    iexact HO
  · rw [dif_neg h]
    unfold waitHead
    iapply (wp_waitKV X V c k (headOf s c k) (headOf_lt s c hk) hO) $$ [HF' HO]
    · isplitr; · iexact Hl
      isplitl [HF'] <;> iassumption
    iintro ⟨HF, HO⟩
    iapply (wp_head wo X V c s k hk q _ _ _ _) $$ [Hq HF Ho Ha]
    · isplitl [Hq]; · iexact Hq
      isplitl [HF]; · iexact HF
      isplitl [Ho] <;> iassumption
    iintro ⟨Hq, HF, Ho, Ha⟩
    unfold wpc
    rw [wp_ret]; imodintro
    isplitr; · iexact Hl
    isplitl [HN]
    · iapply (show kvFree X V c (k + 1) ⊢ kvOr X V c s (k + 1) from Entails.of_eq (kvOr_neg X V c s h).symm)
      iexact HN
    isplitl [HF]
    · rw [kvFree_congr X V c (show (k + 1 + 1) % 2 = k % 2 by omega)]
      unfold kvFree
      iexists _; iexists _; iexact HF
    isplitl [Hq]; · iexact Hq
    isplitl [Ho]; · iexact Ho
    isplitl [Ha]; · iexact Ha
    iexact HO

/-- What the computation of a step works with, apart from the accumulator and the weights. -/
def tools : sProp 𝕄 := iprop((kvFree X V c 0 ∗ kvFree X V c 1) ∗ qryFree c)

/-- The computation of a step. -/
theorem wp_compute (s : ℕ) (q : PosShare TreeShare) (a : Vec F S1024x1024 .f32) {O : CellTallies nD τ sig ℕ}
    (hO : OweGe 1 O) {oS : Fin 4 → ℕ} {hS : ∀ a, oS a + S1x1024x1x128.size a ≤ S1x1024x64x128.size a}
    (e : oS = oSrc (headOf s c 0)) {l : Scf.Loop 32} {ok : l.OK} (hl : l.trips = 8) {P : KProg F} {Q : PUnit → sProp 𝕄} :
    iprop(levAts L lv ∗ tools X V c ∗ (wSlot wq c s q ∗ oSlot wo c s q) ∗ accPts c a ∗ owesE c O)
      ⊢ iprop(((tools X V c ∗ (wSlot wq c s q ∗ oSlot wo c s q) ∗ accPts c (accTrips x wq wo X V c s a 8) ∗ owesE c O) -∗ wpc c P Q)
        -∗ wpc c (compute s oS hS (k0_pay105 x) l ok (fun k _ => tripC s c k.val (hl ▸ k.isLt)) P) Q) := by
  subst e
  unfold compute tools wSlot
  iintro ⟨#Hl, ⟨⟨H0, H1⟩, Hq⟩, ⟨Hw, Ho⟩, Ha, HO⟩ Hk
  iapply (wp_startKV X V c 0 (headOf s c 0) (headOf_lt s c (by decide))) $$ H0
  iintro H0
  iapply (wp_load 𝒱₀ (c : Thread nD τ) none Set.univ (m := Memref.whole cc0_scratch0) (S := slotSet (slot s)) (by
    intro i hi
    obtain ⟨y, hy, rfl⟩ := Finset.mem_map.mp hi
    have h0 := (Rect.mem_set_unit.mp hy) 0
    refine mem_slotSet.mpr ?_
    have h0' : (slot s).val ≤ (y 0).val ∧ (y 0).val < (slot s).val + 1 := h0
    show (y 0).val = (slot s).val
    omega)) $$ [Hw]
  · iexact Hw
  iintro Hw
  iapply (wp_storeQs (k0_pay105 x) (wRead wq s c) c) $$ Hq
  iintro Hq
  iapply (Scf.wp_for_bind (Fr := frame) (wpE := wpE (defs₀ (F := F)) 𝒱₀ (c : Thread nD τ) none) (Es := Set.univ)
    (I := fun k _ => tripInv x wq wo X V c s q a O k)
    (hbody := fun k acc => wp_trip x wq wo X V c s q a hO k.val (hl ▸ k.isLt))) $$ [H0 H1 Hq Ho Ha HO]
  · unfold tripInv
    isplitr; · iexact Hl
    isplitl [H0]
    · iapply (show kvFly X V c 0 (headOf s c 0) (headOf_lt s c (by decide)) ⊢ kvOr X V c s 0 from
        Entails.of_eq (kvOr_pos X V c s (by decide)).symm)
      iexact H0
    isplitl [H1]; · iexact H1
    isplitl [Hq]; · iexact Hq
    isplitl [Ho]; · iexact Ho
    isplitl [Ha]; · iexact Ha
    iexact HO
  iintro %acc HI
  iapply Hk
  rw [show Scf.trips l.lb l.ub l.st = 8 from hl]
  unfold tripInv
  icases HI with ⟨-, H0, H1, Hq, Ho, Ha, HO⟩
  isplitl [H0 H1 Hq]
  · isplitl [H0 H1]
    · isplitl [H0]
      · iapply (show kvOr X V c s 8 ⊢ kvFree X V c 0 from
          (Entails.of_eq (kvOr_neg X V c s (by decide))).trans (Entails.of_eq (kvFree_congr X V c (by decide))))
        iexact H0
      · rw [kvFree_congr X V c (show 1 % 2 = (8 + 1) % 2 by decide)]
        iexact H1
    · unfold qryFree; iexists _; iexact Hq
  isplitl [Hw Ho]
  · isplitl [Hw] <;> iassumption
  isplitl [Ha] <;> iassumption

end Run

end Cert.KernelIdeal.Attn
-- ==== Proof.KernelIdeal.Hops.lean ====
module

public import proofs.«01_k».proof.Proof.KernelIdeal.Steps

/-!
# The hops

What a device holds while a hop's copies travel, and the rules for the first sends, for a hop between
two steps, and for the last waits.
-/

@[expose] public section

set_option synthInstance.maxSize 4096

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

theorem slot_two (s : ℕ) : slot (s + 2) = slot s := Fin.ext (by show (s + 2) % 2 = s % 2; omega)

section Lanes
variable (wq wo : Dev nD → Vec F S1024x1024 .f32) (c : Dev nD)

omit [FloatOps F] in
/-- A lane's full share is the lent half and the kept half. -/
theorem lane_share (kd σ hi : Fin 2) (s : ℕ) :
    lanePts wq wo kd σ hi c fullShare s ⊣⊢ iprop(lanePts wq wo kd σ hi c lent s ∗ lanePts wq wo kd σ hi c kept s) := by
  unfold lanePts
  split <;> exact pointsTo_share (PosShare.mem_left_op_right _)

omit [FloatOps F] in
/-- A slot of both weights is its four lanes. -/
theorem slot_lanes (q : PosShare TreeShare) (s : ℕ) :
    iprop(wSlot wq c s q ∗ oSlot wo c s q) ⊣⊢ four (fun hi kd => lanePts wq wo kd (slot s) hi c q s) := by
  have hw : wSlot wq c s q ⊣⊢ iprop(lanePts wq wo 0 (slot s) 0 c q s ∗ lanePts wq wo 0 (slot s) 1 c q s) := by
    unfold wSlot
    rw [slotW_eq]
    exact pointsTo_union (setW_disj (slot s))
  have ho : oSlot wo c s q ⊣⊢ iprop(lanePts wq wo 1 (slot s) 0 c q s ∗ lanePts wq wo 1 (slot s) 1 c q s) := by
    unfold oSlot
    rw [slotO_eq]
    exact pointsTo_union (setO_disj (slot s))
  unfold four
  constructor
  · iintro ⟨Hw, Ho⟩
    ihave Hw' := hw.1 $$ Hw
    ihave Ho' := ho.1 $$ Ho
    icases Hw' with ⟨A, B⟩
    icases Ho' with ⟨C, D⟩
    isplitl [A]; · iexact A
    isplitl [C]; · iexact C
    isplitl [B] <;> iassumption
  · iintro ⟨A, C, B, D⟩
    isplitl [A B]
    · iapply hw.2
      isplitl [A] <;> iassumption
    · iapply ho.2
      isplitl [C] <;> iassumption

omit [FloatOps F] in
/-- A slot at the full share, shared between the copies and the computation. -/
theorem lend (s : ℕ) :
    iprop(four (fun hi kd => lanePts wq wo kd (slot s) hi c fullShare s)) ⊢
      iprop(four (fun hi kd => lanePts wq wo kd (slot s) hi c lent s) ∗ (wSlot wq c s kept ∗ oSlot wo c s kept)) :=
  (four_mono fun hi kd => (lane_share wq wo c kd (slot s) hi s).1).trans
    (four_sep.trans (BIClass.sep_mono (Entails.refl _) (slot_lanes wq wo c kept s).2))

omit [FloatOps F] in
/-- A slot whose copies have come back is free. -/
theorem reclaim (s : ℕ) :
    iprop(four (fun hi kd => lanePts wq wo kd (slot s) hi c lent s) ∗ (wSlot wq c s kept ∗ oSlot wo c s kept)) ⊢
      four (fun hi kd => laneFree (F := F) kd (slot s) hi c) := by
  refine (BIClass.sep_mono (Entails.refl _) (slot_lanes wq wo c kept s).1).trans ?_
  unfold four
  have h : ∀ hi kd, iprop(lanePts wq wo kd (slot s) hi c lent s ∗ lanePts wq wo kd (slot s) hi c kept s) ⊢ laneFree (F := F) kd (slot s) hi c :=
    fun hi kd => (lane_share wq wo c kd (slot s) hi s).2.trans (laneFree_intro wq wo kd (slot s) hi c s)
  iintro ⟨⟨A, B, C, D⟩, ⟨A', B', C', D'⟩⟩
  isplitl [A A']
  · iapply (h 0 0); isplitl [A] <;> iassumption
  isplitl [B B']
  · iapply (h 0 1); isplitl [B] <;> iassumption
  isplitl [C C']
  · iapply (h 1 0); isplitl [C] <;> iassumption
  · iapply (h 1 1); isplitl [D] <;> iassumption

end Lanes

theorem four_open (P : Fin 2 → Fin 2 → sProp 𝕄) : four P ⊢ iprop(P 0 0 ∗ P 0 1 ∗ P 1 0 ∗ P 1 1) := Entails.refl _

/-! ## What a device holds between its operations -/

/-- The owner's positions at the cells of hop `h`, before its waits. -/
def posAt (h : ℕ) (c : Dev nD) : sProp 𝕄 :=
  four (fun hi kd => iprop(stand c (.snd hi kd (slot (h + 1))) ((h - 1) / 2) ∗ stand c (.rcv hi kd (slot h)) ((h - 1) / 2)))

/-- The owner's positions at its credit cells, before the credits of step `h`. -/
def crdStand (h : ℕ) (c : Dev nD) : sProp 𝕄 := iprop(stand c (.crd 0) (h - 1) ∗ stand c (.crd 1) (h - 1))

/-- The tickets of a lane's send of hop `h`, and the credit of its arrival. -/
def hopLane (h : ℕ) (c : Dev nD) (hi kd : Fin 2) : sProp 𝕄 :=
  iprop(dutyTok ER (cell c (.snd hi kd (slot (h + 1)))) ((h - 1) / 2) 0
    ∗ dutyTok ER (cell (nb hi c) (.rcv hi kd (slot h))) ((h - 1) / 2) 0
    ∗ cred (tallyAt (cell c (.rcv hi kd (slot h))) h NN))
/-- The tickets of hop `h`. -/
def hopRes (h : ℕ) (c : Dev nD) : sProp 𝕄 := four (hopLane h c)

/-- A direction's ticket for a credit of step `h`, and the credit of the one it gets. -/
def crdDir (h : ℕ) (c : Dev nD) (hi : Fin 2) : sProp 𝕄 :=
  iprop(dutyTok ER (cell (un hi c) (.crd hi)) (h - 1) 0 ∗ cred (tallyAt (cell c (.crd hi)) h 1))
/-- The tickets of the credits of step `h`. -/
def crdRes (h : ℕ) (c : Dev nD) : sProp 𝕄 := iprop(crdDir h c 0 ∗ crdDir h c 1)

/-- While the copies of hop `h` travel. -/
def flying (h : ℕ) (c : Dev nD) : sProp 𝕄 :=
  iprop(posAt h c ∗ posAt (h + 1) c
    ∗ four (fun hi kd => iprop(sndCred h c hi kd ∗ cred (tallyAt (cell c (.rcv hi kd (slot h))) h NN))) ∗ crdStand h c)

section Rules
variable (wq wo : Dev nD → Vec F S1024x1024 .f32) (K : Dev nD × CK → ℕ) (c : Dev nD)

theorem reached_posAt (h : ℕ) : posAt (F := F) h c ⊢ iprop(posAt h c ∗ four (fun hi kd => iprop(
    reached ER (cell c (.snd hi kd (slot (h + 1)))) ((h - 1) / 2) ∗ reached ER (cell c (.rcv hi kd (slot h))) ((h - 1) / 2)))) := by
  unfold posAt
  refine (four_mono fun hi kd => ?_).trans four_sep
  unfold stand
  iintro ⟨⟨A, #B⟩, ⟨C, #D⟩⟩
  isplitl [A C]
  · isplitl [A]
    · isplitl [A]; · iexact A
      iexact B
    · isplitl [C]; · iexact C
      iexact D
  · isplitr; · iexact B
    iexact D

/-- The waits for hop `t + 1`: the slot that was being copied is free, the other is full. -/
theorem wp_arrive (t : ℕ) (h6 : t ≤ 6) {P : KProg F} {Q : PUnit → sProp 𝕄}
    {O : CellTallies nD τ sig ℕ} (hO : OweGe (2 * (t + 1) + 1) O) :
    iprop(records wq wo K ∗ levAts L lv ∗ flying (t + 1) c ∗ (wSlot wq c t kept ∗ oSlot wo c t kept) ∗ owesE c O)
      ⊢ iprop(((posAt (t + 2) c ∗ posAt (t + 3) c ∗ crdStand (t + 1) c
            ∗ four (fun hi kd => laneFree kd (slot t) hi c)
            ∗ four (fun hi kd => lanePts wq wo kd (slot (t + 1)) hi c fullShare (t + 1))
            ∗ four (fun hi _ => reached ER (cell (un hi c) (.crd hi)) t) ∗ owesE c O) -∗ wpc c P Q)
        -∗ wpc c (waits (t + 1) P) Q) := by
  iintro ⟨#HR, #Hl, HF, Hs, HO⟩ Hk
  unfold flying
  icases HF with ⟨Hp, Hp', Hc, Hcs⟩
  iapply (wp_waits wq wo K (show 1 ≤ t + 1 by omega) (show t + 1 ≤ 7 by omega) c hO) $$ [Hp Hc HO]
  · isplitr; · iexact HR
    isplitr; · iexact Hl
    isplitr [HO]
    · unfold posAt four waitPre
      icases Hp with ⟨⟨A, A'⟩, ⟨B, B'⟩, ⟨C, C'⟩, ⟨D, D'⟩⟩
      icases Hc with ⟨⟨E, E'⟩, ⟨G, G'⟩, ⟨I, I'⟩, ⟨J, J'⟩⟩
      isplitl [A A' E E']
      · isplitl [A]; · iexact A
        isplitl [A']; · iexact A'
        isplitl [E] <;> iassumption
      isplitl [B B' G G']
      · isplitl [B]; · iexact B
        isplitl [B']; · iexact B'
        isplitl [G] <;> iassumption
      isplitl [C C' I I']
      · isplitl [C]; · iexact C
        isplitl [C']; · iexact C'
        isplitl [I] <;> iassumption
      · isplitl [D]; · iexact D
        isplitl [D']; · iexact D'
        isplitl [J] <;> iassumption
    · iexact HO
  iintro ⟨HW, HO⟩
  have hpos : four (waitPost wq wo (t + 1) c) ⊢ iprop(posAt (t + 3) c
      ∗ four (fun hi kd => lanePts wq wo kd (slot t) hi c lent t)
      ∗ four (fun hi kd => lanePts wq wo kd (slot (t + 1)) hi c fullShare (t + 1))
      ∗ four (fun hi _ => reached ER (cell (un hi c) (.crd hi)) t)) := by
    unfold posAt
    refine (four_mono (P' := fun hi kd => iprop((stand c (.snd hi kd (slot (t + 3 + 1))) ((t + 3 - 1) / 2) ∗ stand c (.rcv hi kd (slot (t + 3))) ((t + 3 - 1) / 2))
      ∗ (lanePts wq wo kd (slot t) hi c lent t ∗ (lanePts wq wo kd (slot (t + 1)) hi c fullShare (t + 1) ∗ reached ER (cell (un hi c) (.crd hi)) t)))) fun hi kd => ?_).trans ?_
    · unfold waitPost rcvPay
      rw [show slot (t + 3 + 1) = slot (t + 1 + 1) from slot_two (t + 2), show slot (t + 3) = slot (t + 1) from slot_two (t + 1),
        show slot (t + 1 + 1) = slot t from slot_two t, show (t + 3 - 1) / 2 = (t + 1 - 1) / 2 + 1 by omega]
      exact Entails.refl _
    · exact four_sep.trans (BIClass.sep_mono (Entails.refl _) (four_sep.trans (BIClass.sep_mono (Entails.refl _) four_sep)))
  ihave HW' := hpos $$ HW
  icases HW' with ⟨Hp, Hlent, Hfull, Hr⟩
  ihave Hfree := (reclaim wq wo c t) $$ [Hlent Hs]
  · isplitl [Hlent] <;> iassumption
  iapply Hk
  isplitl [Hp']; · iexact Hp'
  isplitl [Hp]; · iexact Hp
  isplitl [Hcs]; · iexact Hcs
  isplitl [Hfree]; · iexact Hfree
  isplitl [Hfull]; · iexact Hfull
  isplitl [Hr]; · iexact Hr
  iexact HO

/-- The sends of hop `t + 1`, the neighbours' lanes in hand. -/
theorem wp_depart (t : ℕ) (h6 : t ≤ 6) (n₀ n₁ n₂ n₃ : Dev nD) (e₀ : n₀ = nb 0 c) (e₁ : n₁ = nb 0 c)
    (e₂ : n₂ = nb 1 c) (e₃ : n₃ = nb 1 c) {P : KProg F} {Q : PUnit → sProp 𝕄} (O : CellTallies nD τ sig ℕ) :
    iprop(records wq wo K ∗ (posAt (t + 1) c ∗ posAt (t + 2) c ∗ crdStand (t + 1) c) ∗ hopRes (t + 1) c
        ∗ four (fun hi kd => lanePts wq wo kd (slot t) hi c fullShare t)
        ∗ four (fun hi kd => laneFree kd (slot (t + 1)) hi (nb hi c))
        ∗ four (fun hi kd => reached ER (cell (nb hi c) (.rcv hi kd (slot (t + 1)))) (t / 2))
        ∗ owesE c (O + sendT (t + 1) c))
      ⊢ iprop(((flying (t + 1) c ∗ (wSlot wq c t kept ∗ oSlot wo c t kept) ∗ owesE c O) -∗ wpc c P Q)
        -∗ wpc c (sends (t + 1) n₀ n₁ n₂ n₃ P) Q) := by
  iintro ⟨#HR, ⟨Hp, Hp', Hcs⟩, Hres, Hfull, Hfree, Hr, HO⟩ Hk
  ihave Hp2 := (reached_posAt c (t + 1)) $$ Hp
  icases Hp2 with ⟨Hp, Hrs⟩
  ihave Hls := (lend wq wo c t) $$ Hfull
  icases Hls with ⟨Hlent, Hkept⟩
  ihave Hcs' := (show crdStand (t + 1) c ⊢ iprop(crdStand (t + 1) c ∗ (reached ER (cell c (.crd 0)) t ∗ reached ER (cell c (.crd 1)) t) : sProp 𝕄) from by
    unfold crdStand stand
    iintro ⟨⟨A, #B⟩, ⟨C, #D⟩⟩
    isplitl [A C]
    · isplitl [A]
      · isplitl [A]; · iexact A
        iexact B
      · isplitl [C]; · iexact C
        iexact D
    · isplitr; · iexact B
      iexact D) $$ Hcs
  icases Hcs' with ⟨Hcs, ⟨#Hc0, #Hc1⟩⟩
  have hres : hopRes (t + 1) c ⊢ iprop(four (fun hi kd => iprop(dutyTok ER (cell c (.snd hi kd (slot (t + 1 + 1)))) ((t + 1 - 1) / 2) 0
      ∗ dutyTok ER (cell (nb hi c) (.rcv hi kd (slot (t + 1)))) ((t + 1 - 1) / 2) 0))
      ∗ four (fun hi kd => cred (tallyAt (cell c (.rcv hi kd (slot (t + 1)))) (t + 1) NN)) : sProp 𝕄) := by
    unfold hopRes
    refine (four_mono fun hi kd => ?_).trans four_sep
    unfold hopLane
    iintro ⟨A, B, C⟩
    isplitl [A B]
    · isplitl [A] <;> iassumption
    · iexact C
  ihave Hres' := hres $$ Hres
  icases Hres' with ⟨Htok, Hcred⟩
  iapply (wp_sends wq wo K (show 1 ≤ t + 1 by omega) (show t + 1 ≤ 7 by omega) c n₀ n₁ n₂ n₃ e₀ e₁ e₂ e₃ O) $$ [Htok Hlent Hfree Hrs Hr HO]
  · isplitr; · iexact HR
    isplitr [HO]
    · have hpre : ∀ hi kd, iprop(lanePts wq wo kd (slot t) hi c lent t ∗ laneFree kd (slot (t + 1)) hi (nb hi c)
          ∗ (dutyTok ER (cell c (.snd hi kd (slot (t + 1 + 1)))) ((t + 1 - 1) / 2) 0
            ∗ dutyTok ER (cell (nb hi c) (.rcv hi kd (slot (t + 1)))) ((t + 1 - 1) / 2) 0)
          ∗ (reached ER (cell c (.snd hi kd (slot (t + 1 + 1)))) ((t + 1 - 1) / 2) ∗ reached ER (cell c (.rcv hi kd (slot (t + 1)))) ((t + 1 - 1) / 2))
          ∗ reached ER (cell (nb hi c) (.rcv hi kd (slot (t + 1)))) (t / 2) ∗ reached ER (cell c (.crd hi)) t)
          ⊢ sendPre wq wo (t + 1) c hi kd := fun hi kd => by
        unfold sendPre
        rw [show slot (t + 1 + 1) = slot t from slot_two t]
        iintro ⟨A, B, ⟨C, D⟩, ⟨E, -⟩, G, H⟩
        isplitl [A]; · iexact A
        isplitl [B]; · iexact B
        isplitl [C]; · iexact C
        isplitl [D]; · iexact D
        isplitl [E]; · iexact E
        isplitl [G]; · iexact G
        iexact H
      unfold four
      icases Hlent with ⟨A0, A1, A2, A3⟩
      icases Hfree with ⟨B0, B1, B2, B3⟩
      icases Htok with ⟨C0, C1, C2, C3⟩
      icases Hrs with ⟨D0, D1, D2, D3⟩
      icases Hr with ⟨E0, E1, E2, E3⟩
      isplitl [A0 B0 C0 D0 E0]
      · iapply (hpre 0 0)
        isplitl [A0]; · iexact A0
        isplitl [B0]; · iexact B0
        isplitl [C0]; · iexact C0
        isplitl [D0]; · iexact D0
        isplitl [E0]; · iexact E0
        iexact Hc0
      isplitl [A1 B1 C1 D1 E1]
      · iapply (hpre 0 1)
        isplitl [A1]; · iexact A1
        isplitl [B1]; · iexact B1
        isplitl [C1]; · iexact C1
        isplitl [D1]; · iexact D1
        isplitl [E1]; · iexact E1
        iexact Hc0
      isplitl [A2 B2 C2 D2 E2]
      · iapply (hpre 1 0)
        isplitl [A2]; · iexact A2
        isplitl [B2]; · iexact B2
        isplitl [C2]; · iexact C2
        isplitl [D2]; · iexact D2
        isplitl [E2]; · iexact E2
        iexact Hc1
      · iapply (hpre 1 1)
        isplitl [A3]; · iexact A3
        isplitl [B3]; · iexact B3
        isplitl [C3]; · iexact C3
        isplitl [D3]; · iexact D3
        isplitl [E3]; · iexact E3
        iexact Hc1
    · iexact HO
  iintro ⟨Hsnd, HO⟩
  iapply Hk
  isplitl [Hp Hp' Hcs Hsnd Hcred]
  · unfold flying
    isplitl [Hp]; · iexact Hp
    isplitl [Hp']; · iexact Hp'
    isplitl [Hsnd Hcred]
    · unfold four
      icases Hsnd with ⟨A0, A1, A2, A3⟩
      icases Hcred with ⟨B0, B1, B2, B3⟩
      isplitl [A0 B0]; · isplitl [A0] <;> iassumption
      isplitl [A1 B1]; · isplitl [A1] <;> iassumption
      isplitl [A2 B2]; · isplitl [A2] <;> iassumption
      isplitl [A3] <;> iassumption
    · iexact Hcs
  isplitl [Hkept] <;> iassumption

/-- A hop between two steps: its arrivals, the credits, and the next sends. -/
theorem wp_hop (t s : ℕ) (hs : s = t + 1) (h5 : t ≤ 5) (n₀ n₁ n₂ n₃ n₄ n₅ : Dev nD) (e₀ : n₀ = un 0 c) (e₁ : n₁ = un 1 c)
    (e₂ : n₂ = nb 0 c) (e₃ : n₃ = nb 0 c) (e₄ : n₄ = nb 1 c) (e₅ : n₅ = nb 1 c) {P : KProg F} {Q : PUnit → sProp 𝕄} :
    iprop(records wq wo K ∗ levAts L lv ∗ flying s c ∗ (wSlot wq c t kept ∗ oSlot wo c t kept)
        ∗ crdRes s c ∗ hopRes (s + 1) c ∗ owesE c (restT c s))
      ⊢ iprop(((flying (s + 1) c ∗ (wSlot wq c s kept ∗ oSlot wo c s kept) ∗ owesE c (restT c (s + 1))) -∗ wpc c P Q)
        -∗ wpc c (hop s n₀ n₁ n₂ n₃ n₄ n₅ P) Q) := by
  subst hs
  unfold hop
  iintro ⟨#HR, #Hl, HF, Hs, Hcr, Hres, HO⟩ Hk
  iapply (wp_arrive wq wo K c t (by omega) (O := restT c (t + 1)) (OweGe.restT c (by omega) (by omega) (by omega))) $$ [HF Hs HO]
  · isplitr; · iexact HR
    isplitr; · iexact Hl
    isplitl [HF]; · iexact HF
    isplitl [Hs] <;> iassumption
  iintro ⟨Hp, Hp', Hcs, Hfree, Hfull, Hr, HO⟩
  ihave Hp2 := (reached_posAt c (t + 2)) $$ Hp
  icases Hp2 with ⟨Hp, Hrs⟩
  rw [restT_step c (show t + 1 ≤ 6 by omega)]
  unfold crdRes crdDir crdStand
  ihave Hfree := (four_open _) $$ Hfree
  ihave Hr := (four_open _) $$ Hr
  ihave Hrs := (four_open _) $$ Hrs
  icases Hfree with ⟨A0, A1, A2, A3⟩
  icases Hr with ⟨#B0, -, #B2, -⟩
  icases Hrs with ⟨⟨-, #C0⟩, ⟨-, #C1⟩, ⟨-, #C2⟩, ⟨-, #C3⟩⟩
  icases Hcr with ⟨⟨D0, E0⟩, ⟨D1, E1⟩⟩
  icases Hcs with ⟨G0, G1⟩
  iapply (wp_credits wq wo K (show 1 ≤ t + 1 by omega) (show t + 1 ≤ 6 by omega) c n₀ n₁ e₀ e₁ (restT c (t + 1 + 1) + sendT (t + 1 + 1) c)
    (OweGe.add (OweGe.restT c (by omega) (by omega) (by omega)) (OweGe.sendT c (by omega) (by omega)))) $$ [A0 A1 A2 A3 D0 D1 E0 E1 G0 G1 HO]
  · isplitr; · iexact HR
    isplitr; · iexact Hl
    isplitl [A0 A1 A2 A3 D0 D1]
    · unfold crdPre
      rw [show slot (t + 1 + 1) = slot t from slot_two t]
      isplitl [A0 A1 D0]
      · isplitl [A0 A1]; · isplitl [A0] <;> iassumption
        isplitr
        · isplitr
          · rw [← slot_two t]; iexact C0
          · rw [← slot_two t]; iexact C1
        isplitl [D0]; · iexact D0
        iexact B0
      · isplitl [A2 A3]; · isplitl [A2] <;> iassumption
        isplitr
        · isplitr
          · rw [← slot_two t]; iexact C2
          · rw [← slot_two t]; iexact C3
        isplitl [D1]; · iexact D1
        iexact B2
    isplitl [E0 E1 G0 G1]
    · unfold crdWait
      isplitl [E0 G0]
      · isplitl [G0] <;> iassumption
      · isplitl [G1] <;> iassumption
    iexact HO
  iintro ⟨⟨H0, H1⟩, HO⟩
  unfold crdPost crdPay
  icases H0 with ⟨G0, ⟨A0, A1⟩, #C0, #C1⟩
  icases H1 with ⟨G1, ⟨A2, A3⟩, #C2, #C3⟩
  iapply (wp_depart wq wo K c (t + 1) (by omega) n₂ n₃ n₄ n₅ e₂ e₃ e₄ e₅ (restT c (t + 1 + 1))) $$ [Hp Hp' G0 G1 Hres Hfull A0 A1 A2 A3 HO]
  · isplitr; · iexact HR
    isplitl [Hp Hp' G0 G1]
    · isplitl [Hp]; · iexact Hp
      isplitl [Hp']; · iexact Hp'
      unfold crdStand
      rw [show t + 1 + 1 - 1 = t + 1 from rfl]
      isplitl [G0] <;> iassumption
    isplitl [Hres]; · iexact Hres
    isplitl [Hfull]; · iexact Hfull
    unfold four
    isplitl [A0 A1 A2 A3]
    · isplitl [A0]; · iexact A0
      isplitl [A1]; · iexact A1
      isplitl [A2] <;> iassumption
    isplitr
    · isplitr; · iexact C0
      isplitr; · iexact C1
      isplitr; · iexact C2
      iexact C3
    iexact HO
  iintro H
  iapply Hk
  iexact H

end Rules

end Cert.KernelIdeal.Attn
-- ==== Proof.KernelIdeal.Whole.lean ====
module

public import proofs.«01_k».proof.Proof.KernelIdeal.Hops

/-!
# The whole body on one device

The copies at the start, and the body from what a device holds when it enters to what it holds when it
leaves.
-/

@[expose] public section

set_option synthInstance.maxSize 4096

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

/-! ## The first slots -/

omit [FloatOps F] in
theorem back_zero : ∀ c : Dev nD, back 0 c = c := by decide +kernel
omit [FloatOps F] in
theorem fwd_zero : ∀ c : Dev nD, fwd 0 c = c := by decide +kernel

omit [FloatOps F] in
/-- A block put into the first slot. -/
theorem put_first (f : Vec F S2x1024x1024 .f32) (g : Vec F S1024x1024 .f32) (i : S2x1024x1024.Idx) (hi : i ∈ slotSet 0) :
    updateSlice (u := S1x1024x1024) f (shapeCast S1x1024x1024 (shapeCast S1024x1024 g shapeCasts_S1024x1024_S1024x1024) shapeCasts_S1024x1024_S1x1024x1024)
      ![0, 0, 0] ⟨rfl, inb_S2x1024x1024_S1x1024x1024_0_0_0⟩ i = g (ix2 (i 1) (i 2)) := by
  have h0 : (i 0).val = 0 := mem_slotSet.mp hi
  have h1 : (i 1).val < 1024 := (i 1).isLt
  have h2 : (i 2).val < 1024 := (i 2).isLt
  rw [← VecWindow.put_eq_updateSlice (s := S2x1024x1024) f ![0, 0, 0] S1x1024x1024.size inb_S2x1024x1024_S1x1024x1024_0_0_0 _]
  have hin : ∀ a, (![0, 0, 0] : Fin 3 → ℕ) a ≤ (i a).val ∧ (i a).val < (![0, 0, 0] : Fin 3 → ℕ) a + S1x1024x1024.size a := by
    intro b
    match b with
    | 0 => exact ⟨Nat.zero_le _, by show (i 0).val < 0 + 1; omega⟩
    | 1 => exact ⟨Nat.zero_le _, by show (i 1).val < 0 + 1024; omega⟩
    | 2 => exact ⟨Nat.zero_le _, by show (i 2).val < 0 + 1024; omega⟩
  refine (dif_pos hin).trans ?_
  have r : ∀ j : S1x1024x1024.Idx, Shape.reshapeEquiv shapeCasts_S1024x1024_S1x1024x1024 j = (ix2 (j 1) (j 2) : S1024x1024.Idx) := fun j =>
    Shape.reshapeEquiv_eq_of_rowMajor _ ((Shape.rowMajor_val_two _).trans (Eq.trans (by
      have : (j 0).val < 1 := (j 0).isLt
      show (j 1).val * 1024 + (j 2).val = ((j 0).val * 1024 + (j 1).val) * 1024 + (j 2).val
      omega) (Shape.rowMajor_val_three _).symm))
  have r' : ∀ j : S1024x1024.Idx, Shape.reshapeEquiv shapeCasts_S1024x1024_S1024x1024 j = j := fun j =>
    Shape.reshapeEquiv_eq_of_rowMajor _ rfl
  show g (Shape.reshapeEquiv _ (Shape.reshapeEquiv _ _)) = _
  rw [r', r]
  refine congrArg g (funext fun b => Fin.ext ?_)
  match b with
  | 0 => show (i 1).val - 0 = (i 1).val; omega
  | 1 => show (i 2).val - 0 = (i 2).val; omega

section Body
variable (x : Vec F S1x1024x1024 .f32) (wq wo : Dev nD → Vec F S1024x1024 .f32)
    (X V : Vec F S1x1024x64x128 .f32) (K : Dev nD × CK → ℕ) (c : Dev nD)

/-- The staged blocks. -/
def staged : sProp 𝕄 :=
  iprop((((c : Thread nD τ).loc cc0_stg0_0) ↦{fullShare} (x : Buf (Elt F) ((c : Thread nD τ).loc cc0_stg0_0)))
    ∗ (((c : Thread nD τ).loc cc0_stg1_0) ↦{fullShare} (wq c : Buf (Elt F) ((c : Thread nD τ).loc cc0_stg1_0)))
    ∗ (((c : Thread nD τ).loc cc0_stg2_0) ↦{fullShare} (wo c : Buf (Elt F) ((c : Thread nD τ).loc cc0_stg2_0))))

/-- The first slots and the accumulator at any contents. -/
def fresh : sProp 𝕄 :=
  iprop((∃ f : Buf (Elt F) ((c : Thread nD τ).loc cc0_scratch0), ((c : Thread nD τ).loc cc0_scratch0) ↦[slotSet 0]{fullShare} f)
    ∗ (∃ f : Buf (Elt F) ((c : Thread nD τ).loc cc0_scratch1), ((c : Thread nD τ).loc cc0_scratch1) ↦[slotSet 0]{fullShare} f)
    ∗ (∃ a : Vec F S1024x1024 .f32, accPts c a))

omit [FloatOps F] in
theorem first_sub : ∀ i : S2x1024x1024.Idx,
    i ∈ (Rect.unit (s := S2x1024x1024) ![0, 0, 0] S1x1024x1024.size inb_S2x1024x1024_S1x1024x1024_0_0_0).set → i ∈ slotSet 0 := by
  intro i hi
  have h0 : 0 ≤ (i 0).val ∧ (i 0).val < 0 + 1 := (Rect.mem_set_unit.mp hi) 0
  exact mem_slotSet.mpr (show (i 0).val = 0 by omega)

omit [FloatOps F] in
theorem off3_zero : (![0, 0, 0] : Fin 3 → ℕ) = fun _ => 0 := by decide
omit [FloatOps F] in
theorem off2_zero : (![0, 0] : Fin 2 → ℕ) = fun _ => 0 := by decide

/-- The query weights go into their first slot. -/
theorem wp_copyW {P : KProg F} {Q : PUnit → sProp 𝕄} :
    iprop((((c : Thread nD τ).loc cc0_stg1_0) ↦{fullShare} (wq c : Buf (Elt F) ((c : Thread nD τ).loc cc0_stg1_0)))
        ∗ (∃ f : Buf (Elt F) ((c : Thread nD τ).loc cc0_scratch0), ((c : Thread nD τ).loc cc0_scratch0) ↦[slotSet 0]{fullShare} f))
      ⊢ iprop((((((c : Thread nD τ).loc cc0_stg1_0) ↦{fullShare} (wq c : Buf (Elt F) ((c : Thread nD τ).loc cc0_stg1_0)))
          ∗ wSlot wq c 0 fullShare) -∗ wpc c P Q)
        -∗ wpc c (.op (.load (Memref.whole cc0_stg1_0) (Rect.unit (s := S1024x1024) ![0, 0] S1024x1024.size
            inb_S1024x1024_S1024x1024_0_0).toLoadRect (View.loadsAt_vmem h_S1024x1024)) fun w =>
          .op (.load (Memref.whole cc0_scratch0) (Rect.unit (s := S2x1024x1024) ![0, 0, 0]
            S1x1024x1024.size inb_S2x1024x1024_S1x1024x1024_0_0_0).toLoadRect
            (View.loadsAt_vmem h_S1x1024x1024)) fun _ =>
          .op (.store (Memref.whole cc0_scratch0) (Rect.unit (s := S2x1024x1024) ![0, 0, 0]
            S1x1024x1024.size inb_S2x1024x1024_S1x1024x1024_0_0_0) (k0_pay101 w) Finset.univ
            (View.stores_vmem_bits_univ h_S1x1024x1024 rfl) (.inl rfl)) fun _ => P) Q) := by
  iintro ⟨Hq, ⟨%f, Hf⟩⟩ Hk
  iapply (wp_load 𝒱₀ (c : Thread nD τ) none Set.univ (m := Memref.whole cc0_stg1_0) (Finset.subset_univ _)) $$ [Hq]
  · iexact Hq
  have e : (Memref.whole cc0_stg1_0).view.readAt (Elt F) (Rect.unit (s := S1024x1024) ![0, 0] S1024x1024.size
      inb_S1024x1024_S1024x1024_0_0).toLoadRect (wq c) = wq c :=
    Memref.readAt_unit_zero (Elt F) cc0_stg1_0 off2_zero _ (wq c)
  rw [e]
  iintro Hq
  iapply (wp_load 𝒱₀ (c : Thread nD τ) none Set.univ (m := Memref.whole cc0_scratch0) (S := slotSet 0) (by
    intro i hi
    obtain ⟨y, hy, rfl⟩ := Finset.mem_map.mp hi
    exact first_sub y hy)) $$ [Hf]
  · iexact Hf
  iintro Hf
  iapply (wp_store 𝒱₀ (c : Thread nD τ) none Set.univ (m := Memref.whole cc0_scratch0) (r := Rect.unit (s := S2x1024x1024) ![0, 0, 0]
            S1x1024x1024.size inb_S2x1024x1024_S1x1024x1024_0_0_0) (S := slotSet 0) (by
    intro i hi
    rw [View.setOn_univ] at hi
    exact first_sub i ((View.set_slice_whole cc0_scratch0 _) ▸ hi))) $$ [Hf]
  · iexact Hf
  iintro Hf
  iapply Hk
  isplitl [Hq]; · iexact Hq
  iapply (show (((c : Thread nD τ).loc cc0_scratch0) ↦[slotSet 0]{fullShare}
      (((Memref.whole cc0_scratch0).access (Rect.unit (s := S2x1024x1024) ![0, 0, 0] S1x1024x1024.size inb_S2x1024x1024_S1x1024x1024_0_0_0)).write (Elt F) f (k0_pay101 (wq c)) Finset.univ) : sProp 𝕄) ⊢ wSlot wq c 0 fullShare from
    Entails.of_eq (pointsTo_congr fun i hi => (congrFun (View.write_whole_slice_unit (Val := Elt F) cc0_scratch0 ![0, 0, 0] S1x1024x1024.size inb_S2x1024x1024_S1x1024x1024_0_0_0 f _) i).trans
      ((put_first f (wq c) i hi).trans (by unfold wAt; rw [back_zero, fwd_zero, ite_self]))))
  iexact Hf

/-- The output weights go into their first slot. -/
theorem wp_copyO {P : KProg F} {Q : PUnit → sProp 𝕄} :
    iprop((((c : Thread nD τ).loc cc0_stg2_0) ↦{fullShare} (wo c : Buf (Elt F) ((c : Thread nD τ).loc cc0_stg2_0)))
        ∗ (∃ f : Buf (Elt F) ((c : Thread nD τ).loc cc0_scratch1), ((c : Thread nD τ).loc cc0_scratch1) ↦[slotSet 0]{fullShare} f))
      ⊢ iprop((((((c : Thread nD τ).loc cc0_stg2_0) ↦{fullShare} (wo c : Buf (Elt F) ((c : Thread nD τ).loc cc0_stg2_0)))
          ∗ oSlot wo c 0 fullShare) -∗ wpc c P Q)
        -∗ wpc c (.op (.load (Memref.whole cc0_stg2_0) (Rect.unit (s := S1024x1024) ![0, 0] S1024x1024.size
            inb_S1024x1024_S1024x1024_0_0).toLoadRect (View.loadsAt_vmem h_S1024x1024)) fun w =>
          .op (.load (Memref.whole cc0_scratch1) (Rect.unit (s := S2x1024x1024) ![0, 0, 0]
            S1x1024x1024.size inb_S2x1024x1024_S1x1024x1024_0_0_0).toLoadRect
            (View.loadsAt_vmem h_S1x1024x1024)) fun _ =>
          .op (.store (Memref.whole cc0_scratch1) (Rect.unit (s := S2x1024x1024) ![0, 0, 0]
            S1x1024x1024.size inb_S2x1024x1024_S1x1024x1024_0_0_0) (k0_pay102 w) Finset.univ
            (View.stores_vmem_bits_univ h_S1x1024x1024 rfl) (.inl rfl)) fun _ => P) Q) := by
  iintro ⟨Hq, ⟨%f, Hf⟩⟩ Hk
  iapply (wp_load 𝒱₀ (c : Thread nD τ) none Set.univ (m := Memref.whole cc0_stg2_0) (Finset.subset_univ _)) $$ [Hq]
  · iexact Hq
  have e : (Memref.whole cc0_stg2_0).view.readAt (Elt F) (Rect.unit (s := S1024x1024) ![0, 0] S1024x1024.size
      inb_S1024x1024_S1024x1024_0_0).toLoadRect (wo c) = wo c :=
    Memref.readAt_unit_zero (Elt F) cc0_stg2_0 off2_zero _ (wo c)
  rw [e]
  iintro Hq
  iapply (wp_load 𝒱₀ (c : Thread nD τ) none Set.univ (m := Memref.whole cc0_scratch1) (S := slotSet 0) (by
    intro i hi
    obtain ⟨y, hy, rfl⟩ := Finset.mem_map.mp hi
    exact first_sub y hy)) $$ [Hf]
  · iexact Hf
  iintro Hf
  iapply (wp_store 𝒱₀ (c : Thread nD τ) none Set.univ (m := Memref.whole cc0_scratch1) (r := Rect.unit (s := S2x1024x1024) ![0, 0, 0]
            S1x1024x1024.size inb_S2x1024x1024_S1x1024x1024_0_0_0) (S := slotSet 0) (by
    intro i hi
    rw [View.setOn_univ] at hi
    exact first_sub i ((View.set_slice_whole cc0_scratch1 _) ▸ hi))) $$ [Hf]
  · iexact Hf
  iintro Hf
  iapply Hk
  isplitl [Hq]; · iexact Hq
  iapply (show (((c : Thread nD τ).loc cc0_scratch1) ↦[slotSet 0]{fullShare}
      (((Memref.whole cc0_scratch1).access (Rect.unit (s := S2x1024x1024) ![0, 0, 0] S1x1024x1024.size inb_S2x1024x1024_S1x1024x1024_0_0_0)).write (Elt F) f (k0_pay102 (wo c)) Finset.univ) : sProp 𝕄) ⊢ oSlot wo c 0 fullShare from
    Entails.of_eq (pointsTo_congr fun i hi => (congrFun (View.write_whole_slice_unit (Val := Elt F) cc0_scratch1 ![0, 0, 0] S1x1024x1024.size inb_S2x1024x1024_S1x1024x1024_0_0_0 f _) i).trans
      ((put_first f (wo c) i hi).trans (by unfold oAt; rw [back_zero, fwd_zero, ite_self]))))
  iexact Hf

theorem wp_prologue {P : FVec F S1024x1024 .f32 → KProg F} {Q : PUnit → sProp 𝕄} :
    iprop(staged x wq wo c ∗ fresh c)
      ⊢ iprop(((staged x wq wo c ∗ (wSlot wq c 0 fullShare ∗ oSlot wo c 0 fullShare)
          ∗ accPts c (k0_pay104 (k0_pay103 (F := F)))) -∗ wpc c (P (k0_pay105 x)) Q)
        -∗ wpc c (prologue P) Q) := by
  unfold prologue staged fresh accPts
  iintro ⟨⟨Hx, Hq, Ho⟩, Hf, Hg, ⟨%a, Ha⟩⟩ Hk
  iapply (wp_copyW wq c) $$ [Hq Hf]
  · isplitl [Hq] <;> iassumption
  iintro ⟨Hq, Hf⟩
  iapply (wp_copyO wo c) $$ [Ho Hg]
  · isplitl [Ho] <;> iassumption
  iintro ⟨Ho, Hg⟩
  iapply (wp_load 𝒱₀ (c : Thread nD τ) none Set.univ (m := Memref.whole cc0_scratch5) (Finset.subset_univ _)) $$ [Ha]
  · iexact Ha
  iintro Ha
  iapply (wp_store 𝒱₀ (c : Thread nD τ) none Set.univ (m := Memref.whole cc0_scratch5) (Finset.subset_univ _)) $$ [Ha]
  · iexact Ha
  have ea : ((Memref.whole cc0_scratch5).access (Rect.unit (s := S1024x1024) ![0, 0] S1024x1024.size
      inb_S1024x1024_S1024x1024_0_0)).write (Elt F) a (k0_pay104 (k0_pay103 (F := F))) Finset.univ = k0_pay104 (k0_pay103 (F := F)) :=
    Memref.write_access_unit_zero_univ (Elt F) cc0_scratch5 off2_zero _ a _
  rw [ea]
  iintro Ha
  iapply (wp_load 𝒱₀ (c : Thread nD τ) none Set.univ (m := Memref.whole cc0_stg0_0) (Finset.subset_univ _)) $$ [Hx]
  · iexact Hx
  have ex : (Memref.whole cc0_stg0_0).view.readAt (Elt F) (Rect.unit (s := S1x1024x1024) ![0, 0, 0]
      S1x1024x1024.size inb_S1x1024x1024_S1x1024x1024_0_0_0).toLoadRect x = x :=
    Memref.readAt_unit_zero (Elt F) cc0_stg0_0 off3_zero _ x
  rw [ex]
  iintro Hx
  iapply Hk
  isplitl [Hx Hq Ho]
  · isplitl [Hx]; · iexact Hx
    isplitl [Hq] <;> iassumption
  isplitr [Ha]
  · isplitl [Hf] <;> iassumption
  · iexact Ha

/-! ## The steps -/

/-- The tickets of the hop after step `t`. -/
def turn (t : ℕ) (c : Dev nD) : sProp 𝕄 := iprop(crdRes t c ∗ hopRes (t + 1) c)

/-- Before the computation of step `t`, the copies of hop `t + 1` under way. -/
def mid (t : ℕ) : sProp 𝕄 :=
  iprop(flying (t + 1) c ∗ (wSlot wq c t kept ∗ oSlot wo c t kept) ∗ tools X V c
    ∗ accPts c (accAt x wq wo X V c t) ∗ owesE c (restT c (t + 1)))

/-- A step, and the hop after it. -/
theorem wp_turn (t : ℕ) (h5 : t ≤ 5) {oS : Fin 4 → ℕ} {hS : ∀ a, oS a + S1x1024x1x128.size a ≤ S1x1024x64x128.size a}
    (e : oS = oSrc (headOf t c 0)) {l : Scf.Loop 32} {ok : l.OK} (hl : l.trips = 8)
    (n₀ n₁ n₂ n₃ n₄ n₅ : Dev nD) (e₀ : n₀ = un 0 c) (e₁ : n₁ = un 1 c)
    (e₂ : n₂ = nb 0 c) (e₃ : n₃ = nb 0 c) (e₄ : n₄ = nb 1 c) (e₅ : n₅ = nb 1 c) {P : KProg F} {Q : PUnit → sProp 𝕄} :
    iprop(records wq wo K ∗ levAts L lv ∗ mid x wq wo X V c t ∗ turn (t + 1) c)
      ⊢ iprop((mid x wq wo X V c (t + 1) -∗ wpc c P Q)
        -∗ wpc c (compute t oS hS (k0_pay105 x) l ok (fun k _ => tripC t c k.val (hl ▸ k.isLt))
          (hop (t + 1) n₀ n₁ n₂ n₃ n₄ n₅ P)) Q) := by
  unfold mid turn
  iintro ⟨#HR, #Hl, ⟨HF, Hs, Ht, Ha, HO⟩, ⟨Hcr, Hres⟩⟩ Hk
  iapply (wp_compute x wq wo X V c t kept (accAt x wq wo X V c t) (O := restT c (t + 1))
    (OweGe.restT c (by omega) (by omega) (by omega)) e hl) $$ [Hs Ht Ha HO]
  · isplitr; · iexact Hl
    isplitl [Ht]; · iexact Ht
    isplitl [Hs]; · iexact Hs
    isplitl [Ha] <;> iassumption
  iintro ⟨Ht, Hs, Ha, HO⟩
  iapply (wp_hop wq wo K c t (t + 1) rfl h5 n₀ n₁ n₂ n₃ n₄ n₅ e₀ e₁ e₂ e₃ e₄ e₅) $$ [HF Hs Hcr Hres HO]
  · isplitr; · iexact HR
    isplitr; · iexact Hl
    isplitl [HF]; · iexact HF
    isplitl [Hs]; · iexact Hs
    isplitl [Hcr]; · iexact Hcr
    isplitl [Hres] <;> iassumption
  iintro ⟨HF, Hs, HO⟩
  iapply Hk
  isplitl [HF]; · iexact HF
  isplitl [Hs]; · iexact Hs
  isplitl [Ht]; · iexact Ht
  isplitl [Ha]; · iexact Ha
  iexact HO

/-- The owner's positions and tickets, as the device enters. -/
def entry (c : Dev nD) : sProp 𝕄 :=
  iprop((barPre c 0 ∗ barPre c 1) ∗ (atPos ER (cell c .bar) 0 ∅ 0 ∗ cred (tallyAt (cell c .bar) 0 2))
    ∗ (posAt 1 c ∗ posAt 2 c ∗ crdStand 1 c) ∗ hopRes 1 c
    ∗ (turn 1 c ∗ turn 2 c ∗ turn 3 c ∗ turn 4 c ∗ turn 5 c ∗ turn 6 c) ∗ owesE c (O₀ c))

/-- The owner's positions, as the device leaves. -/
def leave (c : Dev nD) : sProp 𝕄 :=
  iprop(atPos ER (cell c .bar) 1 ∅ 0 ∗ posAt 8 c ∗ posAt 9 c ∗ crdStand 7 c ∗ owesE c 0)

/-- The hand-shake, the copies and the first sends. -/
theorem wp_begin (n₀ n₁ n₂ n₃ n₄ n₅ : Dev nD) (e₀ : n₀ = un 0 c) (e₁ : n₁ = un 1 c)
    (e₂ : n₂ = nb 0 c) (e₃ : n₃ = nb 0 c) (e₄ : n₄ = nb 1 c) (e₅ : n₅ = nb 1 c)
    {P : FVec F S1024x1024 .f32 → KProg F} {Q : PUnit → sProp 𝕄} :
    iprop(records wq wo K ∗ levAts L lv ∗ ((barPre c 0 ∗ barPre c 1) ∗ (atPos ER (cell c .bar) 0 ∅ 0 ∗ cred (tallyAt (cell c .bar) 0 2))
        ∗ (posAt 1 c ∗ posAt 2 c ∗ crdStand 1 c) ∗ hopRes 1 c ∗ owesE c (O₀ c)) ∗ tools X V c ∗ staged x wq wo c ∗ fresh c)
      ⊢ iprop(((atPos ER (cell c .bar) 1 ∅ 0 ∗ staged x wq wo c ∗ mid x wq wo X V c 0) -∗ wpc c (P (k0_pay105 x)) Q)
        -∗ wpc c (handshake n₀ n₁ (prologue fun x => sends 1 n₂ n₃ n₄ n₅ (P x))) Q) := by
  iintro ⟨#HR, #Hl, ⟨Hb, Hbar, Hp, Hres, HO⟩, Ht, Hst, Hfr⟩ Hk
  iapply (wp_handshake wq wo K c n₀ n₁ e₀ e₁ (restT c 1 + sendT 1 c)
    (OweGe.add (OweGe.restT c (by omega) (by omega) (by omega)) (OweGe.sendT c (by omega) (by omega)))) $$ [Hb Hbar HO]
  · isplitr; · iexact HR
    isplitr; · iexact Hl
    isplitl [Hb]; · iexact Hb
    isplitl [Hbar]; · iexact Hbar
    iexact HO
  iintro ⟨Hbar, Hpay, HO⟩
  iapply (wp_prologue x wq wo c) $$ [Hst Hfr]
  · isplitl [Hst] <;> iassumption
  iintro ⟨Hst, Hs, Ha⟩
  ihave Hlanes := (slot_lanes wq wo c fullShare 0).1 $$ Hs
  iapply (wp_depart wq wo K c 0 (by omega) n₂ n₃ n₄ n₅ e₂ e₃ e₄ e₅ (restT c 1)) $$ [Hp Hres Hlanes Hpay HO]
  · isplitr; · iexact HR
    isplitl [Hp]; · iexact Hp
    isplitl [Hres]; · iexact Hres
    isplitl [Hlanes]; · iexact Hlanes
    isplitl [Hpay]
    · unfold barPay four
      icases Hpay with ⟨⟨A, B⟩, ⟨C, D⟩⟩
      isplitl [A]; · iexact A
      isplitl [B]; · iexact B
      isplitl [C]; · iexact C
      iexact D
    isplitr
    · unfold four
      isplitr; · iapply (reached_at wq wo K); iexact HR
      isplitr; · iapply (reached_at wq wo K); iexact HR
      isplitr; · iapply (reached_at wq wo K); iexact HR
      iapply (reached_at wq wo K); iexact HR
    iexact HO
  iintro ⟨HF, Hs, HO⟩
  iapply Hk
  isplitl [Hbar]; · iexact Hbar
  isplitl [Hst]; · iexact Hst
  unfold mid
  isplitl [HF]; · iexact HF
  isplitl [Hs]; · iexact Hs
  isplitl [Ht]; · iexact Ht
  isplitl [Ha]; · iexact Ha
  iexact HO

/-- The weights' slots at any contents. -/
def slotsFree (c : Dev nD) : sProp 𝕄 :=
  iprop(four (fun hi kd => laneFree (F := F) kd 0 hi c) ∗ (wSlot wq c 7 fullShare ∗ oSlot wo c 7 fullShare))

/-- The last arrivals, the last step, and the result. -/
theorem wp_end {oS oS' : Fin 4 → ℕ} {hS : ∀ a, oS a + S1x1024x1x128.size a ≤ S1x1024x64x128.size a}
    {hS' : ∀ a, oS' a + S1x1024x1x128.size a ≤ S1x1024x64x128.size a}
    (e : oS = oSrc (headOf 6 c 0)) (e' : oS' = oSrc (headOf 7 c 0)) {l l' : Scf.Loop 32} {ok : l.OK} {ok' : l'.OK}
    (hl : l.trips = 8) (hl' : l'.trips = 8) {Q : PUnit → sProp 𝕄} :
    iprop(records wq wo K ∗ levAts L lv ∗ mid x wq wo X V c 6 ∗ outPts c 0 (accAt x wq wo X V c 8))
      ⊢ iprop((((posAt 8 c ∗ posAt 9 c ∗ crdStand 7 c) ∗ slotsFree wq wo c ∗ tools X V c ∗ owesE c 0
            ∗ accPts c (accAt x wq wo X V c 8)
            ∗ (((c : Thread nD τ).loc cc0_stg3_0) ↦{fullShare} (outOf (accAt x wq wo X V c 8) : Buf (Elt F) ((c : Thread nD τ).loc cc0_stg3_0)))) -∗ Q ⟨⟩)
        -∗ wpc c (compute 6 oS hS (k0_pay105 x) l ok (fun k _ => tripC 6 c k.val (hl ▸ k.isLt))
          (waits 7 (compute 7 oS' hS' (k0_pay105 x) l' ok' (fun k _ => tripC 7 c k.val (hl' ▸ k.isLt)) outRows))) Q) := by
  unfold mid
  iintro ⟨#HR, #Hl, ⟨HF, Hs, Ht, Ha, HO⟩, Hout⟩ Hk
  iapply (wp_compute x wq wo X V c 6 kept (accAt x wq wo X V c 6) (O := restT c 7)
    (OweGe.restT c (by omega) (by omega) (by omega)) e hl) $$ [Hs Ht Ha HO]
  · isplitr; · iexact Hl
    isplitl [Ht]; · iexact Ht
    isplitl [Hs]; · iexact Hs
    isplitl [Ha] <;> iassumption
  iintro ⟨Ht, Hs, Ha, HO⟩
  iapply (wp_arrive wq wo K c 6 (by omega) (O := restT c 7) (OweGe.zero _)) $$ [HF Hs HO]
  · isplitr; · iexact HR
    isplitr; · iexact Hl
    isplitl [HF]; · iexact HF
    isplitl [Hs] <;> iassumption
  iintro ⟨Hp, Hp', Hcs, Hfree, Hfull, -, HO⟩
  ihave Hs := (slot_lanes wq wo c fullShare 7).2 $$ Hfull
  iapply (wp_compute x wq wo X V c 7 fullShare (accAt x wq wo X V c 7) (O := restT c 7)
    (OweGe.restT c (by omega) (by omega) (by omega)) e' hl') $$ [Hs Ht Ha HO]
  · isplitr; · iexact Hl
    isplitl [Ht]; · iexact Ht
    isplitl [Hs]; · iexact Hs
    isplitl [Ha]; · iexact Ha
    iexact HO
  iintro ⟨Ht, Hs, Ha, HO⟩
  iapply (wp_outRows c (accAt x wq wo X V c 8)) $$ [Ha Hout]
  · isplitl [Ha]; · iexact Ha
    iexact Hout
  iintro ⟨Ha, Hout⟩
  iapply Hk
  isplitl [Hp Hp' Hcs]
  · isplitl [Hp]; · iexact Hp
    isplitl [Hp']; · iexact Hp'
    iexact Hcs
  isplitl [Hfree Hs]
  · unfold slotsFree
    isplitl [Hfree]; · iexact Hfree
    iexact Hs
  isplitl [Ht]; · iexact Ht
  isplitl [HO]; · iexact HO
  isplitl [Ha]; · iexact Ha
  iexact Hout

/-- The first head of each step. -/
theorem off_first : ∀ c : Dev nD, k0_off1 c 0#32 0#32 = oSrc (headOf 0 c 0) ∧ k0_off1 c 1#32 1#32 = oSrc (headOf 1 c 0)
    ∧ k0_off1 c 2#32 2#32 = oSrc (headOf 2 c 0) ∧ k0_off1 c 3#32 3#32 = oSrc (headOf 3 c 0)
    ∧ k0_off1 c 4#32 4#32 = oSrc (headOf 4 c 0) ∧ k0_off1 c 5#32 5#32 = oSrc (headOf 5 c 0)
    ∧ k0_off1 c 6#32 6#32 = oSrc (headOf 6 c 0) ∧ k0_off1 c 7#32 7#32 = oSrc (headOf 7 c 0) := by
  decide +kernel

/-- Where a hop's credits and sends go. -/
abbrev Aims (c n₀ n₁ n₂ n₃ n₄ n₅ : Dev nD) : Prop :=
  n₀ = un 0 c ∧ n₁ = un 1 c ∧ n₂ = nb 0 c ∧ n₃ = nb 0 c ∧ n₄ = nb 1 c ∧ n₅ = nb 1 c

/-- Where the body's signals and sends go. -/
theorem aims : ∀ c : Dev nD, Aims c ⟨k0_dev1 c, k0_dev1_lt c⟩ ⟨k0_dev2 c, k0_dev2_lt c⟩ ⟨k0_dev3 c, k0_dev3_lt c⟩ ⟨k0_dev4 c, k0_dev4_lt c⟩ ⟨k0_dev5 c, k0_dev5_lt c⟩ ⟨k0_dev6 c, k0_dev6_lt c⟩
    ∧ Aims c ⟨k0_dev7 c, k0_dev7_lt c⟩ ⟨k0_dev8 c, k0_dev8_lt c⟩ ⟨k0_dev9 c, k0_dev9_lt c⟩ ⟨k0_dev10 c, k0_dev10_lt c⟩ ⟨k0_dev11 c, k0_dev11_lt c⟩ ⟨k0_dev12 c, k0_dev12_lt c⟩
    ∧ Aims c ⟨k0_dev13 c, k0_dev13_lt c⟩ ⟨k0_dev14 c, k0_dev14_lt c⟩ ⟨k0_dev15 c, k0_dev15_lt c⟩ ⟨k0_dev16 c, k0_dev16_lt c⟩ ⟨k0_dev17 c, k0_dev17_lt c⟩ ⟨k0_dev18 c, k0_dev18_lt c⟩
    ∧ Aims c ⟨k0_dev19 c, k0_dev19_lt c⟩ ⟨k0_dev20 c, k0_dev20_lt c⟩ ⟨k0_dev21 c, k0_dev21_lt c⟩ ⟨k0_dev22 c, k0_dev22_lt c⟩ ⟨k0_dev23 c, k0_dev23_lt c⟩ ⟨k0_dev24 c, k0_dev24_lt c⟩
    ∧ Aims c ⟨k0_dev25 c, k0_dev25_lt c⟩ ⟨k0_dev26 c, k0_dev26_lt c⟩ ⟨k0_dev27 c, k0_dev27_lt c⟩ ⟨k0_dev28 c, k0_dev28_lt c⟩ ⟨k0_dev29 c, k0_dev29_lt c⟩ ⟨k0_dev30 c, k0_dev30_lt c⟩
    ∧ Aims c ⟨k0_dev31 c, k0_dev31_lt c⟩ ⟨k0_dev32 c, k0_dev32_lt c⟩ ⟨k0_dev33 c, k0_dev33_lt c⟩ ⟨k0_dev34 c, k0_dev34_lt c⟩ ⟨k0_dev35 c, k0_dev35_lt c⟩ ⟨k0_dev36 c, k0_dev36_lt c⟩
    ∧ Aims c ⟨k0_dev37 c, k0_dev37_lt c⟩ ⟨k0_dev38 c, k0_dev38_lt c⟩ ⟨k0_dev39 c, k0_dev39_lt c⟩ ⟨k0_dev40 c, k0_dev40_lt c⟩ ⟨k0_dev41 c, k0_dev41_lt c⟩ ⟨k0_dev42 c, k0_dev42_lt c⟩ := by
  decide +kernel

/-- The body, from what the device holds when it enters to what it holds when it leaves. -/
theorem wp_body {Q : PUnit → sProp 𝕄} :
    iprop(records wq wo K ∗ levAts L lv ∗ entry c ∗ tools X V c ∗ staged x wq wo c ∗ fresh c ∗ outPts c 0 (accAt x wq wo X V c 8))
      ⊢ iprop(((leave c ∗ slotsFree wq wo c ∗ tools X V c ∗ staged x wq wo c ∗ accPts c (accAt x wq wo X V c 8)
            ∗ (((c : Thread nD τ).loc cc0_stg3_0) ↦{fullShare} (outOf (accAt x wq wo X V c 8) : Buf (Elt F) ((c : Thread nD τ).loc cc0_stg3_0)))) -∗ Q ⟨⟩)
        -∗ wpc c (bodyAt c) Q) := by
  obtain ⟨h0, h1, h2, h3, h4, h5, h6⟩ := aims c
  have hf := off_first c
  unfold bodyAt entry leave
  iintro ⟨#HR, #Hl, ⟨Hb, Hbar, Hp, Hres, ⟨H1, H2, H3, H4, H5, H6⟩, HO⟩, Ht, Hst, Hfr, Hout⟩ Hk
  iapply (wp_begin x wq wo X V K c _ _ _ _ _ _ h0.1 h0.2.1 h0.2.2.1 h0.2.2.2.1 h0.2.2.2.2.1 h0.2.2.2.2.2) $$ [Hb Hbar Hp Hres HO Ht Hst Hfr]
  · isplitr; · iexact HR
    isplitr; · iexact Hl
    isplitl [Hb Hbar Hp Hres HO]
    · isplitl [Hb]; · iexact Hb
      isplitl [Hbar]; · iexact Hbar
      isplitl [Hp]; · iexact Hp
      isplitl [Hres] <;> iassumption
    isplitl [Ht]; · iexact Ht
    isplitl [Hst] <;> iassumption
  iintro ⟨Hbar, Hst, HM⟩
  iapply (wp_turn x wq wo X V K c 0 (by omega) hf.1 trips_t1 _ _ _ _ _ _ h1.1 h1.2.1 h1.2.2.1 h1.2.2.2.1 h1.2.2.2.2.1 h1.2.2.2.2.2) $$ [HM H1]
  · isplitr; · iexact HR
    isplitr; · iexact Hl
    isplitl [HM]; · iexact HM
    iexact H1
  iintro HM
  iapply (wp_turn x wq wo X V K c 1 (by omega) hf.2.1 trips_t2 _ _ _ _ _ _ h2.1 h2.2.1 h2.2.2.1 h2.2.2.2.1 h2.2.2.2.2.1 h2.2.2.2.2.2) $$ [HM H2]
  · isplitr; · iexact HR
    isplitr; · iexact Hl
    isplitl [HM]; · iexact HM
    iexact H2
  iintro HM
  iapply (wp_turn x wq wo X V K c 2 (by omega) hf.2.2.1 trips_t3 _ _ _ _ _ _ h3.1 h3.2.1 h3.2.2.1 h3.2.2.2.1 h3.2.2.2.2.1 h3.2.2.2.2.2) $$ [HM H3]
  · isplitr; · iexact HR
    isplitr; · iexact Hl
    isplitl [HM]; · iexact HM
    iexact H3
  iintro HM
  iapply (wp_turn x wq wo X V K c 3 (by omega) hf.2.2.2.1 trips_t4 _ _ _ _ _ _ h4.1 h4.2.1 h4.2.2.1 h4.2.2.2.1 h4.2.2.2.2.1 h4.2.2.2.2.2) $$ [HM H4]
  · isplitr; · iexact HR
    isplitr; · iexact Hl
    isplitl [HM]; · iexact HM
    iexact H4
  iintro HM
  iapply (wp_turn x wq wo X V K c 4 (by omega) hf.2.2.2.2.1 trips_t5 _ _ _ _ _ _ h5.1 h5.2.1 h5.2.2.1 h5.2.2.2.1 h5.2.2.2.2.1 h5.2.2.2.2.2) $$ [HM H5]
  · isplitr; · iexact HR
    isplitr; · iexact Hl
    isplitl [HM]; · iexact HM
    iexact H5
  iintro HM
  iapply (wp_turn x wq wo X V K c 5 (by omega) hf.2.2.2.2.2.1 trips_t6 _ _ _ _ _ _ h6.1 h6.2.1 h6.2.2.1 h6.2.2.2.1 h6.2.2.2.2.1 h6.2.2.2.2.2) $$ [HM H6]
  · isplitr; · iexact HR
    isplitr; · iexact Hl
    isplitl [HM]; · iexact HM
    iexact H6
  iintro HM
  iapply (wp_end x wq wo X V K c hf.2.2.2.2.2.2.1 hf.2.2.2.2.2.2.2 trips_t7 trips_t8) $$ [HM Hout]
  · isplitr; · iexact HR
    isplitr; · iexact Hl
    isplitl [HM]; · iexact HM
    iexact Hout
  iintro ⟨⟨Hp, Hp', Hcs⟩, Hs, Ht, HO, Ha, Hout⟩
  iapply Hk
  isplitl [Hbar Hp Hp' Hcs HO]
  · isplitl [Hbar]; · iexact Hbar
    isplitl [Hp]; · iexact Hp
    isplitl [Hp']; · iexact Hp'
    isplitl [Hcs] <;> iassumption
  isplitl [Hs]; · iexact Hs
  isplitl [Ht]; · iexact Ht
  isplitl [Hst]; · iexact Hst
  isplitl [Ha]; · iexact Ha
  iexact Hout

end Body

end Cert.KernelIdeal.Attn
-- ==== Proof.KernelIdeal.Alloc.lean ====
module

public import proofs.«01_k».proof.Proof.KernelIdeal.Whole

/-!
# What the launch deals out

The ring's cells, the tokens of their duties and the credit of the launch, and how a device's share
of them makes up what its body enters with.
-/

@[expose] public section

set_option synthInstance.maxSize 4096

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig ℕ (Elt F) ℕ UU ℕ

instance sep_assoc' : Std.Associative (fun P Q : sProp 𝕄 => iprop(P ∗ Q)) := ⟨fun _ _ _ => equiv_iff.mp ⟨BI.sep_assoc, BI.sep_assoc'⟩⟩
instance sep_comm' : Std.Commutative (fun P Q : sProp 𝕄 => iprop(P ∗ Q)) := ⟨fun _ _ => equiv_iff.mp ⟨BI.sep_comm, BI.sep_comm⟩⟩
omit [FloatOps F] in
theorem sep_form (P Q : sProp 𝕄) : BI.sep P Q = iprop(P ∗ Q) := rfl

/-! ## A device's cells -/

omit [FloatOps F] in
/-- The cells of a device one by one. -/
theorem bigSep_CK (Φ : CK → sProp 𝕄) : bigSep Finset.univ Φ =
    iprop(Φ .bar ∗ (Φ (.crd 0) ∗ Φ (.crd 1))
      ∗ (four (fun hi kd => Φ (.snd hi kd 0)) ∗ four (fun hi kd => Φ (.snd hi kd 1)))
      ∗ (four (fun hi kd => Φ (.rcv hi kd 0)) ∗ four (fun hi kd => Φ (.rcv hi kd 1)))) := by
  rw [bigSep_univ_eq_bigSepL [CK.bar, .crd 0, .crd 1, .snd 0 0 0, .snd 0 1 0, .snd 1 0 0, .snd 1 1 0,
    .snd 0 0 1, .snd 0 1 1, .snd 1 0 1, .snd 1 1 1, .rcv 0 0 0, .rcv 0 1 0, .rcv 1 0 0, .rcv 1 1 0,
    .rcv 0 0 1, .rcv 0 1 1, .rcv 1 0 1, .rcv 1 1 1] (by decide) (by decide)]
  simp only [bigSepL_cons_cons, bigSepL_singleton]
  simp only [four, sep_form]
  ac_rfl

omit [FloatOps F] in
theorem bigSep_two_two (P : Fin 2 → Fin 2 → sProp 𝕄) :
    bigSep Finset.univ (fun a : Fin 2 × Fin 2 => P a.1 a.2) = four P := by
  rw [bigSep_univ_prod, bigSep_fin_two]
  simp only [bigSep_fin_two]
  simp only [four, sep_form]
  ac_rfl

/-- The kernel's own semaphores: the ring's, and those of the loads of the keys and the values. -/
abbrev OS : Type := {k : CK // k ≠ .bar} ⊕ (Fin 2 × Fin 2)
/-- The semaphore of each. -/
def osem : OS → SemLoc sig
  | .inl k => csem k.1
  | .inr a => kvCell a.1.val a.2

theorem ownSemFacts : Pipeline.OwnSemFacts cfg0.spec osem := by decide +kernel

/-- The loads' semaphores at zero. -/
def kvSems (c : Dev nD) : sProp 𝕄 := four (fun p h => semVal ((c : Thread nD τ), kvCell p.val h) 0)

omit [FloatOps F] in
theorem unscopedSems0_eq (c : Dev nD) : (unscopedSems0 c : sProp 𝕄) = semVal (cell c .bar) 0 := by
  unfold unscopedSems0
  rw [bigSep_eq_bigSepL_of_eq [csem .bar] (by decide +kernel) (by decide +kernel)]
  rfl

omit [FloatOps F] in
/-- Every semaphore at zero: a device's cells', and the loads'. -/
theorem sems_eq (c : Dev nD) :
    iprop(Pipeline.ownSems0 (Ix := ℕ) (Name := ℕ) (U := UU) (Lvl := ℕ) (Val := Elt F) (τ := τ) osem c ∗ unscopedSems0 c)
      = iprop((bigSep Finset.univ fun k : CK => semVal (cell c k) 0) ∗ (kvSems c : sProp 𝕄)) := by
  have h1 : (Pipeline.ownSems0 (Ix := ℕ) (Name := ℕ) (U := UU) (Lvl := ℕ) (Val := Elt F) (τ := τ) osem c : sProp 𝕄)
      = iprop((bigSep (Finset.univ.erase CK.bar) fun k => semVal (cell c k) 0) ∗ kvSems c) := by
    unfold Pipeline.ownSems0 kvSems
    rw [bigSep_univ_sum, ← bigSep_subtype_ne CK.bar, ← bigSep_two_two]
    rfl
  rw [h1, unscopedSems0_eq, bigSep_univ_split CK.bar (Φ := fun k => (semVal (cell c k) 0 : sProp 𝕄))]
  simp only [sep_form]
  ac_rfl

/-! ## The duties and who performs them -/

/-- The duties: of the barrier, of the credits of a step, and of the copies of a hop (whether the
    arrival, direction, kind). -/
abbrev TK : Type := Fin 2 ⊕ ((Fin 6 × Fin 2) ⊕ (Fin 7 × Fin 2 × (Fin 2 × Fin 2)))

/-- A duty's cell, round and number. -/
def tk : TK → CK × ℕ × Fin 2
  | .inl d => (.bar, 0, d)
  | .inr (.inl (n, hi)) => (.crd hi, n.val, 0)
  | .inr (.inr (n, a, hi, kd)) =>
    (if a = 0 then .snd hi kd (slot (n.val + 1 + 1)) else .rcv hi kd (slot (n.val + 1)), n.val / 2, 0)

/-- Whose cell a device's duty is at. -/
def te : TK → Dev nD ≃ Dev nD
  | .inl d => unEquiv d
  | .inr (.inl (_, hi)) => unEquiv hi
  | .inr (.inr (_, a, hi, _)) => if a = 0 then Equiv.refl _ else nbEquiv hi

/-- The credit of a duty at its cell: none for a departure. -/
def tt (c : Dev nD) : TK → CellTallies nD τ sig ℕ
  | .inl _ => tallyAt (cell c .bar) 0 1
  | .inr (.inl (n, hi)) => tallyAt (cell c (.crd hi)) (n.val + 1) 1
  | .inr (.inr (n, a, hi, kd)) => if a = 0 then 0 else tallyAt (cell c (.rcv hi kd (slot (n.val + 1)))) (n.val + 1) NN

theorem tk_injective : Function.Injective tk := by decide +kernel

theorem tok_injective : Function.Injective (fun x : Dev nD × TK => (cell x.1 (tk x.2).1, (tk x.2).2.1, (tk x.2).2.2)) := by
  rintro ⟨c, j⟩ ⟨c', j'⟩ h
  have h1 := cell_injective (a₁ := (c, (tk j).1)) (a₂ := (c', (tk j').1)) (congrArg Prod.fst h)
  have h2 : tk j = tk j' := Prod.ext (congrArg Prod.snd h1) (congrArg (fun x => x.2) h)
  rw [tk_injective h2, show c = c' from congrArg Prod.fst h1]

/-- The ring's cells. -/
def ringCells : Finset (GSem nD τ sig) := Finset.univ.map ⟨fun ck : Dev nD × CK => cell ck.1 ck.2, cell_injective⟩
/-- Their duties. -/
def ringToks : Finset (GSem nD τ sig × ℕ × Fin 2) := Finset.univ.map ⟨_, tok_injective⟩

/-- A duty's token at device `c`'s cell. -/
def tokAt (c : Dev nD) (j : TK) : sProp 𝕄 := dutyTok ER (cell c (tk j).1) (tk j).2.1 (tk j).2.2

/-- Everything owed, duty by duty. -/
theorem owed_eq (c : Dev nD) : O₀ c = ∑ j, tt (te j c) j := by
  have hb : ∑ d : Fin 2, tt (te (.inl d) c) (.inl d) = barT c := by
    rw [Fin.sum_univ_two, add_comm]
    rfl
  have hc : ∀ n : Fin 6, ∑ hi : Fin 2, tt (te (.inr (.inl (n, hi))) c) (.inr (.inl (n, hi))) = crdT (n.val + 1) c := fun n => by
    rw [Fin.sum_univ_two, add_comm]
    rfl
  have hs : ∀ n : Fin 7, ∑ a : Fin 2 × (Fin 2 × Fin 2), tt (te (.inr (.inr (n, a))) c) (.inr (.inr (n, a))) = sendT (n.val + 1) c := fun n => by
    simp only [Fintype.sum_prod_type, Fin.sum_univ_two]
    show 0 + 0 + (0 + 0) + (sendTL (n.val + 1) c 0 0 + sendTL (n.val + 1) c 0 1 + (sendTL (n.val + 1) c 1 0 + sendTL (n.val + 1) c 1 1)) = _
    unfold sendT
    simp only [zero_add]
    ac_rfl
  rw [Fintype.sum_sum_type, hb, Fintype.sum_sum_type, Fintype.sum_prod_type, Finset.sum_congr rfl fun n _ => hc n,
    Fintype.sum_prod_type, Finset.sum_congr rfl fun n _ => hs n, Fin.sum_univ_six, Fin.sum_univ_seven]
  show 0 + sendT 7 c + crdT 6 c + sendT 6 c + crdT 5 c + sendT 5 c + crdT 4 c + sendT 4 c + crdT 3 c + sendT 3 c + crdT 2 c
      + sendT 2 c + crdT 1 c + sendT 1 c + barT c
    = barT c + (crdT 1 c + crdT 2 c + crdT 3 c + crdT 4 c + crdT 5 c + crdT 6 c
      + (sendT 1 c + sendT 2 c + sendT 3 c + sendT 4 c + sendT 5 c + sendT 6 c + sendT 7 c))
  rw [zero_add]
  ac_rfl

omit [FloatOps F] in
theorem cred_sum {J : Type} [DecidableEq J] (s : Finset J) (T : J → CellTallies nD τ sig ℕ) :
    (cred (∑ j ∈ s, T j) : sProp 𝕄) = bigSep s fun j => cred (T j) := by
  induction s using Finset.induction_on with
  | empty => rw [Finset.sum_empty, cred_zero, bigSep_empty]; rfl
  | insert j s hj ih => rw [Finset.sum_insert hj, bigSep_insert hj, ← ih]; exact equiv_iff.mp ⟨(cred_add _ _).1, (cred_add _ _).2⟩

/-- A duty's credit is at a device's own cell. -/
theorem tt_own (c : Dev nD) (j : TK) (g : GSem nD τ sig) (h : tt c j g ≠ 0) : g.1 = (c : Thread nD τ) := by
  have own : ∀ (k : CK) (ι n : ℕ), (tallyAt (cell c k) ι n : CellTallies nD τ sig ℕ) g ≠ 0 → g.1 = (c : Thread nD τ) := fun k ι n h => by
    by_contra hg
    exact h (tallyAt_ne_cell (fun e => hg (congrArg Prod.fst e)) ι n)
  match j with
  | .inl _ => exact own _ _ _ h
  | .inr (.inl (n, hi)) => exact own _ _ _ h
  | .inr (.inr (n, a, hi, kd)) =>
    by_cases ha : a = 0
    · exact absurd (by show (if a = 0 then (0 : CellTallies nD τ sig ℕ) else _) g = 0; rw [if_pos ha]; rfl) h
    · refine own (.rcv hi kd (slot (n.val + 1))) (n.val + 1) NN ?_
      have e : tt c (.inr (.inr (n, a, hi, kd))) = tallyAt (cell c (.rcv hi kd (slot (n.val + 1)))) (n.val + 1) NN := if_neg ha
      rw [← e]
      exact h

omit [FloatOps F] in
/-- The launch's credit: that of the duties at a device's own cells. -/
theorem launchCred_eq (c : Dev nD) :
    (Pipeline.launchCred O₀ c : sProp 𝕄) = bigSep Finset.univ fun j => cred (tt c j) := by
  rw [Pipeline.launchCred_of_sum O₀ (fun c => ∑ j, tt c j)]
  · exact cred_sum _ _
  · rw [Finset.sum_congr rfl fun c _ => owed_eq c, Finset.sum_comm, Finset.sum_comm (s := Finset.univ) (t := Finset.univ) (f := fun (c : Dev nD) j => tt c j)]
    exact Finset.sum_congr rfl fun j _ => Equiv.sum_comp (te j) fun c => tt c j
  · intro d g h
    by_contra hg
    refine h ?_
    rw [Finset.sum_apply]
    refine Finset.sum_eq_zero fun j _ => ?_
    by_contra hj
    exact hg (tt_own d j g hj)

/-! ## A device's share -/

/-- What a device gets of a duty: the token of the one it performs, the credit of the one at its cell. -/
def due (c : Dev nD) (j : TK) : sProp 𝕄 := iprop(tokAt (te j c) j ∗ cred (tt c j))

omit [FloatOps F] in
theorem due_bar (c : Dev nD) : bigSep Finset.univ (fun d : Fin 2 => (due c (.inl d) : sProp 𝕄)) =
    iprop((dutyTok ER (cell (un 0 c) .bar) 0 0 ∗ dutyTok ER (cell (un 1 c) .bar) 0 1) ∗ cred (tallyAt (cell c .bar) 0 2)) := by
  have e : (cred (tallyAt (cell c .bar) 0 2) : sProp 𝕄) = iprop(cred (tallyAt (cell c .bar) 0 1) ∗ cred (tallyAt (cell c .bar) 0 1)) := by
    rw [show (tallyAt (cell c .bar) 0 2 : CellTallies nD τ sig ℕ) = tallyAt (cell c .bar) 0 1 + tallyAt (cell c .bar) 0 1 from (tallyAt_add _ _ 1 1).symm]
    exact equiv_iff.mp ⟨(cred_add _ _).1, (cred_add _ _).2⟩
  rw [bigSep_fin_two, e]
  show iprop((dutyTok ER (cell (un 0 c) .bar) 0 0 ∗ cred (tallyAt (cell c .bar) 0 1)) ∗ (dutyTok ER (cell (un 1 c) .bar) 0 1 ∗ cred (tallyAt (cell c .bar) 0 1))) = _
  ac_rfl

omit [FloatOps F] in
theorem due_crd (c : Dev nD) (n : Fin 6) :
    bigSep Finset.univ (fun hi : Fin 2 => (due c (.inr (.inl (n, hi))) : sProp 𝕄)) = crdRes (n.val + 1) c := by
  rw [bigSep_fin_two]
  rfl

omit [FloatOps F] in
theorem due_hop (c : Dev nD) (n : Fin 7) :
    bigSep Finset.univ (fun a : Fin 2 × (Fin 2 × Fin 2) => (due c (.inr (.inr (n, a))) : sProp 𝕄)) = hopRes (n.val + 1) c := by
  have e : ∀ hi kd : Fin 2, (hopLane (n.val + 1) c hi kd : sProp 𝕄) =
      iprop(due c (.inr (.inr (n, 0, hi, kd))) ∗ due c (.inr (.inr (n, 1, hi, kd)))) := fun hi kd => by
    show _ = iprop((dutyTok ER (cell c (.snd hi kd (slot (n.val + 1 + 1)))) (n.val / 2) 0 ∗ cred 0)
      ∗ (dutyTok ER (cell (nb hi c) (.rcv hi kd (slot (n.val + 1)))) (n.val / 2) 0 ∗ cred (tallyAt (cell c (.rcv hi kd (slot (n.val + 1)))) (n.val + 1) NN)))
    rw [cred_zero, show iprop(dutyTok ER (cell c (.snd hi kd (slot (n.val + 1 + 1)))) (n.val / 2) 0 ∗ emp) = (dutyTok ER (cell c (.snd hi kd (slot (n.val + 1 + 1)))) (n.val / 2) 0 : sProp 𝕄) from
      equiv_iff.mp ⟨BI.sep_emp_elim, BI.sep_emp.2⟩]
    rfl
  unfold hopRes four
  simp only [e, bigSep_univ_prod, bigSep_fin_two, sep_form]
  ac_rfl

/-- A device's tokens and credits. -/
def dues (c : Dev nD) : sProp 𝕄 :=
  iprop((dutyTok ER (cell (un 0 c) .bar) 0 0 ∗ dutyTok ER (cell (un 1 c) .bar) 0 1) ∗ cred (tallyAt (cell c .bar) 0 2)
    ∗ hopRes 1 c ∗ (turn 1 c ∗ turn 2 c ∗ turn 3 c ∗ turn 4 c ∗ turn 5 c ∗ turn 6 c))

omit [FloatOps F] in
theorem dues_eq (c : Dev nD) : bigSep Finset.univ (fun j => (due c j : sProp 𝕄)) = dues c := by
  rw [bigSep_univ_sum, due_bar, bigSep_univ_sum, bigSep_univ_prod, bigSep_univ_prod, bigSep_congr fun n _ => due_crd c n,
    bigSep_congr fun n _ => due_hop c n, bigSep_univ_eq_bigSepL [(0 : Fin 6), 1, 2, 3, 4, 5] (by decide) (by decide),
    bigSep_univ_eq_bigSepL [(0 : Fin 7), 1, 2, 3, 4, 5, 6] (by decide) (by decide)]
  simp only [bigSepL_cons_cons, bigSepL_singleton]
  unfold dues turn
  simp only [sep_form]
  show iprop(_ ∗ (crdRes 1 c ∗ crdRes 2 c ∗ crdRes 3 c ∗ crdRes 4 c ∗ crdRes 5 c ∗ crdRes 6 c)
    ∗ (hopRes 1 c ∗ hopRes 2 c ∗ hopRes 3 c ∗ hopRes 4 c ∗ hopRes 5 c ∗ hopRes 6 c ∗ hopRes 7 c)) = _
  ac_rfl

omit [FloatOps F] in
/-- The tokens dealt around the ring. -/
theorem toks_around : bigSep Finset.univ (fun c : Dev nD => bigSep Finset.univ fun j => (tokAt c j : sProp 𝕄)) =
    bigSep Finset.univ fun c : Dev nD => bigSep Finset.univ fun j => tokAt (te j c) j := by
  rw [bigSep_univ_comm, bigSep_univ_comm (fun (c : Dev nD) j => (tokAt (te j c) j : sProp 𝕄))]
  exact bigSep_congr fun j _ => bigSep_univ_equiv (te j) _

/-! ## Positions -/

omit [FloatOps F] in
theorem stand_pos (c : Dev nD) (k : CK) (r : ℕ) : stand c k r ⊢ (atPos ER (cell c k) r ∅ 0 : sProp 𝕄) := by
  unfold stand
  iintro ⟨H, -⟩
  iexact H

omit [FloatOps F] in
theorem stand_dup (c : Dev nD) (k : CK) (r : ℕ) : (stand c k r : sProp 𝕄) ⊢ iprop(stand c k r ∗ reached ER (cell c k) r) := by
  unfold stand
  iintro ⟨H, #Hr⟩
  isplitl [H]
  · isplitl [H]; · iexact H
    iexact Hr
  iexact Hr

omit [FloatOps F] in
/-- A device's positions as it enters. -/
theorem enter_pos (c : Dev nD) : bigSep Finset.univ (fun k => (stand c k 0 : sProp 𝕄)) ⊢
    iprop(atPos ER (cell c .bar) 0 ∅ 0 ∗ posAt 1 c ∗ posAt 2 c ∗ crdStand 1 c) := by
  rw [bigSep_CK]
  iintro ⟨B, C, ⟨S0, S1⟩, R0, R1⟩
  isplitl [B]
  · iapply (stand_pos c .bar 0)
    iexact B
  isplitl [S0 R1]
  · unfold posAt
    iapply (four_join (P := fun hi kd => stand c (.snd hi kd 0) 0) (P' := fun hi kd => stand c (.rcv hi kd 1) 0))
    isplitl [S0]; · iexact S0
    iexact R1
  isplitl [S1 R0]
  · unfold posAt
    iapply (four_join (P := fun hi kd => stand c (.snd hi kd 1) 0) (P' := fun hi kd => stand c (.rcv hi kd 0) 0))
    isplitl [S1]; · iexact S1
    iexact R0
  unfold crdStand
  iexact C

/-- The round of a cell as the device leaves. -/
def lastRound : CK → ℕ
  | .bar => 1
  | .crd _ => 6
  | .snd _ _ σ => 4 - σ.val
  | .rcv _ _ σ => 3 + σ.val

theorem after_last (k : CK) (r : ℕ) (h : lastRound k ≤ r) : dutiesK k r = ∅ := by
  cases k with
  | bar => exact if_neg (by have : 1 ≤ r := h; omega)
  | crd hi => exact if_neg (by have : 6 ≤ r := h; omega)
  | snd hi kd σ => exact if_neg (by have : 4 - σ.val ≤ r := h; have := σ.isLt; omega)
  | rcv hi kd σ => exact if_neg (by have : 3 + σ.val ≤ r := h; have := σ.isLt; omega)

omit [FloatOps F] in
/-- A device's positions as it leaves. -/
theorem leave_pos (c : Dev nD) : iprop(atPos ER (cell c .bar) 1 ∅ 0 ∗ posAt 8 c ∗ posAt 9 c ∗ crdStand 7 c) ⊢
    bigSep Finset.univ (fun k => (atPos ER (cell c k) (lastRound k) ∅ 0 : sProp 𝕄)) := by
  rw [bigSep_CK]
  iintro ⟨B, P8, P9, C⟩
  unfold posAt crdStand
  ihave Q8 := (four_sep (P := fun hi kd => stand c (.snd hi kd 1) 3) (P' := fun hi kd => stand c (.rcv hi kd 0) 3)) $$ [P8]
  · iexact P8
  ihave Q9 := (four_sep (P := fun hi kd => stand c (.snd hi kd 0) 4) (P' := fun hi kd => stand c (.rcv hi kd 1) 4)) $$ [P9]
  · iexact P9
  icases Q8 with ⟨S1, R0⟩
  icases Q9 with ⟨S0, R1⟩
  isplitl [B]; · iexact B
  isplitl [C]
  · iapply (BIClass.sep_mono (stand_pos c (.crd 0) 6) (stand_pos c (.crd 1) 6))
    iexact C
  isplitl [S0 S1]
  · isplitl [S0]
    · iapply (four_mono fun hi kd => stand_pos c (.snd hi kd 0) 4)
      iexact S0
    · iapply (four_mono fun hi kd => stand_pos c (.snd hi kd 1) 3)
      iexact S1
  · isplitl [R0]
    · iapply (four_mono fun hi kd => stand_pos c (.rcv hi kd 0) 3)
      iexact R0
    · iapply (four_mono fun hi kd => stand_pos c (.rcv hi kd 1) 4)
      iexact R1

omit [FloatOps F] in
/-- What is known may be used at every member. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section Ghost
variable (wq wo : Dev nD → Vec F S1024x1024 .f32)

/-- A device's cells close at zero. -/
theorem close_cells (K : Dev nD × CK → ℕ) (c : Dev nD) :
    iprop(records wq wo K ∗ bigSep Finset.univ (fun k => (atPos ER (cell c k) (lastRound k) ∅ 0 : sProp 𝕄)))
      ⊢ |={Set.univ}=> bigSep Finset.univ (fun k => (semVal (cell c k) 0 : sProp 𝕄)) :=
  (bigSep_knowing fun k _ => by
    iintro ⟨#HR, Hat⟩
    imod (Rounds.cell_close ER (Rd wq wo) (Set.mem_univ (K (c, k))) (fun h => h) (R := lastRound k)
      (duties_after wq wo c k _ (after_last k))) $$ [Hat] with Hz
    · isplitr; · iapply (inv_at wq wo K c k); iexact HR
      iexact Hat
    imodintro
    iexact Hz).trans (bigSep_fupd _ _)

/-- What the launch element deals a device. -/
def G (c : Dev nD) : sProp 𝕄 :=
  iprop((bigSep Finset.univ fun k => roundState ER (Rd wq wo) (cell c k) 0)
    ∗ (bigSep Finset.univ fun k => stand c k 0) ∗ bigSep Finset.univ fun j => tokAt c j)
/-- What the cells' allocation makes of it. -/
def G' (c : Dev nD) : sProp 𝕄 :=
  iprop(∃ K, records wq wo K ∗ (bigSep Finset.univ fun k => stand c k 0) ∗ (bigSep Finset.univ fun j => tokAt (te j c) j) ∗ kvSems c)

/-- The launch element. -/
def u₀ : UU :=
  (initOf (Pipeline.cells cfgs cellOf_inj) (Pipeline.launchToks cfgs cellOf_inj), (initOf ringCells ringToks, 1))

theorem fund_ring : BI.own (ER (initOf ringCells ringToks)) ⊢ (|==> bigSep Finset.univ (G wq wo) : sProp 𝕄) := by
  have hX (Φ : GSem nD τ sig → sProp 𝕄) : bigSep ringCells Φ = bigSep Finset.univ fun c : Dev nD => bigSep Finset.univ fun k => Φ (cell c k) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j => tokAt c j := by
    unfold ringToks; rw [bigSep_map, bigSep_univ_prod]; rfl
  iintro HX
  imod (Rounds.fund ER (Rd wq wo) ringCells ringToks) $$ HX with ⟨Hst, Hr, Hat, Htok⟩
  imodintro
  ihave Hst' := (Entails.of_eq (hX fun g => roundState ER (Rd wq wo) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G stand
  simp only [bigSep_sep']
  isplitl [Hst']; · iexact Hst'
  isplitl [Hat' Hr']
  · isplitl [Hat'] <;> iassumption
  iexact Htok'

/-- A device's cells allocated. -/
theorem core_alloc (c : Dev nD) :
    iprop(Pipeline.ownSems0 (Ix := ℕ) (Name := ℕ) (U := UU) (Lvl := ℕ) (Val := Elt F) (τ := τ) osem c ∗ unscopedSems0 c ∗ G wq wo c)
      ⊢ |={Set.univ}=> iprop((bigSep Finset.univ fun k => iprop(∃ κ : ℕ, cellInv ER (Rd wq wo) κ (cell c k)))
          ∗ (bigSep Finset.univ fun k => stand c k 0) ∗ (bigSep Finset.univ fun j => tokAt c j) ∗ kvSems c) := by
  unfold G
  iintro ⟨Hos, Hus, Hst, Hat, Htok⟩
  ihave Hv := (Entails.of_eq (sems_eq (F := F) c)) $$ [Hos Hus]
  · isplitl [Hos] <;> iassumption
  icases Hv with ⟨Hv, Hkv⟩
  imod (show iprop((bigSep Finset.univ fun k => semVal (cell c k) 0) ∗ bigSep Finset.univ fun k => roundState ER (Rd wq wo) (cell c k) 0)
      ⊢ (|={Set.univ}=> bigSep Finset.univ fun k => iprop(∃ κ : ℕ, cellInv ER (Rd wq wo) κ (cell c k)) : sProp 𝕄) from by
        rw [← bigSep_sep']
        exact (bigSep_mono fun k _ => (Rounds.body_intro ER (Rd wq wo) (cell c k)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every device knows every cell, and has the tokens of the duties it performs. -/
theorem regroup :
    (bigSep Finset.univ fun c : Dev nD => iprop((bigSep Finset.univ fun k => iprop(∃ κ : ℕ, cellInv ER (Rd wq wo) κ (cell c k)))
          ∗ (bigSep Finset.univ fun k => stand c k 0) ∗ (bigSep Finset.univ fun j => tokAt c j) ∗ kvSems c) : sProp 𝕄)
      ⊢ bigSep Finset.univ (G' wq wo) := by
  rw [bigSep_sep', bigSep_sep', bigSep_sep', toks_around,
    ← bigSep_univ_prod (fun ck : Dev nD × CK => iprop(∃ κ : ℕ, cellInv ER (Rd wq wo) κ (cell ck.1 ck.2)))]
  have hr : (bigSep Finset.univ fun c : Dev nD => bigSep Finset.univ fun k => (stand c k 0 : sProp 𝕄)) ⊢
      iprop((bigSep Finset.univ fun c : Dev nD => bigSep Finset.univ fun k => (stand c k 0 : sProp 𝕄))
        ∗ bigSep Finset.univ (fun ck : Dev nD × CK => reached ER (cell ck.1 ck.2) 0)) := by
    rw [bigSep_univ_prod, ← bigSep_sep']
    refine bigSep_mono fun c _ => ?_
    rw [← bigSep_sep']
    exact bigSep_mono fun k _ => stand_dup c k 0
  iintro ⟨HI, Hst, Htok, Hkv⟩
  ihave Hst' := hr $$ Hst
  icases Hst' with ⟨Hst, #HR⟩
  ihave HK := (BI.bigSep_exists_pi Finset.univ (fun (ck : Dev nD × CK) (κ : ℕ) => (cellInv ER (Rd wq wo) κ (cell ck.1 ck.2) : sProp 𝕄))) $$ HI
  icases HK with ⟨%K, #HI⟩
  iapply (bigSep_knowing (R := records wq wo K)
    (Φ := fun c => iprop((bigSep Finset.univ fun k => stand c k 0) ∗ (bigSep Finset.univ fun j => tokAt (te j c) j) ∗ kvSems c))
    fun c _ => by unfold G'; iintro ⟨#HR, H⟩; iexists K; isplitr; · iexact HR
                  iexact H)
  isplitr
  · unfold records
    isplitl; · iexact HI
    iexact HR
  rw [bigSep_sep', bigSep_sep']
  isplitl [Hst]; · iexact Hst
  isplitl [Htok] <;> iassumption

/-- All devices' cells allocated at once. -/
theorem glob : (bigSep Finset.univ fun c => iprop(Pipeline.ownSems0 (Ix := ℕ) (Name := ℕ) (U := UU) (Lvl := ℕ) (Val := Elt F) (τ := τ) osem c ∗ unscopedSems0 c ∗ G wq wo c) : sProp 𝕄)
    ⊢ |={Set.univ}=> bigSep Finset.univ (G' wq wo) :=
  ((bigSep_mono fun c _ => core_alloc wq wo c).trans (bigSep_fupd _ _)).trans (BI.fupd_mono (regroup wq wo))

end Ghost

end Cert.KernelIdeal.Attn
-- ==== Proof.KernelIdeal.Run.lean ====
module

public import proofs.«01_k».proof.Proof.KernelIdeal.Alloc
public import proofs.«01_k».proof.Proof.Gen.KernelIdeal.Points
public import Idealize.ShloMosaic.Lib.Pipeline.Quiescent
public import Idealize.ShloMosaic.Lib.Pipeline.Value

/-!
# The run

The body between the staged blocks, and the launch: from any memory with zero counters every execution
ends with each device's result computed, the arguments unchanged and every counter at zero.
-/

@[expose] public section

set_option synthInstance.maxSize 4096

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)

variable {F : FTy → Type} [FloatOps F]

local notation "𝕄" => MT nD τ sig ℕ (Elt F) ℕ UU ℕ

/-! ## The scratch buffers -/

/-- A buffer whole, at any contents. -/
abbrev scr (c : Dev nD) (b : Ref sig .tc) : sProp 𝕄 :=
  iprop(∃ f : Buf (Elt F) ((c : Thread nD τ).loc b), ((c : Thread nD τ).loc b) ↦{fullShare} f)
/-- The scratch buffers. -/
def scratch (c : Dev nD) : sProp 𝕄 :=
  iprop(scr c cc0_scratch0 ∗ scr c cc0_scratch1 ∗ scr c cc0_scratch2 ∗ scr c cc0_scratch3 ∗ scr c cc0_scratch4 ∗ scr c cc0_scratch5)
/-- The keys and the values. -/
def kvWhole (X V : Vec F S1x1024x64x128 .f32) (c : Dev nD) : sProp 𝕄 :=
  iprop((((c : Thread nD τ).loc main_arg2) ↦{fullShare} (X : Buf (Elt F) ((c : Thread nD τ).loc main_arg2)))
    ∗ (((c : Thread nD τ).loc main_arg3) ↦{fullShare} (V : Buf (Elt F) ((c : Thread nD τ).loc main_arg3))))

section Parts
variable (wq wo : Dev nD → Vec F S1024x1024 .f32) (X V : Vec F S1x1024x64x128 .f32) (c : Dev nD)

omit [FloatOps F] in
/-- A buffer split at a disjoint cover, contents kept. -/
theorem split_at {ℓ : Loc nD τ sig} {I J : Finset (Idx ℓ)} (hd : Disjoint I J) (hu : I ∪ J = Finset.univ) (f : Buf (Elt F) ℓ) :
    (ℓ ↦{fullShare} f : sProp 𝕄) ⊢ iprop((ℓ ↦[I]{fullShare} f) ∗ (ℓ ↦[J]{fullShare} f)) := by
  rw [← hu]
  exact (pointsTo_union hd).1

omit [FloatOps F] in
/-- Disjoint parts at any contents joined. -/
theorem join_at {ℓ : Loc nD τ sig} {I J S : Finset (Idx ℓ)} (hd : Disjoint I J) (hu : I ∪ J = S) :
    iprop((∃ f : Buf (Elt F) ℓ, ℓ ↦[I]{fullShare} f) ∗ (∃ f : Buf (Elt F) ℓ, ℓ ↦[J]{fullShare} f))
      ⊢ (iprop(∃ f : Buf (Elt F) ℓ, ℓ ↦[S]{fullShare} f) : sProp 𝕄) := by
  subst hu
  iintro ⟨⟨%f, Hf⟩, ⟨%g, Hg⟩⟩
  iexists (J.piecewise g f)
  iapply (pointsTo_join hd)
  isplitl [Hf] <;> iassumption

omit [FloatOps F] in
/-- A weight's scratch: its first slot, and its second slot's lanes. -/
theorem split_w : scr c cc0_scratch0 ⊢ (iprop((∃ f : Buf (Elt F) ((c : Thread nD τ).loc cc0_scratch0), ((c : Thread nD τ).loc cc0_scratch0) ↦[slotSet 0]{fullShare} f)
    ∗ laneFree 0 1 0 c ∗ laneFree 0 1 1 c) : sProp 𝕄) := by
  iintro ⟨%f, H⟩
  ihave H' := (split_at (ℓ := (c : Thread nD τ).loc cc0_scratch0) slot_disj slot_univ f) $$ H
  rw [slotW_eq 1]
  icases H' with ⟨H0, H1⟩
  ihave H1' := (pointsTo_union (setW_disj 1)).1 $$ H1
  icases H1' with ⟨HA, HB⟩
  isplitl [H0]; · iexists f; iexact H0
  isplitl [HA]
  · iapply (show iprop(∃ f : Buf (Elt F) ((c : Thread nD τ).loc cc0_scratch0), ((c : Thread nD τ).loc cc0_scratch0) ↦[setW 1 0]{fullShare} f)
      ⊢ (laneFree 0 1 0 c : sProp 𝕄) from Entails.of_eq rfl)
    iexists f; iexact HA
  · iapply (show iprop(∃ f : Buf (Elt F) ((c : Thread nD τ).loc cc0_scratch0), ((c : Thread nD τ).loc cc0_scratch0) ↦[setW 1 1]{fullShare} f)
      ⊢ (laneFree 0 1 1 c : sProp 𝕄) from Entails.of_eq rfl)
    iexists f; iexact HB
omit [FloatOps F] in
theorem split_o : scr c cc0_scratch1 ⊢ (iprop((∃ f : Buf (Elt F) ((c : Thread nD τ).loc cc0_scratch1), ((c : Thread nD τ).loc cc0_scratch1) ↦[slotSet 0]{fullShare} f)
    ∗ laneFree 1 1 0 c ∗ laneFree 1 1 1 c) : sProp 𝕄) := by
  iintro ⟨%f, H⟩
  ihave H' := (split_at (ℓ := (c : Thread nD τ).loc cc0_scratch1) slot_disj slot_univ f) $$ H
  rw [slotO_eq 1]
  icases H' with ⟨H0, H1⟩
  ihave H1' := (pointsTo_union (setO_disj 1)).1 $$ H1
  icases H1' with ⟨HA, HB⟩
  isplitl [H0]; · iexists f; iexact H0
  isplitl [HA]
  · iapply (show iprop(∃ f : Buf (Elt F) ((c : Thread nD τ).loc cc0_scratch1), ((c : Thread nD τ).loc cc0_scratch1) ↦[setO 1 0]{fullShare} f)
      ⊢ (laneFree 1 1 0 c : sProp 𝕄) from Entails.of_eq rfl)
    iexists f; iexact HA
  · iapply (show iprop(∃ f : Buf (Elt F) ((c : Thread nD τ).loc cc0_scratch1), ((c : Thread nD τ).loc cc0_scratch1) ↦[setO 1 1]{fullShare} f)
      ⊢ (laneFree 1 1 1 c : sProp 𝕄) from Entails.of_eq rfl)
    iexists f; iexact HB

omit [FloatOps F] in
/-- Each weight's lanes of the first slot, and its second slot, joined. -/
theorem join_w : iprop((laneFree 0 0 0 c ∗ laneFree 0 0 1 c) ∗ wSlot wq c 7 fullShare) ⊢ (scr c cc0_scratch0 : sProp 𝕄) := by
  unfold wSlot
  iintro ⟨HL, H1⟩
  ihave HL' := (show iprop(laneFree 0 0 0 c ∗ laneFree 0 0 1 c) ⊢ (iprop(∃ f : Buf (Elt F) ((c : Thread nD τ).loc cc0_scratch0), ((c : Thread nD τ).loc cc0_scratch0) ↦[slotSet 0]{fullShare} f) : sProp 𝕄)
    from join_at (ℓ := (c : Thread nD τ).loc cc0_scratch0) (setW_disj 0) (slotW_eq 0).symm) $$ HL
  iapply (join_at (ℓ := (c : Thread nD τ).loc cc0_scratch0) slot_disj slot_univ)
  isplitl [HL']; · iexact HL'
  iexists _; iexact H1
omit [FloatOps F] in
theorem join_o : iprop((laneFree 1 0 0 c ∗ laneFree 1 0 1 c) ∗ oSlot wo c 7 fullShare) ⊢ (scr c cc0_scratch1 : sProp 𝕄) := by
  unfold oSlot
  iintro ⟨HL, H1⟩
  ihave HL' := (show iprop(laneFree 1 0 0 c ∗ laneFree 1 0 1 c) ⊢ (iprop(∃ f : Buf (Elt F) ((c : Thread nD τ).loc cc0_scratch1), ((c : Thread nD τ).loc cc0_scratch1) ↦[slotSet 0]{fullShare} f) : sProp 𝕄)
    from join_at (ℓ := (c : Thread nD τ).loc cc0_scratch1) (setO_disj 0) (slotO_eq 0).symm) $$ HL
  iapply (join_at (ℓ := (c : Thread nD τ).loc cc0_scratch1) slot_disj slot_univ)
  isplitl [HL']; · iexact HL'
  iexists _; iexact H1

omit [FloatOps F] in
/-- The loads' buffers, semaphores and shares of the keys and the values, dealt to the two parities. -/
theorem split_kv : iprop(scr c cc0_scratch3 ∗ scr c cc0_scratch4 ∗ kvWhole X V c ∗ kvSems c) ⊢ (iprop(kvFree X V c 0 ∗ kvFree X V c 1) : sProp 𝕄) := by
  unfold kvWhole kvSems four
  iintro ⟨⟨%f, Hf⟩, ⟨%g, Hg⟩, ⟨HX, HV⟩, S00, S01, S10, S11⟩
  ihave Hf' := (split_at (ℓ := (c : Thread nD τ).loc cc0_scratch3) buf_disj buf_univ f) $$ Hf
  ihave Hg' := (split_at (ℓ := (c : Thread nD τ).loc cc0_scratch4) buf_disj buf_univ g) $$ Hg
  ihave HX' := (pointsTo_share (PosShare.mem_left_op_right _)).1 $$ HX
  ihave HV' := (pointsTo_share (PosShare.mem_left_op_right _)).1 $$ HV
  icases Hf' with ⟨F0, F1⟩
  icases Hg' with ⟨G0, G1⟩
  icases HX' with ⟨X0, X1⟩
  icases HV' with ⟨V0, V1⟩
  unfold kvFree kvHeld kLand vLand kArr vArr
  isplitl [S00 S01 F0 G0 X0 V0]
  · iexists f, g
    isplitl [S00 F0 X0]
    · isplitl [S00]; · iexact S00
      isplitl [F0]; · iexact F0
      iexact X0
    · isplitl [S01]; · iexact S01
      isplitl [G0]; · iexact G0
      iexact V0
  · iexists f, g
    isplitl [S10 F1 X1]
    · isplitl [S10]; · iexact S10
      isplitl [F1]; · iexact F1
      iexact X1
    · isplitl [S11]; · iexact S11
      isplitl [G1]; · iexact G1
      iexact V1

omit [FloatOps F] in
theorem join_kv : iprop(kvFree X V c 0 ∗ kvFree X V c 1) ⊢ (iprop(scr c cc0_scratch3 ∗ scr c cc0_scratch4 ∗ kvWhole X V c ∗ kvSems c) : sProp 𝕄) := by
  unfold kvFree kvHeld kLand vLand kArr vArr
  iintro ⟨⟨%f, %g, ⟨S00, F0, X0⟩, S01, G0, V0⟩, ⟨%f', %g', ⟨S10, F1, X1⟩, S11, G1, V1⟩⟩
  isplitl [F0 F1]
  · iapply (join_at (ℓ := (c : Thread nD τ).loc cc0_scratch3) buf_disj buf_univ)
    isplitl [F0]
    · iexists f; iexact F0
    · iexists f'; iexact F1
  isplitl [G0 G1]
  · iapply (join_at (ℓ := (c : Thread nD τ).loc cc0_scratch4) buf_disj buf_univ)
    isplitl [G0]
    · iexists g; iexact G0
    · iexists g'; iexact G1
  unfold kvWhole kvSems four
  isplitl [X0 X1 V0 V1]
  · isplitl [X0 X1]
    · iapply (pointsTo_share (PosShare.mem_left_op_right _)).2
      isplitl [X0]; · iexact X0
      iexact X1
    · iapply (pointsTo_share (PosShare.mem_left_op_right _)).2
      isplitl [V0]; · iexact V0
      iexact V1
  isplitl [S00]; · iexact S00
  isplitl [S01]; · iexact S01
  isplitl [S10]; · iexact S10
  iexact S11

omit [FloatOps F] in
/-- What the device holds beside its positions as it enters. -/
theorem split_scratch : iprop(scratch c ∗ kvWhole X V c ∗ kvSems c) ⊢
    (iprop(((laneFree 0 1 0 c ∗ laneFree 1 1 0 c) ∗ (laneFree 0 1 1 c ∗ laneFree 1 1 1 c)) ∗ tools X V c ∗ fresh c) : sProp 𝕄) := by
  unfold scratch tools fresh
  iintro ⟨⟨H0, H1, H2, H3, H4, H5⟩, HK, HS⟩
  ihave H0' := (split_w c) $$ H0
  ihave H1' := (split_o c) $$ H1
  icases H0' with ⟨W, W0, W1⟩
  icases H1' with ⟨O, O0, O1⟩
  isplitl [W0 W1 O0 O1]
  · isplitl [W0 O0]
    · isplitl [W0] <;> iassumption
    · isplitl [W1] <;> iassumption
  isplitl [H2 H3 H4 HK HS]
  · isplitr [H2]
    · iapply (split_kv X V c)
      isplitl [H3]; · iexact H3
      isplitl [H4]; · iexact H4
      isplitl [HK] <;> iassumption
    · icases H2 with ⟨%f, H2⟩
      unfold qryFree qryFull
      iexists f
      iexact H2
  isplitl [W]; · iexact W
  isplitl [O]; · iexact O
  icases H5 with ⟨%f, H5⟩
  unfold accPts
  iexists f
  iexact H5

/-- What it holds beside them as it leaves. -/
theorem join_scratch (a : Vec F S1024x1024 .f32) : iprop(slotsFree wq wo c ∗ tools X V c ∗ accPts c a) ⊢
    (iprop(scratch c ∗ kvWhole X V c ∗ kvSems c) : sProp 𝕄) := by
  unfold slotsFree tools four
  iintro ⟨⟨⟨A, B, C, D⟩, HW, HO⟩, ⟨HT, HQ⟩, HA⟩
  ihave HK := (join_kv X V c) $$ HT
  icases HK with ⟨H3, H4, HK, HS⟩
  isplitr [HK HS]
  · unfold scratch
    isplitl [A C HW]
    · iapply (join_w wq c)
      isplitl [A C]
      · isplitl [A] <;> iassumption
      iexact HW
    isplitl [B D HO]
    · iapply (join_o wo c)
      isplitl [B D]
      · isplitl [B] <;> iassumption
      iexact HO
    isplitl [HQ]
    · unfold qryFree qryFull
      icases HQ with ⟨%q, HQ⟩
      iexists q
      iexact HQ
    isplitl [H3]; · iexact H3
    isplitl [H4]; · iexact H4
    unfold accPts
    iexists a
    iexact HA
  isplitl [HK] <;> iassumption

end Parts

/-! ## The proof data -/

section Launch
variable (m : (ℓ : Loc nD τ sig) → Buf (Elt F) ℓ) (ρ : Dev nD → PrngReg)

/-- The memory at launch, counters at zero. -/
def s₀ : MemSt nD τ sig (Elt F) := ⟨m, fun _ => 0, ρ⟩

/-- The staged blocks. -/
def xst (c : Dev nD) : Vec F S1x1024x1024 .f32 := (win0_0.blk (0 : Fin 1)).view.read (Elt F) (m ((c : Thread nD τ).loc main_arg0))
def wqst (c : Dev nD) : Vec F S1024x1024 .f32 := (win0_1.blk (0 : Fin 1)).view.read (Elt F) (m ((c : Thread nD τ).loc main_arg1))
def wost (c : Dev nD) : Vec F S1024x1024 .f32 := (win0_2.blk (0 : Fin 1)).view.read (Elt F) (m ((c : Thread nD τ).loc main_arg4))
/-- The keys and the values. -/
def keys (c : Dev nD) : Vec F S1x1024x64x128 .f32 := m ((c : Thread nD τ).loc main_arg2)
def vals (c : Dev nD) : Vec F S1x1024x64x128 .f32 := m ((c : Thread nD τ).loc main_arg3)
/-- What the accumulator ends with. -/
def accOf (c : Dev nD) : Vec F S1024x1024 .f32 := accAt (xst m c) (wqst m) (wost m) (keys m c) (vals m c) c 8

/-- What a device's body starts from beside its scratch buffers. -/
def start (c : Dev nD) : sProp 𝕄 :=
  iprop((∃ K, records (wqst m) (wost m) K) ∗ levAts L lv ∗ ((bigSep Finset.univ fun k => stand c k 0) ∗ dues c)
    ∗ kvWhole (keys m c) (vals m c) c ∗ kvSems c)
def Φ₀ (c : Dev nD) : sProp 𝕄 := iprop(start m c ∗ scratch c)
/-- Every semaphore at zero. -/
def zeros (c : Dev nD) : sProp 𝕄 := iprop((bigSep Finset.univ fun k : CK => semVal (cell c k) 0) ∗ kvSems c)
/-- What it ends with. -/
def Φ₁ (c : Dev nD) : sProp 𝕄 := iprop((kvWhole (keys m c) (vals m c) c ∗ zeros c) ∗ scratch c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xst m c
    | ⟨1, _⟩ => wqst m c
    | ⟨2, _⟩ => wost m c
    | ⟨3, _⟩ => outOf (accOf m c)
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre (c : Dev nD) : sProp 𝕄 :=
  iprop(Φ₀ m c ∗ (dats m ρ 0 c).owesAt (0 : ℕ) t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt (0 : ℕ) t₀.succ ∗ stg c cc0_stg0_0 (xst m c) ∗ stg c cc0_stg1_0 (wqst m c)
    ∗ stg c cc0_stg2_0 (wost m c) ∗ stg c cc0_stg3_0 (outOf (accOf m c)))

theorem before_0 (c : Dev nD) (d) : (dats m ρ 0 c).before (0 : Fin 4) t₀ d = xst m c := by
  unfold Dat.before
  rw [if_pos (fetch0_0 t₀)]
  rfl
theorem before_1 (c : Dev nD) (d) : (dats m ρ 0 c).before (1 : Fin 4) t₀ d = wqst m c := by
  unfold Dat.before
  rw [if_pos (fetch0_1 t₀)]
  rfl
theorem before_2 (c : Dev nD) (d) : (dats m ρ 0 c).before (2 : Fin 4) t₀ d = wost m c := by
  unfold Dat.before
  rw [if_pos (fetch0_2 t₀)]
  rfl

omit [FloatOps F] in
/-- What a device enters with. -/
theorem entry_intro (c : Dev nD) :
    iprop((bigSep Finset.univ fun k => stand c k 0) ∗ dues c ∗ ((laneFree 0 1 0 c ∗ laneFree 1 1 0 c) ∗ (laneFree 0 1 1 c ∗ laneFree 1 1 1 c))
      ∗ owesE c (O₀ c)) ⊢ (entry c : sProp 𝕄) := by
  unfold dues entry barPre
  iintro ⟨HP, ⟨⟨T0, T1⟩, Hcb, Hh, Ht⟩, ⟨L0, L1⟩, HO⟩
  ihave HP' := (enter_pos c) $$ HP
  icases HP' with ⟨Hb, H1, H2, H3⟩
  isplitl [T0 T1 L0 L1]
  · isplitl [T0 L0]
    · isplitl [L0] <;> iassumption
    · isplitl [L1] <;> iassumption
  isplitl [Hb Hcb]
  · isplitl [Hb] <;> iassumption
  isplitl [H1 H2 H3]
  · isplitl [H1]; · iexact H1
    isplitl [H2] <;> iassumption
  isplitl [Hh]; · iexact Hh
  isplitl [Ht] <;> iassumption

omit [FloatOps F] in
/-- The staged result before any block of it is written. -/
theorem out_start (c : Dev nD) (f : Vec F S1x1024x1024 .f32) (a : Vec F S1024x1024 .f32) :
    (((c : Thread nD τ).loc cc0_stg3_0) ↦{fullShare} (f : Buf (Elt F) ((c : Thread nD τ).loc cc0_stg3_0)) : sProp 𝕄) ⊢ outPts c 0 a := by
  unfold outPts
  iintro H
  iexists f
  isplitr; · ipureintro; exact fun i hi => absurd hi (Nat.not_lt_zero _)
  iexact H

/-- The body between the staged blocks. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _)
            (Memref.whole cc0_stg2_0) (Memref.isWhole_whole _) (Memref.whole cc0_stg3_0) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10) Kt := by
  rw [body_eq]
  simp only [wp_deviceId]
  unfold bodyPre Φ₀ start
  iintro ⟨⟨⟨⟨⟨%K, #HR⟩, #Hl, ⟨Hst, Hdue⟩, HK, HS⟩, Hscr⟩, Ho, ⟨%d0, %g0, %hg0, Hx⟩, ⟨%d1, %g1, %hg1, Hwq⟩, ⟨%d2, %g2, %hg2, Hwo⟩, ⟨%d3, %g3, %hg3, Hout⟩⟩, Hk⟩
  obtain rfl : g0 = xst m c := hg0.trans (before_0 m ρ c d0)
  obtain rfl : g1 = wqst m c := hg1.trans (before_1 m ρ c d1)
  obtain rfl : g2 = wost m c := hg2.trans (before_2 m ρ c d2)
  unfold Dat.owesAt Pipeline.owesWithin
  icases Ho with ⟨%W, %hW, HO⟩
  rw [show (dats m ρ 0 c).owed t₀.castSucc = O₀ c from rfl]
  ihave Hp := (split_scratch (keys m c) (vals m c) c) $$ [Hscr HK HS]
  · isplitl [Hscr]; · iexact Hscr
    isplitl [HK] <;> iassumption
  icases Hp with ⟨HL, Ht, Hf⟩
  iapply (wp_fupd frame (wpE (defs₀ (F := F)) 𝒱₀ c none) Set.univ (bodyAt c) Kt)
  iapply (wp_body (xst m c) (wqst m) (wost m) (keys m c) (vals m c) K c (Q := fun a => iprop(|={Set.univ}=> Kt a))) $$ [Hst Hdue HL HO Ht Hx Hwq Hwo Hf Hout]
  · isplitr; · iexact HR
    isplitr; · iexact Hl
    isplitl [Hst Hdue HL HO]
    · iapply (entry_intro c)
      isplitl [Hst]; · iexact Hst
      isplitl [Hdue]; · iexact Hdue
      isplitl [HL]; · iexact HL
      unfold owesE
      iexists W
      iexact HO
    isplitl [Ht]; · iexact Ht
    isplitl [Hx Hwq Hwo]
    · unfold staged
      isplitl [Hx]; · iexact Hx
      isplitl [Hwq] <;> iassumption
    isplitl [Hf]; · iexact Hf
    iapply (out_start c g3)
    iexact Hout
  unfold leave staged owesE
  iintro ⟨⟨B, P8, P9, C, %W', HO⟩, Hsl, Ht, ⟨Hx, Hwq, Hwo⟩, Ha, Hout⟩
  ihave Hpos := (leave_pos c) $$ [B P8 P9 C]
  · isplitl [B]; · iexact B
    isplitl [P8]; · iexact P8
    isplitl [P9] <;> iassumption
  ihave Hs := (join_scratch (wqst m) (wost m) (keys m c) (vals m c) c (accAt (xst m c) (wqst m) (wost m) (keys m c) (vals m c) c 8)) $$ [Hsl Ht Ha]
  · isplitl [Hsl]; · iexact Hsl
    isplitl [Ht] <;> iassumption
  icases Hs with ⟨Hscr, HK, HS⟩
  imod (close_cells (wqst m) (wost m) K c) $$ [Hpos] with Hz
  · isplitr; · iexact HR
    iexact Hpos
  imodintro
  iapply Hk
  unfold bodyPost Φ₁ zeros
  isplitl [Hscr HK HS Hz]
  · isplitl [HK Hz HS]
    · isplitl [HK]; · iexact HK
      isplitl [Hz] <;> iassumption
    iexact Hscr
  isplitl [HO]
  · unfold Dat.owesAt Pipeline.owesWithin
    rw [show (dats m ρ 0 c).owed t₀.succ = 0 from rfl]
    iexists W'
    isplitr; · ipureintro; exact fun _ _ => Or.inl trivial
    iexact HO
  isplitl [Hx]
  · iexists _; isplitr; · ipureintro; rfl
    iexact Hx
  isplitl [Hwq]
  · iexists _; isplitr; · ipureintro; rfl
    iexact Hwq
  isplitl [Hwo]
  · iexists _; isplitr; · ipureintro; rfl
    iexact Hwo
  iexists _; isplitr; · ipureintro; rfl
  iexact Hout

/-- The library's obligation for the region's one grid point. -/
theorem body_obligation (c : Dev nD) : BodyObligation (dats m ρ 0 c) (defs₀ (F := F)) 𝒱₀ (0 : ℕ) Set.univ := fun t => by
  rw [fin_N0 t]
  rw [bigSep_W0, bigSep_W0]
  simp only [owns_whole_eq]
  show bodyPre m ρ c
      ⊢ wp frame (wpE (defs₀ (F := F)) 𝒱₀ c none) Set.univ
          (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _)
            (Memref.whole cc0_stg2_0) (Memref.isWhole_whole _) (Memref.whole cc0_stg3_0) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10) (fun _ => bodyPost m ρ c)
  have hb := sound_body m ρ c (fun _ => bodyPost m ρ c)
  iintro H
  iapply hb
  isplitl [H]; · iexact H
  iintro H
  iexact H

/-! ## The launch's side conditions -/

theorem share_eq (p : Fin 1) (c : Dev nD) (w : Fin cfg0.W) : (dats m ρ p c).share w = fullShare := by
  unfold Dat.share
  split <;> rfl

omit [FloatOps F] in
theorem L_of_ne (g : GSem nD τ sig) (h : g.1.2 ≠ .tc) : L g = ∅ := if_neg h

theorem stage_waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait c _ 0 (by decide) (le_of_eq (lv_dma c _)) (by
      rcases t with ⟨_ | _, ht⟩
      · exact OweGe.O₀ c
      · exact OweGe.zero _)

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (wqst m) (wost m) c)
      ⊢ (|={Set.univ}=> iprop(start m c ∗ emp) : sProp 𝕄) := by
  rw [show (Pipeline.unscopedRestP Pipeline.Prefetch.none cfg0.spec c (fun b => m ((c : Thread nD τ).loc b)) : sProp 𝕄)
    = Pipeline.unscopedRest spec0 c (fun b => m ((c : Thread nD τ).loc b)) from rfl, unscopedRest0_eq]
  unfold G'
  iintro ⟨⟨H2, H3⟩, Hlev, Hcr, -, ⟨%K, #HR, Hst, Htok, HS⟩⟩
  ihave Hc := (Entails.of_eq (launchCred_eq (F := F) c)) $$ Hcr
  ihave Hd := (Entails.of_eq (bigSep_sep' Finset.univ (fun j => (tokAt (te j c) j : sProp 𝕄)) (fun j => cred (tt c j))).symm) $$ [Htok Hc]
  · isplitl [Htok]; · iexact Htok
    iexact Hc
  ihave Hd' := (Entails.of_eq (dues_eq (F := F) c)) $$ [Hd]
  · iexact Hd
  imodintro
  unfold start kvWhole
  isplitl
  · isplitr
    · iexists K; iexact HR
    isplitl [Hlev]; · iexact Hlev
    isplitl [Hst Hd']
    · isplitl [Hst] <;> iassumption
    isplitl [H2 H3]
    · isplitl [H2]; · iexact H2
      iexact H3
    iexact HS
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N)
      ⊢ iprop((unscopedSems0 c ∗ kvWhole (keys m c) (vals m c) c) ∗ Pipeline.ownSems0 osem c ∗ Pipeline.scopedRest cfg0.spec c) := by
  rw [show (dats m ρ 0 c).Φ (Fin.last cfg0.N) = Φ₁ m c from rfl, scopedRest0_eq]
  unfold Φ₁ zeros scratch
  iintro ⟨⟨HK, Hz⟩, Hr⟩
  ihave Hz' := (Entails.of_eq (sems_eq (F := F) c).symm) $$ Hz
  icases Hz' with ⟨Ho, Hu⟩
  isplitl [Hu HK]
  · isplitl [Hu] <;> iassumption
  isplitl [Ho] <;> iassumption

/-- What is read of a device once every core has ended. -/
def Read (c : Dev nD) (s : MemSt nD τ sig (Elt F)) : Prop :=
  (s.mem ((c : Thread nD τ).loc main_arg2) = m ((c : Thread nD τ).loc main_arg2) ∧ s.mem ((c : Thread nD τ).loc main_arg3) = m ((c : Thread nD τ).loc main_arg3))
    ∧ ∀ sm : SemLoc sig, sm.isScoped .tc = false → s.sem ((c.tc : Thread nD τ), sm) = 0

omit [FloatOps F] in
theorem end_read (c : Dev nD) (s' : Phys nD τ sig (Elt F)) :
    iprop((unscopedSems0 c ∗ kvWhole (keys m c) (vals m c) c) ∗ emp ∗ SI s')
      ⊢ (|={Set.univ}=> iprop(⌜Read m c s'.mem⌝ ∗ SI s') : sProp 𝕄) := by
  unfold kvWhole
  iintro ⟨⟨Hu, HK, HV⟩, -, HSI⟩
  ihave %h2 := (SI_pointsTo_agree (st := s')) $$ [HSI HK]
  · isplitl [HSI] <;> iassumption
  ihave %h3 := (SI_pointsTo_agree (st := s')) $$ [HSI HV]
  · isplitl [HSI] <;> iassumption
  ihave %h := (tcUnscoped_read c s') $$ [Hu HSI]
  · isplitl [Hu] <;> iassumption
  imodintro
  isplitr
  · ipureintro
    exact ⟨⟨Buf.eq_of_forall_mem_univ h2, Buf.eq_of_forall_mem_univ h3⟩, h⟩
  iexact HSI

/-! ## The run -/

def finalA (c : Dev nD) (w : Fin cfg0.W) : Buf (Elt F) ((cfg0.win w).arr.view.loc (c : Thread nD τ)) := (dats m ρ 0 c).arrAt w cfg0.N

/-- The launch element dealt: the pipeline's own part, and every device's. -/
theorem fund_all : (ownU u₀ : sProp 𝕄)
    ⊢ (|={Set.univ}=> iprop(BI.own (EP (initOf (Pipeline.cells cfgs cellOf_inj) (Pipeline.launchToks cfgs cellOf_inj))) ∗ bigSep Finset.univ (G (wqst m) (wost m)))) := by
  unfold u₀
  iintro Hu
  ihave H := (ownU_pair _ _) $$ Hu
  icases H with ⟨HP, HX⟩
  ihave H' := (own_pair_emb _ _ _) $$ HX
  icases H' with ⟨HX, -⟩
  imod (fund_ring (wqst m) (wost m)) $$ [HX] with HG
  · iexact HX
  imodintro
  isplitl [HP] <;> iassumption

set_option maxRecDepth 8000 in
/-- Every weakly fair execution ends; the arrays hold what the proof data says, the keys and the values what they held, every
    counter zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w) ∧ Read m c r.2) ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ 0)
    (hdistinct := winFacts0.arr_inj)
    (O₀ := O₀) (howed₀ := fun _ => rfl) (howedN := fun _ => rfl)
    (L := L) (lv := lv) (hL := L_of_ne) (hwaits   := stage_waits m ρ)
    (G := G (wqst m) (wost m)) (G' := G' (wqst m) (wost m)) (u₀ := u₀)
    (hu₀ := fund_all m)
    (hglob := glob (wqst m) (wost m))
    (hA := fun _ _ => rfl) (hpf := fun _ k => k.elim0)
    (X := start m) (Y := fun c => iprop(unscopedSems0 c ∗ kvWhole (keys m c) (vals m c) c)) (Z := fun _ => iprop(emp))
    (hX := start_intro m ρ) (hin := phi0_intro m ρ) (hout := phi1_exit m ρ)
    (QY := Read m)
    (hY := end_read m)
    (hQ := fun _ h hs => ⟨fun c => ⟨(h c).1, (h c).2.2⟩, sem_eq_zero hs fun c => (h c).2.2.2⟩)

/-! ## What the arrays end with -/

section Windows
omit [FloatOps F]
/-- The windows are their whole arrays. -/
theorem rect_x (i : S1x1024x1024.Idx) : (win0_0.rect (0 : Fin 1)).emb i = i :=
  funext fun a => Fin.ext (Pipeline.Window.rect_emb_val_of_index_zero win0_0 (0 : Fin 1) a rfl i)
theorem rect_wq (i : S1024x1024.Idx) : (win0_1.rect (0 : Fin 1)).emb i = i :=
  funext fun a => Fin.ext (Pipeline.Window.rect_emb_val_of_index_zero win0_1 (0 : Fin 1) a rfl i)
theorem rect_wo (i : S1024x1024.Idx) : (win0_2.rect (0 : Fin 1)).emb i = i :=
  funext fun a => Fin.ext (Pipeline.Window.rect_emb_val_of_index_zero win0_2 (0 : Fin 1) a rfl i)
theorem rect_out (i : S1x1024x1024.Idx) : (win0_3.rect (0 : Fin 1)).emb i = i :=
  funext fun a => Fin.ext (Pipeline.Window.rect_emb_val_of_index_zero win0_3 (0 : Fin 1) a rfl i)

theorem xst_eq (c : Dev nD) : xst m c = m ((c : Thread nD τ).loc main_arg0) :=
  funext fun i => congrArg (m ((c : Thread nD τ).loc main_arg0)) (rect_x i)
theorem wqst_eq (c : Dev nD) : wqst m c = m ((c : Thread nD τ).loc main_arg1) :=
  funext fun i => congrArg (m ((c : Thread nD τ).loc main_arg1)) (rect_wq i)
theorem wost_eq (c : Dev nD) : wost m c = m ((c : Thread nD τ).loc main_arg4) :=
  funext fun i => congrArg (m ((c : Thread nD τ).loc main_arg4)) (rect_wo i)
end Windows

theorem out_flushed (c : Dev nD) (t : Fin cfg0.N) :
    (dats m ρ 0 c).flushed 3 t = ((cfg0.win 3).blk t).view.read (Elt F) (outOf (accOf m c)) := by
  obtain rfl := fin_N0 t
  funext i
  exact (congrArg (outOf (accOf m c)) (rect_out i)).symm

/-- The result array ends with the result. -/
theorem finalA_out (c : Dev nD) : finalA m ρ c (3 : Fin 4) = outOf (accOf m c) :=
  (dats m ρ 0 c).arrAt_eq_of_cover 3 (outOf (accOf m c)) (fun t _ => out_flushed m ρ c t) fun i =>
    ⟨t₀, flush0_3 _, Finset.mem_map.mpr ⟨i, Finset.mem_univ _, rect_out i⟩⟩

/-- Every execution ends, each device's result computed, its arguments as they were and every counter at zero. -/
theorem run_ends : θ_run defs (onTc (τ := τ) (main (F := F))) ⟨m, fun _ => 0, ρ⟩ (fun r =>
    (∀ c : Dev nD, (r.2.mem ((c.tc : Thread nD τ).loc main_v1) = outOf (accOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run _ _ _).mono (fun r ⟨h, hs⟩ => ⟨fun c =>
    ⟨((h c).1 3).trans (finalA_out m ρ c), ((h c).1 0).trans ((dats m ρ 0 c).arrAt_in (0 : Fin 4) rfl _),
      ((h c).1 1).trans ((dats m ρ 0 c).arrAt_in (1 : Fin 4) rfl _), (h c).2.1.1, (h c).2.1.2,
      ((h c).1 2).trans ((dats m ρ 0 c).arrAt_in (2 : Fin 4) rfl _)⟩, hs⟩) (run_main m ρ)

end Launch

end Cert.KernelIdeal.Attn
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.KernelIdeal.Run
public import Idealize.ShloMosaic.Lib.Quiescent

/-!
# The frames

The printed kernel and its idealized print are the same program over any instance of the floats: the one
run proved for the idealized print, which is generic in the instance, serves both. The reference is a
sequence of host operations that writes no argument and declares no semaphore.
-/

@[expose] public section

set_option maxRecDepth 100000
set_option maxHeartbeats 4000000

noncomputable section

namespace Cert.Proof

open Idealize.ShloMosaic Idealize.SL.Sem

/-- The two prints' bodies are one table. -/
theorem bodies_same {F : FTy → Type} [FloatOps F] :
    (Cert.Kernel.defs₀ (F := F)) = (Cert.KernelIdeal.defs₀ (F := F)) := by
  unfold Cert.Kernel.defs₀ Cert.KernelIdeal.defs₀
  congr 1
  funext l
  obtain ⟨_ | _, h⟩ := l
  · funext ⟨t, s⟩
    rfl
  · exact absurd h (Nat.not_lt.2 (Nat.le_add_left _ _))

/-- So are their tables with the pipeline's labels. -/
theorem defs_same {F : FTy → Type} [FloatOps F] :
    (Cert.Kernel.defs (F := F)) = (Cert.KernelIdeal.defs (F := F)) :=
  congrArg (Pipeline.defs (Cert.KernelIdeal.pcfgs (F := F))) bodies_same

/-- The idealized print's frame. -/
theorem frame_ideal : Cert.quiescent_KernelIdeal := fun m g _ =>
  (θ_run Cert.KernelIdeal.defs _ _).mono (fun _ h => ⟨fun c => (h.1 c).2, h.2⟩)
    (Cert.KernelIdeal.Attn.run_ends (F := Ideal) m g)

/-- The kernel's frame: the same run at the bit-exact instance. -/
theorem frame_kernel : Cert.quiescent_Kernel := by
  intro m g _
  rw [defs_same (F := Bits)]
  exact (θ_run Cert.KernelIdeal.defs _ _).mono (fun _ h => ⟨fun c => (h.1 c).2, h.2⟩)
    (Cert.KernelIdeal.Attn.run_ends (F := Bits) m g)

/-- The reference's frame. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

end Cert.Proof
-- ==== Proof.Softmax.lean ====
module

public import Idealize.ShloMosaic.Lib.IdealHost

/-!
# The softmax of a masked row

Where no score is infinite, the softmax of a row whose masked scores are minus infinity is the softmax of
the scores kept.
-/

@[expose] public section

noncomputable section

namespace Cert.Attn

open Idealize.ShloMosaic
open scoped BigOperators

/-! ## Finite values -/

/-- A value that is not infinite. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert i s hi ih =>
    rw [Finset.sum_insert hi]
    obtain ⟨a, ha⟩ := h i
    obtain ⟨b, hb⟩ := ih
    exact ⟨a + b, by rw [ha, hb]; exact (EReal.coe_add a b).symm⟩

/-- The factor of the scores. -/
abbrev factor : EReal := Ideal.ofBits .f32 0x3DB504F3#32

theorem factor_isReal : IsReal factor := by
  unfold factor
  simp only [Ideal.ofBits, Ideal.ieee]
  rw [if_neg (by decide), if_neg (by decide)]
  exact ⟨_, rfl⟩

theorem ofBits_neg_inf : Ideal.ofBits .f32 0xFF800000#32 = ⊥ := by simp [Ideal.ofBits, Ideal.ieee]

/-! ## The softmax -/

/-- The greatest of a row. -/
def top {ι : Type} [Fintype ι] (s : ι → EReal) : EReal := (Finset.univ : Finset ι).fold max ⊥ s

/-- The softmax of the scores applied to the values. -/
def soft {ι : Type} [Fintype ι] (s v : ι → EReal) : EReal :=
  ∑ j, Ideal.div (Ideal.exp (s j - top s)) (∑ i, Ideal.exp (s i - top s)) * v j

theorem top_eq_sup {ι : Type} [Fintype ι] (s : ι → EReal) : top s = (Finset.univ : Finset ι).sup s := rfl

theorem exp_nonneg (x : EReal) : 0 ≤ Ideal.exp x := by
  induction x with
  | bot => exact le_refl _
  | top => exact le_top
  | coe r => exact EReal.coe_nonneg.mpr (Real.exp_pos r).le

/-- Finite scores, not none of them: the divisor is not zero. -/
theorem den_ne_zero {ι : Type} [Fintype ι] [Nonempty ι] (s : ι → EReal) (h : ∀ j, IsReal (s j)) :
    ∑ i, Ideal.exp (s i - top s) ≠ 0 := by
  obtain ⟨j, -, hj⟩ := Finset.exists_mem_eq_sup (Finset.univ : Finset ι) Finset.univ_nonempty s
  have h1 : Ideal.exp (s j - top s) = 1 := by
    rw [top_eq_sup, hj]
    obtain ⟨r, hr⟩ := h j
    rw [hr, ← EReal.coe_sub, sub_self]
    show ((Real.exp 0 : ℝ) : EReal) = 1
    rw [Real.exp_zero]; rfl
  intro h0
  have := Finset.single_le_sum (f := fun i => Ideal.exp (s i - top s)) (fun i _ => exp_nonneg _) (Finset.mem_univ j)
  rw [h0] at this
  simp only [h1] at this
  exact absurd this (by simp)

section Masked
variable {ι κ ρ : Type} [Fintype ι] [Fintype κ] [Fintype ρ] [DecidableEq ρ] [Nonempty κ]
  (e : ρ × κ ≃ ι) (r : ρ) (s v : ι → EReal) (s' : ι → EReal)
  (hin : ∀ k, s' (e (r, k)) = s (e (r, k))) (hout : ∀ q k, q ≠ r → s' (e (q, k)) = ⊥)
include hin hout

/-- A sum that vanishes at the masked scores. -/
theorem sum_masked (f : ι → EReal) (hf : ∀ i, s' i = ⊥ → f i = 0) : ∑ i, f i = ∑ k, f (e (r, k)) := by
  rw [← Equiv.sum_comp e, Fintype.sum_prod_type]
  refine Finset.sum_eq_single r (fun q _ hq => ?_) (fun h => absurd (Finset.mem_univ r) h)
  exact Finset.sum_eq_zero fun k _ => hf _ (hout q k hq)

theorem top_masked : top s' = top fun k => s (e (r, k)) := by
  rw [top_eq_sup, top_eq_sup]
  apply le_antisymm
  · refine Finset.sup_le fun i _ => ?_
    obtain ⟨⟨q, k⟩, rfl⟩ := e.surjective i
    by_cases hq : q = r
    · subst hq
      rw [hin]
      exact Finset.le_sup (f := fun k => s (e (q, k))) (Finset.mem_univ k)
    · rw [hout q k hq]; exact bot_le
  · refine Finset.sup_le fun k _ => ?_
    show s (e (r, k)) ≤ _
    rw [← hin k]
    exact Finset.le_sup (f := s') (Finset.mem_univ _)

/-- The softmax of the masked row is the softmax of the scores kept. -/
theorem soft_masked (hs : ∀ k, IsReal (s (e (r, k)))) :
    soft s' v = soft (fun k => s (e (r, k))) (fun k => v (e (r, k))) := by
  have hexp : ∀ i, s' i = ⊥ → Ideal.exp (s' i - top s') = 0 := by
    intro i hi
    rw [hi, sub_eq_add_neg, EReal.bot_add]
    rfl
  have hden : ∑ i, Ideal.exp (s' i - top s') = ∑ k, Ideal.exp (s (e (r, k)) - top fun k => s (e (r, k))) := by
    rw [sum_masked e r s s' hin hout _ hexp, top_masked e r s s' hin hout]
    exact Finset.sum_congr rfl fun k _ => by rw [hin]
  have hne := den_ne_zero (fun k => s (e (r, k))) hs
  unfold soft
  rw [sum_masked e r s s' hin hout]
  · rw [hden, top_masked e r s s' hin hout]
    exact Finset.sum_congr rfl fun k _ => by rw [hin]
  · intro i hi
    rw [hexp i hi, hden, Ideal.zero_div hne, zero_mul]

end Masked

end Cert.Attn
-- ==== Proof.Attention.lean ====
module

public import proofs.«01_k».proof.Proof.Softmax

/-!
# The attention both programs compute

A query of block `b` attends to the keys whose block is `b` modulo four: a quarter of the 1024 keys, the
256 of its group. The output is the contexts of the sixty-four heads times the output weights.
-/

@[expose] public section

noncomputable section

namespace Cert.Attn

open scoped BigOperators

/-- The key that is the `u`-th of group `r`. -/
def key (r : Fin 4) (u : Fin 256) : Fin 1024 := ⟨256 * (u.val / 64) + 64 * r.val + u.val % 64, by omega⟩

/-- The group of a query. -/
def group {n : ℕ} (i : Fin n) : Fin 4 := ⟨i.val / 64 % 4, by omega⟩

/-- The column of the weights that is entry `d` of head `h`. -/
def col (h : Fin 64) (d : Fin 128) : Fin 8192 := ⟨128 * h.val + d.val, by omega⟩

/-- The score of a query at a key. -/
def score (q k : Fin 128 → EReal) : EReal := (∑ d, q d * k d) * factor

/-- The context of a query of group `r`. -/
def context (q : Fin 128 → EReal) (K V : Fin 1024 → Fin 128 → EReal) (r : Fin 4) (d : Fin 128) : EReal :=
  soft (fun u : Fin 256 => score q (K (key r u))) (fun u => V (key r u) d)

/-- The query of a row of the input at a head. -/
def query (x : Fin 1024 → EReal) (w : Fin 1024 → Fin 128 → EReal) (d : Fin 128) : EReal := ∑ k, x k * w k d

/-- A head's part of the output at one column `w` of the output weights. -/
def headOut (x : Fin 1024 → EReal) (wq : Fin 1024 → Fin 128 → EReal) (K V : Fin 1024 → Fin 128 → EReal)
    (r : Fin 4) (w : Fin 128 → EReal) : EReal :=
  ∑ d, context (query x wq) K V r d * w d

/-- The keys are the groups' keys. -/
def keyEquiv : Fin 4 × Fin 256 ≃ Fin 1024 where
  toFun p := key p.1 p.2
  invFun j := (⟨j.val / 64 % 4, by omega⟩, ⟨64 * (j.val / 256) + j.val % 64, by omega⟩)
  left_inv p := by
    obtain ⟨⟨r, hr⟩, ⟨u, hu⟩⟩ := p
    refine Prod.ext (Fin.ext ?_) (Fin.ext ?_)
    · show (256 * (u / 64) + 64 * r + u % 64) / 64 % 4 = r
      omega
    · show 64 * ((256 * (u / 64) + 64 * r + u % 64) / 256) + (256 * (u / 64) + 64 * r + u % 64) % 64 = u
      omega
  right_inv j := by
    refine Fin.ext ?_
    show 256 * ((64 * (j.val / 256) + j.val % 64) / 64) + 64 * (j.val / 64 % 4) + (64 * (j.val / 256) + j.val % 64) % 64 = j.val
    omega

theorem key_group (r : Fin 4) (u : Fin 256) : (key r u).val / 64 % 4 = r.val := by
  show (256 * (u.val / 64) + 64 * r.val + u.val % 64) / 64 % 4 = r.val
  omega

/-- A sum over the columns of the weights is one over the heads and their entries. -/
theorem sum_cols (f : Fin 8192 → EReal) : ∑ n, f n = ∑ h : Fin 64, ∑ d : Fin 128, f (col h d) := by
  rw [← Fintype.sum_prod_type', ← Equiv.sum_comp (finProdFinEquiv (m := 64) (n := 128))]
  refine Finset.sum_congr rfl fun p _ => congrArg f (Fin.ext ?_)
  show p.2.val + 128 * p.1.val = 128 * p.1.val + p.2.val
  omega

theorem query_isReal {x : Fin 1024 → EReal} {w : Fin 1024 → Fin 128 → EReal} (hx : ∀ k, IsReal (x k))
    (hw : ∀ k d, IsReal (w k d)) (d : Fin 128) : IsReal (query x w d) :=
  IsReal.sum _ fun k => (hx k).mul (hw k d)

theorem score_isReal {q k : Fin 128 → EReal} (hq : ∀ d, IsReal (q d)) (hk : ∀ d, IsReal (k d)) : IsReal (score q k) :=
  (IsReal.sum _ fun d => (hq d).mul (hk d)).mul factor_isReal

/-- The softmax over all keys, those outside the query's group masked, is the context. -/
theorem soft_eq_context (q : Fin 128 → EReal) (K V : Fin 1024 → Fin 128 → EReal) (r : Fin 4) (d : Fin 128)
    (s' : Fin 1024 → EReal) (hin : ∀ j : Fin 1024, j.val / 64 % 4 = r.val → s' j = score q (K j))
    (hout : ∀ j : Fin 1024, j.val / 64 % 4 ≠ r.val → s' j = ⊥)
    (hq : ∀ d, IsReal (q d)) (hK : ∀ j d, IsReal (K j d)) :
    soft s' (fun j => V j d) = context q K V r d :=
  soft_masked keyEquiv r (fun j => score q (K j)) (fun j => V j d) s'
    (fun u => hin _ (key_group r u)) (fun p u hp => hout _ fun h => hp (Fin.ext ((key_group p u).symm.trans h)))
    (fun _ => score_isReal hq fun _ => hK _ _)

end Cert.Attn
-- ==== Proof.KernelIdeal.HeadValue.lean ====
module

public import proofs.«01_k».proof.Proof.KernelIdeal.Values
public import proofs.«01_k».proof.Proof.Attention
public import Idealize.ShloMosaic.Lib.Pointwise.SelectCore
public import Idealize.ShloMosaic.Lib.MatmulPlain

/-!
# What one head adds

The rows of a group are gathered out of a head's queries, keys and values; the attention among them, times
the head's output weights, is added to the group's rows of the accumulator.
-/

@[expose] public section

noncomputable section

namespace Cert.KernelIdeal.Attn

open Idealize.ShloMosaic hiding ix1 ix2 ix3 ix4
open Idealize.ShloMosaic.ValueIdx Cert.KernelIdeal Cert.KernelIdeal.Gen Cert.Attn
open scoped BigOperators

/-! ## A group's rows -/

theorem slices_block : ∀ r a : Fin 4, S1024x128.Slices ![256 * a.val + 64 * r.val, 0] S64x128 := by decide +kernel

/-- Block `a` of a group's rows. -/
def block (r a : Fin 4) (x : FVec Ideal S1024x128 .f32) : FVec Ideal S64x128 .f32 :=
  extractStridedSlice S64x128 ![256 * a.val + 64 * r.val, 0] x (slices_block r a)

/-- A group's rows. -/
def gather (r : Fin 4) (x : FVec Ideal S1024x128 .f32) : FVec Ideal S256x128 .f32 :=
  concatenate S256x128 0 [⟨S64x128, block r 0 x⟩, ⟨S64x128, block r 1 x⟩, ⟨S64x128, block r 2 x⟩, ⟨S64x128, block r 3 x⟩]
    Facts₀.concatenates_S64x128_S64x128_S64x128_S64x128_S256x128_d0

theorem gather_apply (r : Fin 4) (x : FVec Ideal S1024x128 .f32) (u : Fin 256) (d : Fin 128) :
    gather r x (ix2 u d) = x (ix2 (key r u) d) := by
  unfold gather
  rw [concatenate_cons_apply, concatenateAt_cons]
  split
  · next h0 =>
    have h0 : u.val < 64 := h0
    refine extractStridedSlice_apply _ _ _ _ (ix2 (key r u) d) fun b => ?_
    rw [Shape.Idx.norm_def]
    match b with
    | ⟨0, _⟩ => show 256 * (u.val / 64) + 64 * r.val + u.val % 64 = 256 * 0 + 64 * r.val + u.val; omega
    | ⟨1, _⟩ => exact (Nat.zero_add _).symm
  rw [concatenateAt_cons]
  split
  · next h0 h1 =>
    have h0 : ¬ u.val < 64 := h0
    have h1 : u.val - 64 < 64 := h1
    refine extractStridedSlice_apply _ _ _ _ (ix2 (key r u) d) fun b => ?_
    rw [Shape.Idx.norm_def]
    match b with
    | ⟨0, _⟩ => show 256 * (u.val / 64) + 64 * r.val + u.val % 64 = 256 * 1 + 64 * r.val + (u.val - 64); omega
    | ⟨1, _⟩ => exact (Nat.zero_add _).symm
  rw [concatenateAt_cons]
  split
  · next h0 h1 h2 =>
    have h1 : ¬ u.val - 64 < 64 := h1
    have h2 : u.val - 64 - 64 < 64 := h2
    refine extractStridedSlice_apply _ _ _ _ (ix2 (key r u) d) fun b => ?_
    rw [Shape.Idx.norm_def]
    match b with
    | ⟨0, _⟩ => show 256 * (u.val / 64) + 64 * r.val + u.val % 64 = 256 * 2 + 64 * r.val + (u.val - 64 - 64); omega
    | ⟨1, _⟩ => exact (Nat.zero_add _).symm
  · next h0 h1 h2 =>
    have h2 : ¬ u.val - 64 - 64 < 64 := h2
    have hu := u.isLt
    rw [concatenateAt_singleton]
    refine extractStridedSlice_apply _ _ _ _ (ix2 (key r u) d) fun b => ?_
    rw [Shape.Idx.norm_def]
    match b with
    | ⟨0, _⟩ => show 256 * (u.val / 64) + 64 * r.val + u.val % 64 = 256 * 3 + 64 * r.val + (u.val - 64 - 64 - 64); omega
    | ⟨1, _⟩ => exact (Nat.zero_add _).symm

/-! ## The attention among them -/

/-- The scores among a group's rows. -/
def scores (q k : FVec Ideal S256x128 .f32) : FVec Ideal S256x256 .f32 :=
  mulf (matmul dot_S256x128_S256x128_S256x256_1_1_0_0_n_n none q k (constant S256x256 .f32 0x00000000#32))
    (broadcast S256x256 (Scalar.ofBits .f32 0x3DB504F3#32))

/-- A value for each row over the row. -/
def rowWide (a : FVec Ideal S256 .f32) : FVec Ideal S256x256 .f32 :=
  broadcastTo S256x256 (shapeCast S256x1 a Facts₀.shapeCasts_S256_S256x1) Facts₀.broadcasts_S256x1_S256x256

/-- Their exponentials. -/
def exps (s : FVec Ideal S256x256 .f32) : FVec Ideal S256x256 .f32 :=
  exp (subf s (rowWide (multiReduction .maximumf [1] S256 s 0xFF800000#32 Facts₀.reduces_S256x256_S256 (.inl rfl) rfl)))

/-- Their sums. -/
def sums (e : FVec Ideal S256x256 .f32) : FVec Ideal S256 .f32 :=
  multiReduction .add [1] S256 e 0x00000000#32 Facts₀.reduces_S256x256_S256 (.inl rfl) rfl

/-- What the scores add to a group's rows. -/
def weigh (s : FVec Ideal S256x256 .f32) (v : FVec Ideal S256x128 .f32) (w : FVec Ideal S128x1024 .f32) :
    FVec Ideal S256x1024 .f32 :=
  matmul dot_S256x128_S128x1024_S256x1024_1_0_0_1_n_n none
    (matmul dot_S256x256_S256x128_S256x128_1_0_0_1_n_n none (divf (exps s) (rowWide (sums (exps s)))) v
      (constant S256x128 .f32 0x00000000#32)) w (constant S256x1024 .f32 0x00000000#32)

theorem rowPay_eq (r : Fin 4) (q k v : Vec Ideal S1x1024x128 .f32) (w : Vec Ideal S1x128x1024 .f32)
    (g : Vec Ideal S256x1024 .f32) :
    rowPay r q k v w g = shapeCast S256x1024 (addf g
      (weigh (scores (gather r (k0_pay5 q)) (gather r (k0_pay6 k))) (gather r (k0_pay7 v)) (k0_pay8 w)))
      Facts₀.shapeCasts_S256x1024_S256x1024 := by
  match r with
  | 0 => rfl
  | 1 => rfl
  | 2 => rfl
  | 3 => rfl

theorem rowWide_apply (a : FVec Ideal S256 .f32) (u t : Fin 256) : rowWide a (ix2 u t) = a (ix1 u) := by
  refine (broadcastTo_apply _ _ _ (ix2 u (0 : Fin 1)) ?_).trans (shapeCast_apply _ _ _ (ix1 u) ?_)
  · intro b
    match b with
    | ⟨0, _⟩ => rfl
    | ⟨1, _⟩ => rfl
  · rw [Shape.rowMajor_val_two, Shape.rowMajor_val_one]
    show u.val = u.val * 1 + 0
    omega

theorem scores_apply (q k : FVec Ideal S256x128 .f32) (u t : Fin 256) :
    scores q k (ix2 u t) = score (fun d => q (ix2 u d)) (fun d => k (ix2 t d)) := by
  have h := Ideal.matmul_transposedRhs_apply none q k (constant S256x256 .f32 0x00000000#32) u t
  show FloatOps.matmul (DotDims.transposedRhs 256 128 256) none q k (constant S256x256 .f32 0x00000000#32) (ix2 u t) * factor = _
  rw [h]
  show (Ideal.ofBits .f32 0x00000000#32 + _) * factor = _
  rw [Ideal.ofBits_zero_f32, zero_add]
  rfl

theorem lift_group (u t : Fin 256) : Facts₀.reduces_S256x256_S256.lift (ix1 u) t = ix2 u t := by
  funext a; apply Fin.ext
  match a with
  | ⟨0, _⟩ => rfl
  | ⟨1, _⟩ => rfl

theorem groupTop_apply (s : FVec Ideal S256x256 .f32) (u : Fin 256) :
    multiReduction .maximumf [1] S256 s 0xFF800000#32 Facts₀.reduces_S256x256_S256 (.inl rfl) rfl (ix1 u)
      = top fun t => s (ix2 u t) := by
  refine (Ideal.multiReduction_maximumf_single _ _ Facts₀.reduces_S256x256_S256 _ _ _).trans ?_
  unfold top
  show Finset.fold max (Ideal.ofBits .f32 0xFF800000#32) _ _ = _
  rw [ofBits_neg_inf]
  congr 1
  funext t
  exact congrArg s (lift_group u t)

theorem exps_apply (s : FVec Ideal S256x256 .f32) (u t : Fin 256) :
    exps s (ix2 u t) = Ideal.exp (s (ix2 u t) - top fun t => s (ix2 u t)) := by
  show Ideal.exp (s (ix2 u t) - rowWide _ (ix2 u t)) = _
  rw [rowWide_apply, groupTop_apply]

theorem sums_apply (e : FVec Ideal S256x256 .f32) (u : Fin 256) : sums e (ix1 u) = ∑ t : Fin 256, e (ix2 u t) :=
  (Ideal.multiReduction_add_single _ _ Facts₀.reduces_S256x256_S256 _ _ _).trans
    (Finset.sum_congr rfl fun t _ => congrArg e (lift_group u t))

theorem weigh_apply (s : FVec Ideal S256x256 .f32) (v : FVec Ideal S256x128 .f32) (w : FVec Ideal S128x1024 .f32)
    (u : Fin 256) (n : Fin 1024) :
    weigh s v w (ix2 u n) = ∑ d : Fin 128, soft (fun t => s (ix2 u t)) (fun t => v (ix2 t d)) * w (ix2 d n) := by
  refine (Ideal.matmul_plain_apply (M := 256) (K := 128) (N := 1024) none _ w _ u n).trans ?_
  show Ideal.ofBits .f32 0x00000000#32 + _ = _
  rw [Ideal.ofBits_zero_f32, zero_add]
  refine Finset.sum_congr rfl fun d _ => congrArg (· * _) ?_
  refine (Ideal.matmul_plain_apply (M := 256) (K := 256) (N := 128) none _ v _ u d).trans ?_
  show Ideal.ofBits .f32 0x00000000#32 + _ = _
  rw [Ideal.ofBits_zero_f32, zero_add]
  unfold soft
  refine Finset.sum_congr rfl fun t _ => congrArg (· * _) ?_
  show Ideal.div (exps s (ix2 u t)) (rowWide (sums (exps s)) (ix2 u t)) = _
  rw [rowWide_apply, sums_apply, exps_apply]
  simp only [exps_apply]

theorem cast_apply {a b : ℕ} (x : FVec Ideal ⟨3, ![1, a, b]⟩ .f32) (h : Shape.ShapeCasts ⟨3, ![1, a, b]⟩ ⟨2, ![a, b]⟩)
    (i : Fin a) (j : Fin b) : shapeCast ⟨2, ![a, b]⟩ x h (ix2 i j) = x (ix3 (0 : Fin 1) i j) := by
  refine shapeCast_apply _ _ _ _ ?_
  rw [Shape.rowMajor_val_two, Shape.rowMajor_val_three]
  show (0 * a + i.val) * b + j.val = i.val * b + j.val
  rw [Nat.zero_mul, Nat.zero_add]

/-- What a head adds to an element of a group's rows. -/
theorem rowPay_apply (r : Fin 4) (q k v : Vec Ideal S1x1024x128 .f32) (w : Vec Ideal S1x128x1024 .f32)
    (g : Vec Ideal S256x1024 .f32) (u : Fin 256) (n : Fin 1024) :
    rowPay r q k v w g (ix2 u n) = g (ix2 u n) + ∑ d : Fin 128,
      context (fun d => q (ix3 (0 : Fin 1) (key r u) d)) (fun j d => k (ix3 (0 : Fin 1) j d))
        (fun j d => v (ix3 (0 : Fin 1) j d)) r d * w (ix3 (0 : Fin 1) d n) := by
  rw [rowPay_eq]
  refine (shapeCast_apply _ _ _ (ix2 u n) rfl).trans ?_
  show g (ix2 u n) + weigh _ _ _ (ix2 u n) = _
  rw [weigh_apply]
  refine congrArg (g (ix2 u n) + ·) (Finset.sum_congr rfl fun d _ => ?_)
  unfold context
  simp only [scores_apply, gather_apply]
  unfold k0_pay5 k0_pay6 k0_pay7 k0_pay8
  simp only [cast_apply]

end Cert.KernelIdeal.Attn
-- ==== Proof.KernelIdeal.Sum.lean ====
module

public import proofs.«01_k».proof.Proof.KernelIdeal.HeadValue

/-!
# The accumulator's value

The accumulator after the last step is the sum over the sixty-four heads: every step takes eight of them,
four out of the weights travelling each way.
-/

@[expose] public section

set_option synthInstance.maxSize 4096

noncomputable section

namespace Cert.KernelIdeal.Attn

open Idealize.ShloMosaic hiding ix1 ix2 ix3 ix4
open Idealize.ShloMosaic.ValueIdx Cert.KernelIdeal Cert.KernelIdeal.Gen Cert.Attn
open scoped BigOperators

/-! ## One head -/

/-- Row `u` of row group `r` of the accumulator. -/
def row (r : Fin 4) (u : Fin 256) : Fin 1024 := ⟨256 * r.val + u.val, by omega⟩

theorem accRow_self (r : Fin 4) (p : Vec Ideal S256x1024 .f32 → FVec Ideal S256x1024 .f32) (a : Vec Ideal S1024x1024 .f32)
    (u : Fin 256) (n : Fin 1024) :
    accRow r p a (ix2 (row r u) n)
      = p (VecWindow.window a ![256 * r.val, 0] S256x1024.size (inb_group r)) (ix2 u n) := by
  unfold accRow VecWindow.put
  rw [dif_pos (fun b => match b with
    | ⟨0, _⟩ => ⟨Nat.le_add_right _ _, Nat.add_lt_add_left u.isLt _⟩
    | ⟨1, _⟩ => ⟨Nat.zero_le _, (Nat.zero_add 1024).symm ▸ n.isLt⟩)]
  refine congrArg (p _) (funext fun b => Fin.ext ?_)
  match b with
  | ⟨0, _⟩ => show 256 * r.val + u.val - 256 * r.val = u.val; omega
  | ⟨1, _⟩ => exact Nat.sub_zero _

theorem accRow_other (r r' : Fin 4) (h : r ≠ r') (p : Vec Ideal S256x1024 .f32 → FVec Ideal S256x1024 .f32)
    (a : Vec Ideal S1024x1024 .f32) (u : Fin 256) (n : Fin 1024) :
    accRow r p a (ix2 (row r' u) n) = a (ix2 (row r' u) n) := by
  unfold accRow VecWindow.put
  refine dif_neg fun hin => h (Fin.ext ?_)
  have := hin (0 : Fin 2)
  have h1 : 256 * r.val ≤ 256 * r'.val + u.val ∧ 256 * r'.val + u.val < 256 * r.val + 256 := this
  have := u.isLt
  omega

/-- What a head adds at row `u` of group `r`, column `n`. -/
def headTerm (q k v : Vec Ideal S1x1024x128 .f32) (w : Vec Ideal S1x128x1024 .f32) (r : Fin 4) (u : Fin 256)
    (n : Fin 1024) : EReal :=
  ∑ d : Fin 128, context (fun d => q (ix3 (0 : Fin 1) (key r u) d)) (fun j d => k (ix3 (0 : Fin 1) j d))
    (fun j d => v (ix3 (0 : Fin 1) j d)) r d * w (ix3 (0 : Fin 1) d n)

theorem accAdd_self (r : Fin 4) (q k v : Vec Ideal S1x1024x128 .f32) (w : Vec Ideal S1x128x1024 .f32)
    (a : Vec Ideal S1024x1024 .f32) (u : Fin 256) (n : Fin 1024) :
    accRow r (rowPay r q k v w) a (ix2 (row r u) n) = a (ix2 (row r u) n) + headTerm q k v w r u n := by
  rw [accRow_self, rowPay_apply]
  refine congrArg (· + _) (congrArg a (funext fun b => Fin.ext ?_))
  match b with
  | ⟨0, _⟩ => show 256 * r.val + 1 * u.val = 256 * r.val + u.val; omega
  | ⟨1, _⟩ => show 0 + 1 * n.val = n.val; omega

theorem accHead_apply (q k v : Vec Ideal S1x1024x128 .f32) (w : Vec Ideal S1x128x1024 .f32)
    (a : Vec Ideal S1024x1024 .f32) (r : Fin 4) (u : Fin 256) (n : Fin 1024) :
    accHead q k v w a (ix2 (row r u) n) = a (ix2 (row r u) n) + headTerm q k v w r u n := by
  unfold accHead
  match r with
  | 0 => rw [accRow_other 3 0 (by decide), accRow_other 2 0 (by decide), accRow_other 1 0 (by decide), accAdd_self]
  | 1 => rw [accRow_other 3 1 (by decide), accRow_other 2 1 (by decide), accAdd_self, accRow_other 0 1 (by decide)]
  | 2 => rw [accRow_other 3 2 (by decide), accAdd_self, accRow_other 1 2 (by decide), accRow_other 0 2 (by decide)]
  | 3 => rw [accAdd_self, accRow_other 2 3 (by decide), accRow_other 1 3 (by decide), accRow_other 0 3 (by decide)]

/-! ## What a trip reads -/

/-- The device whose weights a trip takes. -/
def origin (s : ℕ) (c : Dev nD) (k : ℕ) : Dev nD := if k < 4 then back s c else fwd s c

/-- Column `d` of the head of a trip, in its device's weights. -/
def lane (k : Fin 8) (d : Fin 128) : Fin 1024 := ⟨128 * k.val + d.val, by omega⟩

theorem headOf_origin (s : ℕ) (c : Dev nD) (k : ℕ) : headOf s c k = 8 * (origin s c k).val + k := by
  unfold headOf origin
  split <;> rfl

theorem qPay_apply (k : Fin 8) (x : FVec Ideal S1024x1024 .f32) (w : Vec Ideal S1x1024x1024 .f32) (i : Fin 1024) (d : Fin 128) :
    qPay k x w (ix3 (0 : Fin 1) i d) = ∑ l : Fin 1024, x (ix2 i l) * w (ix3 (0 : Fin 1) l (lane k d)) := by
  have hp : k0_pay106 x w (ix2 i (lane k d)) = ∑ l : Fin 1024, x (ix2 i l) * w (ix3 (0 : Fin 1) l (lane k d)) := by
    refine (Ideal.matmul_plain_apply (M := 1024) (K := 1024) (N := 1024) none x _ _ i (lane k d)).trans ?_
    show Ideal.ofBits .f32 0x00000000#32 + _ = _
    rw [Ideal.ofBits_zero_f32, zero_add]
    exact Finset.sum_congr rfl fun l _ => congrArg (x (ix2 i l) * ·) (cast_apply _ _ _ _)
  have hs : ∀ (o : Fin 2 → ℕ) (hsl : S1024x1024.Slices o S1024x128) (hc : S1024x128.ShapeCasts S1x1024x128),
      o = ![0, 128 * k.val] →
      shapeCast S1x1024x128 (extractStridedSlice S1024x128 o (k0_pay106 x w) hsl) hc (ix3 (0 : Fin 1) i d)
        = k0_pay106 x w (ix2 i (lane k d)) := by
    intro o hsl hc ho
    subst ho
    refine (shapeCast_apply _ _ _ (ix2 i d) ?_).trans (extractStridedSlice_apply _ _ _ _ (ix2 i (lane k d)) fun b => ?_)
    · rw [Shape.rowMajor_val_two, Shape.rowMajor_val_three]
      show i.val * 128 + d.val = (0 * 1024 + i.val) * 128 + d.val
      omega
    · match b with
      | ⟨0, _⟩ => exact (Nat.zero_add _).symm
      | ⟨1, _⟩ => rfl
  rw [← hp]
  match k with
  | 0 => exact hs _ Facts₀.slices_S1024x1024_o0_0_S1024x128 Facts₀.shapeCasts_S1024x128_S1x1024x128 rfl
  | 1 => exact hs _ Facts₀.slices_S1024x1024_o0_128_S1024x128 Facts₀.shapeCasts_S1024x128_S1x1024x128 rfl
  | 2 => exact hs _ Facts₀.slices_S1024x1024_o0_256_S1024x128 Facts₀.shapeCasts_S1024x128_S1x1024x128 rfl
  | 3 => exact hs _ Facts₀.slices_S1024x1024_o0_384_S1024x128 Facts₀.shapeCasts_S1024x128_S1x1024x128 rfl
  | 4 => exact hs _ Facts₀.slices_S1024x1024_o0_512_S1024x128 Facts₀.shapeCasts_S1024x128_S1x1024x128 rfl
  | 5 => exact hs _ Facts₀.slices_S1024x1024_o0_640_S1024x128 Facts₀.shapeCasts_S1024x128_S1x1024x128 rfl
  | 6 => exact hs _ Facts₀.slices_S1024x1024_o0_768_S1024x128 Facts₀.shapeCasts_S1024x128_S1x1024x128 rfl
  | 7 => exact hs _ Facts₀.slices_S1024x1024_o0_896_S1024x128 Facts₀.shapeCasts_S1024x128_S1x1024x128 rfl

theorem wRead_apply (wq : Dev nD → Vec Ideal S1024x1024 .f32) (s : ℕ) (c : Dev nD) (k : Fin 8) (l : Fin 1024) (d : Fin 128) :
    wRead wq s c (ix3 (0 : Fin 1) l (lane k d)) = wq (origin s c k.val) (ix2 l (lane k d)) := by
  have h1 : (0 + 1 * (lane k d).val < 512) = (k.val < 4) := by
    show (0 + 1 * (128 * k.val + d.val) < 512) = (k.val < 4)
    exact propext (by omega)
  show (if 0 + 1 * (lane k d).val < 512 then wq (back s c) else wq (fwd s c)) _ = _
  simp only [h1]
  unfold origin
  have h2 : ∀ f : Vec Ideal S1024x1024 .f32, ∀ i : S1024x1024.Idx, (i 0).val = l.val → (i 1).val = (lane k d).val →
      f i = f (ix2 l (lane k d)) := fun f i e0 e1 => congrArg f (funext fun b => Fin.ext (match b with
    | ⟨0, _⟩ => e0
    | ⟨1, _⟩ => e1))
  split
  all_goals exact h2 _ _ (by show 0 + 1 * l.val = l.val; omega) (by show 0 + 1 * (lane k d).val = (lane k d).val; omega)

theorem oRead_apply (wo : Dev nD → Vec Ideal S1024x1024 .f32) (s : ℕ) (c : Dev nD) (k : Fin 8) (d : Fin 128) (n : Fin 1024) :
    oRead wo s c k.val k.isLt (ix3 (0 : Fin 1) d n) = wo (origin s c k.val) (ix2 (lane k d) n) := by
  have h1 : (128 * k.val + 1 * d.val < 512) = (k.val < 4) := propext (by omega)
  show (if 128 * k.val + 1 * d.val < 512 then wo (back s c) else wo (fwd s c)) _ = _
  simp only [h1]
  unfold origin
  have h2 : ∀ f : Vec Ideal S1024x1024 .f32, ∀ i : S1024x1024.Idx, (i 0).val = (lane k d).val → (i 1).val = n.val →
      f i = f (ix2 (lane k d) n) := fun f i e0 e1 => congrArg f (funext fun b => Fin.ext (match b with
    | ⟨0, _⟩ => e0
    | ⟨1, _⟩ => e1))
  split
  all_goals exact h2 _ _ (by show 128 * k.val + 1 * d.val = 128 * k.val + d.val; omega) (by show 0 + 1 * n.val = n.val; omega)

theorem hRead_apply (X : Vec Ideal S1x1024x64x128 .f32) (h : ℕ) (hh : h < 64) (k : ℕ) (j : Fin 1024) (d : Fin 128) :
    hRead X h hh k (ix3 (0 : Fin 1) j d) = X (ix4 (0 : Fin 1) j (⟨h, hh⟩ : Fin 64) d) := by
  refine congrArg X (funext fun b => Fin.ext ?_)
  match b with
  | ⟨0, _⟩ => rfl
  | ⟨1, _⟩ => show 0 + 1 * j.val = j.val; omega
  | ⟨2, _⟩ => rfl
  | ⟨3, _⟩ => show 0 + 1 * d.val = d.val; omega

theorem qRead_apply (x : FVec Ideal S1024x1024 .f32) (w : Vec Ideal S1x1024x1024 .f32) (k : Fin 8) (i : Fin 1024) (d : Fin 128) :
    qRead (qAll x w) k.val k.isLt (ix3 (0 : Fin 1) i d) = qPay k x w (ix3 (0 : Fin 1) i d) := by
  have e : ((Rect.unit (s := S8x1024x128) (oQry k.val) S1x1024x128.size (inb_oQry k.isLt)).emb (ix3 (0 : Fin 1) i d))
      = (ix3 k i d : S8x1024x128.Idx) := by
    funext b; apply Fin.ext
    match b with
    | ⟨0, _⟩ => show k.val + 1 * 0 = k.val; omega
    | ⟨1, _⟩ => show 0 + 1 * i.val = i.val; omega
    | ⟨2, _⟩ => show 0 + 1 * d.val = d.val; omega
  unfold qRead VecWindow.window
  rw [e]
  rfl

/-! ## All heads -/

section Run
variable (x : Vec Ideal S1x1024x1024 .f32) (wq wo : Dev nD → Vec Ideal S1024x1024 .f32)
    (X V : Vec Ideal S1x1024x64x128 .f32) (c : Dev nD) (r : Fin 4) (u : Fin 256) (n : Fin 1024)

/-- The device that holds a head's weights. -/
def homeOf (h : Fin 64) : Dev nD := ⟨h.val / 8, by have := h.isLt; show h.val / 8 < 8; omega⟩

/-- Column `d` of a head in its device's weights. -/
def laneOf (h : Fin 64) : Fin 128 → Fin 1024 := lane ⟨h.val % 8, by omega⟩

/-- A head's part of the result at row `u` of group `r`, column `n`. -/
def partOf (h : Fin 64) : EReal :=
  headOut (fun l => x (ix3 (0 : Fin 1) (key r u) l)) (fun l d => wq (homeOf h) (ix2 l (laneOf h d)))
    (fun j d => X (ix4 (0 : Fin 1) j h d)) (fun j d => V (ix4 (0 : Fin 1) j h d)) r (fun d => wo (homeOf h) (ix2 (laneOf h d) n))

/-- The head of a trip. -/
def tripHead (s : ℕ) (k : Fin 8) : Fin 64 := ⟨headOf s c k.val, headOf_lt s c k.isLt⟩

theorem homeOf_tripHead (s : ℕ) (k : Fin 8) : homeOf (tripHead c s k) = origin s c k.val := by
  apply Fin.ext
  show headOf s c k.val / 8 = _
  rw [headOf_origin]
  have := k.isLt
  omega

theorem laneOf_tripHead (s : ℕ) (k : Fin 8) : laneOf (tripHead c s k) = lane k := by
  unfold laneOf
  congr 1
  apply Fin.ext
  show headOf s c k.val % 8 = k.val
  rw [headOf_origin]
  have := k.isLt
  omega

theorem accTrip_apply (s : ℕ) (k : Fin 8) (a : Vec Ideal S1024x1024 .f32) :
    accTrip x wq wo X V c s k.val k.isLt a (ix2 (row r u) n) = a (ix2 (row r u) n) + partOf x wq wo X V r u n (tripHead c s k) := by
  unfold accTrip
  rw [accHead_apply]
  refine congrArg (a _ + ·) ?_
  unfold headTerm partOf headOut
  rw [homeOf_tripHead, laneOf_tripHead]
  simp only [oRead_apply, hRead_apply, qRead_apply, qPay_apply, wRead_apply]
  unfold k0_pay105
  simp only [cast_apply]
  rfl

theorem accTrips_apply (s : ℕ) (a : Vec Ideal S1024x1024 .f32) : ∀ k, k ≤ 8 →
    accTrips x wq wo X V c s a k (ix2 (row r u) n) = a (ix2 (row r u) n)
      + ∑ i : Fin 8, if i.val < k then partOf x wq wo X V r u n (tripHead c s i) else 0
  | 0, _ => by simp [accTrips]
  | k + 1, hk => by
    rw [accTrips_succ x wq wo X V c s a (show k < 8 by omega), accTrip_apply (k := ⟨k, by omega⟩), accTrips_apply s a k (by omega),
      add_assoc]
    refine congrArg (a _ + ·) ?_
    have e : ∀ i : Fin 8, (if i.val < k + 1 then partOf x wq wo X V r u n (tripHead c s i) else 0)
        = (if i.val < k then partOf x wq wo X V r u n (tripHead c s i) else 0)
          + (if i = ⟨k, by omega⟩ then partOf x wq wo X V r u n (tripHead c s i) else 0) := by
      intro i
      by_cases h1 : i.val < k
      · rw [if_pos h1, if_pos (by omega), if_neg (fun h => by rw [h] at h1; exact absurd h1 (lt_irrefl _)), add_zero]
      · by_cases h2 : i = ⟨k, by omega⟩
        · rw [if_neg h1, if_pos h2, if_pos (by rw [h2]; exact Nat.lt_succ_self k), zero_add]
        · rw [if_neg h1, if_neg h2, if_neg (fun h => h2 (Fin.ext (by show i.val = k; omega))), add_zero]
    rw [Finset.sum_congr rfl fun i _ => e i, Finset.sum_add_distrib, Finset.sum_ite_eq' Finset.univ, if_pos (Finset.mem_univ _)]

theorem accAt_apply : ∀ s,
    accAt x wq wo X V c s (ix2 (row r u) n) = ∑ t : Fin s, ∑ k : Fin 8, partOf x wq wo X V r u n (tripHead c t.val k)
  | 0 => by
    show Ideal.ofBits .f32 0x00000000#32 = _
    rw [Ideal.ofBits_zero_f32]
    rfl
  | s + 1 => by
    rw [Fin.sum_univ_castSucc]
    show accTrips x wq wo X V c s (accAt x wq wo X V c s) 8 _ = _
    rw [accTrips_apply x wq wo X V c r u n s _ 8 (le_refl _), accAt_apply s]
    refine congrArg (_ + ·) (Finset.sum_congr rfl fun k _ => if_pos k.isLt)

/-- Steps and trips are the heads. -/
def tripEquiv : Fin 8 × Fin 8 ≃ Fin 64 where
  toFun p := tripHead c p.1.val p.2
  invFun h := (⟨(if h.val % 8 < 4 then (c.val + 16 - h.val / 8) % 8 else (h.val / 8 + 8 - c.val) % 8), by split <;> omega⟩,
    ⟨h.val % 8, by omega⟩)
  left_inv := by revert c; decide +kernel
  right_inv := by revert c; decide +kernel

/-- The accumulator at the end. -/
theorem accAt_eight : accAt x wq wo X V c 8 (ix2 (row r u) n) = ∑ h, partOf x wq wo X V r u n h := by
  rw [accAt_apply, ← Fintype.sum_prod_type', ← Equiv.sum_comp (tripEquiv c)]
  rfl

/-- The result at an element. -/
theorem outOf_apply (i : Fin 1024) :
    outOf (accAt x wq wo X V c 8) (ix3 (0 : Fin 1) i n)
      = ∑ h, headOut (fun l => x (ix3 (0 : Fin 1) i l)) (fun l d => wq (homeOf h) (ix2 l (laneOf h d)))
          (fun j d => X (ix4 (0 : Fin 1) j h d)) (fun j d => V (ix4 (0 : Fin 1) j h d)) (group i)
          (fun d => wo (homeOf h) (ix2 (laneOf h d) n)) := by
  have hi := i.isLt
  have hu : 64 * (i.val / 256) + i.val % 64 < 256 := by omega
  have er : (⟨64 * (4 * (i.val % 256 / 64) + i.val / 256) + i.val % 64, by omega⟩ : Fin 1024)
      = row (group i) ⟨64 * (i.val / 256) + i.val % 64, hu⟩ := by
    apply Fin.ext
    show 64 * (4 * (i.val % 256 / 64) + i.val / 256) + i.val % 64 = 256 * (i.val / 64 % 4) + (64 * (i.val / 256) + i.val % 64)
    omega
  have ek : key (group i) ⟨64 * (i.val / 256) + i.val % 64, hu⟩ = i := by
    apply Fin.ext
    show 256 * ((64 * (i.val / 256) + i.val % 64) / 64) + 64 * (i.val / 64 % 4) + (64 * (i.val / 256) + i.val % 64) % 64 = i.val
    omega
  show accAt x wq wo X V c 8 (ix2 (⟨64 * (4 * (i.val % 256 / 64) + i.val / 256) + i.val % 64, by omega⟩ : Fin 1024) n) = _
  rw [er, accAt_eight]
  unfold partOf
  rw [ek]

end Run

end Cert.KernelIdeal.Attn
-- ==== Proof.ReferenceIdeal.Mask.lean ====
module

public import proofs.«01_k».proof.Proof.Gen.ReferenceIdeal
public import Idealize.ShloMosaic.Lib.IdealHost
public import Idealize.ShloMosaic.Lib.Routing.Words
public import Idealize.ShloMosaic.Lib.StableHlo.Predicate
public import Idealize.ShloMosaic.Lib.Pipeline.Value

/-!
# The reference's mask

A key is kept when its block of sixty-four has the query's block number modulo four. The block numbers and
the remainders are words, computed with the sign corrections of a floor division.
-/

@[expose] public section

noncomputable section

namespace Cert.ReferenceIdeal.Attn

open Idealize.ShloMosaic Idealize.ShloMosaic.ValueIdx Cert.ReferenceIdeal

/-- The floor quotient of words by a scalar. -/
def floorQuot {s : Shape} (hb : S_.BroadcastsInDim s ![]) (x : IVec s 32) (b : IVec S_ 32) : IVec s 32 :=
  select (andi (cmpi .ne (signi x) (broadcastInDim s ![] hb (signi b)))
      (cmpi .ne (Host.remsi x (broadcastInDim s ![] hb b)) (broadcastInDim s ![] hb (constantI S_ 32 0#32))))
    (subi (Host.divsi x (broadcastInDim s ![] hb b)) (broadcastInDim s ![] hb (constantI S_ 32 1#32)))
    (Host.divsi x (broadcastInDim s ![] hb b))

/-- The floor remainder of words by a scalar, a zero divisor taken as one. -/
def floorRem {s : Shape} (hb : S_.BroadcastsInDim s ![]) (x : IVec s 32) (b : IVec S_ 32) : IVec s 32 :=
  let d := select (cmpi .eq b (constantI S_ 32 0#32)) (constantI S_ 32 1#32) b
  let r := Host.remsi x (broadcastInDim s ![] hb d)
  select (andi (cmpi .ne (cmpi .slt r (broadcastInDim s ![] hb (constantI S_ 32 0#32)))
        (broadcastInDim s ![] hb (cmpi .slt d (constantI S_ 32 0#32))))
      (cmpi .ne r (broadcastInDim s ![] hb (constantI S_ 32 0#32))))
    (addi r (broadcastInDim s ![] hb d)) r

/-- At a small word the floor quotient by sixty-four is the quotient. -/
theorem floorQuot_apply {s : Shape} (hb : S_.BroadcastsInDim s ![]) (x : IVec s 32) (i : s.Idx) (n : ℕ)
    (hn : n < 2 ^ 31) (hx : x i = BitVec.ofNat 32 n) :
    floorQuot hb x (id (constantI S_ 32 64#32)) i = BitVec.ofNat 32 (n / 64) := by
  have hd : Host.divsi x (broadcastInDim s ![] hb (id (constantI S_ 32 64#32))) i = BitVec.ofNat 32 (n / 64) := by
    show IntOp.divsi .host (x i) 64#32 = _
    rw [hx]
    exact Routing.divsi_word .host hn (by omega) (by omega)
  have hr : Host.remsi x (broadcastInDim s ![] hb (id (constantI S_ 32 64#32))) i = BitVec.ofNat 32 (n % 64) := by
    show IntOp.remsi .host (x i) 64#32 = _
    rw [hx]
    exact Routing.remsi_word .host hn (by omega) (by omega)
  have hc : andi (cmpi .ne (signi x) (broadcastInDim s ![] hb (signi (id (constantI S_ 32 64#32)))))
      (cmpi .ne (Host.remsi x (broadcastInDim s ![] hb (id (constantI S_ 32 64#32)))) (broadcastInDim s ![] hb (constantI S_ 32 0#32))) i = 0#1 := by
    have h64 : signi (id (constantI S_ 32 64#32)) = fun _ => 1#32 := by
      funext _
      show (if (64#32 : BitVec 32) = 0 then (0 : BitVec 32) else if (64#32 : BitVec 32).msb then -1 else 1) = 1#32
      decide
    rw [h64]
    show IntOp.andi (IntOp.cmpi .ne (signi x i) 1#32) (IntOp.cmpi .ne (Host.remsi x (broadcastInDim s ![] hb (id (constantI S_ 32 64#32))) i) 0#32) = 0#1
    rw [hr]
    show IntOp.andi (IntOp.cmpi .ne (if x i = 0 then 0 else if (x i).msb then -1 else 1) 1#32) _ = 0#1
    rw [hx]
    by_cases h0 : n = 0
    · subst h0; decide
    · have h1 : BitVec.ofNat 32 n ≠ 0 := fun h => h0 (by
        have := congrArg BitVec.toNat h
        simp only [BitVec.toNat_ofNat] at this
        have h3 : n % 2 ^ 32 = 0 := this
        omega)
      have h2 : (BitVec.ofNat 32 n).msb = false :=
        BitVec.msb_eq_false_iff_two_mul_lt.mpr (by rw [BitVec.toNat_ofNat]; omega)
      rw [if_neg h1, h2]
      show IntOp.andi 0#1 _ = 0#1
      exact BitVec.zero_and
  show Scalar.select _ _ _ = _
  rw [hc]
  exact hd

/-- At a small word the floor remainder by four is the remainder. -/
theorem floorRem_apply {s : Shape} (hb : S_.BroadcastsInDim s ![]) (x : IVec s 32) (i : s.Idx) (n : ℕ)
    (hn : n < 2 ^ 31) (hx : x i = BitVec.ofNat 32 n) :
    floorRem hb x (id (constantI S_ 32 4#32)) i = BitVec.ofNat 32 (n % 4) := by
  have hr : Host.remsi x (broadcastInDim s ![] hb (select (cmpi .eq (id (constantI S_ 32 4#32)) (constantI S_ 32 0#32))
      (constantI S_ 32 1#32) (id (constantI S_ 32 4#32)))) i = BitVec.ofNat 32 (n % 4) := by
    show IntOp.remsi .host (x i) 4#32 = _
    rw [hx]
    exact Routing.remsi_word .host hn (by omega) (by omega)
  show Scalar.select (IntOp.andi (IntOp.cmpi .ne (IntOp.cmpi .slt (Host.remsi x _ i) 0#32) 0#1)
    (IntOp.cmpi .ne (Host.remsi x _ i) 0#32)) (Host.remsi x _ i + 4#32) (Host.remsi x _ i) = _
  rw [hr]
  have : n % 4 < 4 := Nat.mod_lt _ (by omega)
  generalize n % 4 = k at this
  revert this
  revert k
  decide

/-- The block numbers of the query rows. -/
def qBlocks : IVec S8192x1 32 :=
  broadcastInDim S8192x1 ![0] Facts₀.bcast_S8192_S8192x1_0
    (floorQuot Facts₀.bcast_S_S8192 (iotaInDim S8192 32 0) (id (constantI S_ 32 64#32)))

/-- The block numbers of the keys. -/
def kBlocks : IVec S1x1024 32 :=
  broadcastInDim S1x1024 ![1] Facts₀.bcast_S1024_S1x1024_1
    (floorQuot Facts₀.bcast_S_S1024 (iotaInDim S1024 32 0) (id (constantI S_ 32 64#32)))

/-- The mask. -/
def maskOf : IVec S8192x1024 1 :=
  ori
    (cmpi .eq (broadcastInDim S8192x1024 ![0, 1] Facts₀.bcast_S8192x1_S8192x1024_0_1 qBlocks)
      (broadcastInDim S8192x1024 ![0, 1] Facts₀.bcast_S1x1024_S8192x1024_0_1 kBlocks))
    (cmpi .eq
      (broadcastInDim S8192x1024 ![0, 1] Facts₀.bcast_S1x1024_S8192x1024_0_1
        (floorRem Facts₀.bcast_S_S1x1024 kBlocks (id (constantI S_ 32 4#32))))
      (broadcastInDim S8192x1024 ![0, 1] Facts₀.bcast_S8192x1_S8192x1024_0_1
        (floorRem Facts₀.bcast_S_S8192x1 qBlocks (id (constantI S_ 32 4#32)))))

theorem qBlocks_apply (i : Fin 8192) : qBlocks (ix2 i (0 : Fin 1)) = BitVec.ofNat 32 (i.val / 64) := by
  unfold qBlocks
  refine (broadcastInDim_apply _ _ _ _ (ix1 i) ?_).trans
    (floorQuot_apply _ _ _ i.val (by omega) (iotaInDim_apply 32 _ _))
  intro a
  match a with
  | ⟨0, _⟩ => rfl

theorem kBlocks_apply (j : Fin 1024) : kBlocks (ix2 (0 : Fin 1) j) = BitVec.ofNat 32 (j.val / 64) := by
  unfold kBlocks
  refine (broadcastInDim_apply _ _ _ _ (ix1 j) ?_).trans
    (floorQuot_apply _ _ _ j.val (by omega) (iotaInDim_apply 32 _ _))
  intro a
  match a with
  | ⟨0, _⟩ => rfl

/-- A column over the mask's columns. -/
theorem col_apply (x : IVec S8192x1 32) (i : Fin 8192) (j : Fin 1024) :
    broadcastInDim S8192x1024 ![0, 1] Facts₀.bcast_S8192x1_S8192x1024_0_1 x (ix2 i j) = x (ix2 i (0 : Fin 1)) :=
  broadcastInDim_apply _ _ _ _ _ fun a => match a with
    | ⟨0, _⟩ => rfl
    | ⟨1, _⟩ => rfl

/-- A row over the mask's rows. -/
theorem row_apply (x : IVec S1x1024 32) (i : Fin 8192) (j : Fin 1024) :
    broadcastInDim S8192x1024 ![0, 1] Facts₀.bcast_S1x1024_S8192x1024_0_1 x (ix2 i j) = x (ix2 (0 : Fin 1) j) :=
  broadcastInDim_apply _ _ _ _ _ fun a => match a with
    | ⟨0, _⟩ => rfl
    | ⟨1, _⟩ => rfl

/-- The mask keeps a key whose block number is the query's modulo four, and no other. -/
theorem maskOf_apply (i : Fin 8192) (j : Fin 1024) :
    maskOf (ix2 i j) = 1#1 ↔ j.val / 64 % 4 = i.val / 64 % 4 := by
  have hm : maskOf (ix2 i j) = IntOp.ori (IntOp.cmpi .eq (BitVec.ofNat 32 (i.val / 64)) (BitVec.ofNat 32 (j.val / 64)))
      (IntOp.cmpi .eq (BitVec.ofNat 32 (j.val / 64 % 4)) (BitVec.ofNat 32 (i.val / 64 % 4))) := by
    show IntOp.ori (IntOp.cmpi .eq (broadcastInDim S8192x1024 _ _ _ _) (broadcastInDim S8192x1024 _ _ _ _))
      (IntOp.cmpi .eq (broadcastInDim S8192x1024 _ _ _ _) (broadcastInDim S8192x1024 _ _ _ _)) = _
    rw [col_apply, row_apply, row_apply, col_apply, qBlocks_apply, kBlocks_apply,
      floorRem_apply _ _ _ _ (by omega) (kBlocks_apply j), floorRem_apply _ _ _ _ (by omega) (qBlocks_apply i)]
  have heq : ∀ {a b : ℕ}, a < 2 ^ 31 → b < 2 ^ 31 → (IntOp.cmpi .eq (BitVec.ofNat 32 a) (BitVec.ofNat 32 b) = 1#1 ↔ a = b) := by
    intro a b ha hb
    rw [StableHlo.Predicate.cmpi_eq_iff]
    constructor
    · intro h
      have := congrArg BitVec.toNat h
      simp only [BitVec.toNat_ofNat] at this
      omega
    · rintro rfl; rfl
  have hor : ∀ a b : BitVec 1, IntOp.ori a b = 1#1 ↔ a = 1#1 ∨ b = 1#1 := by decide
  rw [hm, hor, heq (by omega) (by omega), heq (by omega) (by omega)]
  constructor
  · rintro (h | h)
    · rw [h]
    · exact h
  · exact Or.inr

/-- The rows that keep some key: all of them. -/
def keepOf : IVec S8192 1 :=
  Host.reduce IntOp.ori maskOf (constantI S_ 1 0#1) Facts₀.reducesTo_S8192x1024_S8192_d1 Facts₀.h_S_

theorem foldl_ori_eq_one {ι : Type} (f : ι → BitVec 1) :
    ∀ (l : List ι) (init : BitVec 1), (init = 1#1 ∨ ∃ n ∈ l, f n = 1#1) → l.foldl (fun r n => IntOp.ori r (f n)) init = 1#1
  | [], _, h => h.elim id fun ⟨_, hn, _⟩ => nomatch hn
  | a :: l, init, h => foldl_ori_eq_one f l _ (by
      have hor : ∀ a b : BitVec 1, a = 1#1 ∨ b = 1#1 → IntOp.ori a b = 1#1 := by decide
      rcases h with h | ⟨n, hn, h⟩
      · exact Or.inl (hor _ _ (Or.inl h))
      · rcases List.mem_cons.1 hn with rfl | hn
        · exact Or.inl (hor _ _ (Or.inr h))
        · exact Or.inr ⟨n, hn, h⟩)

theorem keepOf_apply (i : Fin 8192) : keepOf (ix1 i) = 1#1 := by
  unfold keepOf
  rw [Host.reduce_eq_foldl]
  refine foldl_ori_eq_one _ _ _ (Or.inr ⟨ix2 i ⟨64 * (i.val / 64 % 4), by omega⟩, ?_, ?_⟩)
  · rw [List.mem_filter]
    refine ⟨List.mem_map.2 ⟨S8192x1024.rowMajor (ix2 i ⟨64 * (i.val / 64 % 4), by omega⟩), List.mem_finRange _, Equiv.symm_apply_apply _ _⟩, ?_⟩
    rw [decide_eq_true_eq]
    funext b
    match b with
    | ⟨0, _⟩ => rfl
  · rw [maskOf_apply]
    show 64 * (i.val / 64 % 4) / 64 % 4 = _
    omega

end Cert.ReferenceIdeal.Attn
-- ==== Proof.ReferenceIdeal.Value.lean ====
module

public import proofs.«01_k».proof.Proof.ReferenceIdeal.Mask
public import proofs.«01_k».proof.Proof.Gen.ReferenceIdeal.Run
public import proofs.«01_k».proof.Proof.Attention
public import Idealize.ShloMosaic.Lib.KernelVsHost

/-!
# The reference's value

The reference's result, stage by stage, read at an index.
-/

@[expose] public section

noncomputable section

namespace Cert.ReferenceIdeal.Attn

open Idealize.ShloMosaic Idealize.ShloMosaic.ValueIdx Idealize.ShloMosaic.TcCoe Cert.ReferenceIdeal Cert.Attn
open scoped BigOperators

/-! ## The stages -/

/-- The queries. -/
def projOf (x : FVec Ideal S1x8192x1024 .f32) (w : FVec Ideal S1024x8192 .f32) : FVec Ideal S1x8192x64x128 .f32 :=
  shapeCast _ (Host.dotGeneral dot_S1x8192x1024_S1024x8192_S1x8192x8192_2_0_01_1_n_n none x w)
    Facts₀.shapeCasts_S1x8192x8192_S1x8192x64x128

/-- The masked scores. -/
def scoreOf (q : FVec Ideal S1x8192x64x128 .f32) (k : FVec Ideal S1x1024x64x128 .f32) : FVec Ideal S1x64x8192x1024 .f32 :=
  select
    (broadcastInDim S1x64x8192x1024 ![0, 1, 2, 3] Facts₀.bcast_S1x1x8192x1024_S1x64x8192x1024_0_1_2_3
      (broadcastInDim S1x1x8192x1024 ![2, 3] Facts₀.bcast_S8192x1024_S1x1x8192x1024_2_3 maskOf))
    (mulf (Host.dotGeneral dot_S1x8192x64x128_S1x1024x64x128_S1x64x8192x1024_3_3_1_1_02_02 none q k)
      (broadcastInDim S1x64x8192x1024 ![] Facts₀.bcast_S_S1x64x8192x1024 (constant S_ .f32 0x3DB504F3#32)))
    (broadcastInDim S1x64x8192x1024 ![] Facts₀.bcast_S_S1x64x8192x1024 (id (constant S_ .f32 0xFF800000#32)))

/-- A value for each row over the row. -/
def overRow (a : FVec Ideal S1x64x8192x1 .f32) : FVec Ideal S1x64x8192x1024 .f32 :=
  broadcastInDim S1x64x8192x1024 ![0, 1, 2, 3] Facts₀.bcast_S1x64x8192x1_S1x64x8192x1024_0_1_2_3 a

/-- A value for each row as a column. -/
def asCol (a : FVec Ideal S1x64x8192 .f32) : FVec Ideal S1x64x8192x1 .f32 :=
  broadcastInDim S1x64x8192x1 ![0, 1, 2] Facts₀.bcast_S1x64x8192_S1x64x8192x1_0_1_2 a

/-- The rows that keep some key, for every head. -/
def keepCol : IVec S1x1x8192x1 1 := broadcastInDim S1x1x8192x1 ![2] Facts₀.bcast_S8192_S1x1x8192x1_2 keepOf

/-- The exponentials of the scores. -/
def expOf (s : FVec Ideal S1x64x8192x1024 .f32) : FVec Ideal S1x64x8192x1024 .f32 :=
  Host.exp (subf s (overRow (asCol (Host.reduce FloatOps.maximumf s (constant S_ .f32 0xFF800000#32)
    Facts₀.reducesTo_S1x64x8192x1024_S1x64x8192_d3 Facts₀.h_S_))))

/-- The divisor of a row. -/
def denOf (e : FVec Ideal S1x64x8192x1024 .f32) : FVec Ideal S1x64x8192x1 .f32 :=
  select (broadcastInDim S1x64x8192x1 ![0, 1, 2, 3] Facts₀.bcast_S1x1x8192x1_S1x64x8192x1_0_1_2_3 keepCol)
    (asCol (Host.reduceAdd e (constant S_ .f32 0x00000000#32) Facts₀.reducesTo_S1x64x8192x1024_S1x64x8192_d3 Facts₀.h_S_))
    (broadcastInDim S1x64x8192x1 ![] Facts₀.bcast_S_S1x64x8192x1 (id (constant S_ .f32 0x3F800000#32)))

/-- The weights of the keys. -/
def probOf (e : FVec Ideal S1x64x8192x1024 .f32) : FVec Ideal S1x64x8192x1024 .f32 :=
  select (broadcastInDim S1x64x8192x1024 ![0, 1, 2, 3] Facts₀.bcast_S1x1x8192x1_S1x64x8192x1024_0_1_2_3 keepCol)
    (Host.divf e (overRow (denOf e)))
    (broadcastInDim S1x64x8192x1024 ![] Facts₀.bcast_S_S1x64x8192x1024 (id (constant S_ .f32 0x00000000#32)))

/-- The contexts, a row for each query. -/
def ctxOf (p : FVec Ideal S1x64x8192x1024 .f32) (v : FVec Ideal S1x1024x64x128 .f32) : FVec Ideal S1x8192x8192 .f32 :=
  shapeCast _ (transpose S1x8192x64x128 [0, 3, 1, 2]
    (Host.dotGeneral dot_S1x1024x64x128_S1x64x8192x1024_S1x64x128x8192_1_3_3_2_02_01 none v p)
    Facts₀.transposes_S1x64x128x8192_S1x8192x64x128_0_3_1_2) Facts₀.shapeCasts_S1x8192x64x128_S1x8192x8192

/-- The result. -/
def resOf (x : FVec Ideal S1x8192x1024 .f32) (wq : FVec Ideal S1024x8192 .f32) (k v : FVec Ideal S1x1024x64x128 .f32)
    (wo : FVec Ideal S8192x1024 .f32) : FVec Ideal S1x8192x1024 .f32 :=
  Host.dotGeneral dot_S1x8192x8192_S8192x1024_S1x8192x1024_2_0_01_1_n_n none
    (ctxOf (probOf (expOf (scoreOf (projOf x wq) k))) v) wo

set_option maxRecDepth 8192 in
theorem res_eq (m : (ℓ : Loc nD τ sig) → Buf (Elt Ideal) ℓ) (c : Dev nD) :
    Value.res_main_v39 m c = resOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v39
  rfl

/-! ## The products at an index -/

theorem dotIn_apply (l : FVec Ideal S1x8192x1024 .f32) (r : FVec Ideal S1024x8192 .f32) (z : Fin 1) (i n : Fin 8192) :
    Host.dotGeneral dot_S1x8192x1024_S1024x8192_S1x8192x8192_2_0_01_1_n_n none l r (ix3 z i n)
      = ∑ k : Fin 1024, l (ix3 z i k) * r (ix2 k n) := by
  refine (Ideal.dotGeneral_apply _ _ _ _ _ _).trans ?_
  let e := contrEquiv1 dot_S1x8192x1024_S1024x8192_S1x8192x8192_2_0_01_1_n_n 1024 rfl rfl
  rw [← Equiv.sum_comp e.symm]
  refine Finset.sum_congr rfl fun k _ => ?_
  have hk := contrEquiv1_symm_val dot_S1x8192x1024_S1024x8192_S1x8192x8192_2_0_01_1_n_n 1024 rfl rfl k
  congr 2
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

theorem dotScore_apply (l : FVec Ideal S1x8192x64x128 .f32) (r : FVec Ideal S1x1024x64x128 .f32) (z : Fin 1) (h : Fin 64)
    (i : Fin 8192) (j : Fin 1024) :
    Host.dotGeneral dot_S1x8192x64x128_S1x1024x64x128_S1x64x8192x1024_3_3_1_1_02_02 none l r (ix4 z h i j)
      = ∑ d : Fin 128, l (ix4 z i h d) * r (ix4 z j h d) := by
  refine (Ideal.dotGeneral_apply _ _ _ _ _ _).trans ?_
  let e := contrEquiv1 dot_S1x8192x64x128_S1x1024x64x128_S1x64x8192x1024_3_3_1_1_02_02 128 rfl rfl
  rw [← Equiv.sum_comp e.symm]
  refine Finset.sum_congr rfl fun k _ => ?_
  have hk := contrEquiv1_symm_val dot_S1x8192x64x128_S1x1024x64x128_S1x64x8192x1024_3_3_1_1_02_02 128 rfl rfl k
  congr 2
  all_goals
    funext a; apply Fin.ext
    match a with
    | ⟨0, _⟩ => rfl
    | ⟨1, _⟩ => rfl
    | ⟨2, _⟩ => rfl
    | ⟨3, _⟩ => exact hk

theorem dotCtx_apply (l : FVec Ideal S1x1024x64x128 .f32) (r : FVec Ideal S1x64x8192x1024 .f32) (z : Fin 1) (h : Fin 64)
    (d : Fin 128) (i : Fin 8192) :
    Host.dotGeneral dot_S1x1024x64x128_S1x64x8192x1024_S1x64x128x8192_1_3_3_2_02_01 none l r (ix4 z h d i)
      = ∑ j : Fin 1024, l (ix4 z j h d) * r (ix4 z h i j) := by
  refine (Ideal.dotGeneral_apply _ _ _ _ _ _).trans ?_
  let e := contrEquiv1 dot_S1x1024x64x128_S1x64x8192x1024_S1x64x128x8192_1_3_3_2_02_01 1024 rfl rfl
  rw [← Equiv.sum_comp e.symm]
  refine Finset.sum_congr rfl fun k _ => ?_
  have hk := contrEquiv1_symm_val dot_S1x1024x64x128_S1x64x8192x1024_S1x64x128x8192_1_3_3_2_02_01 1024 rfl rfl k
  congr 2
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

theorem dotOut_apply (l : FVec Ideal S1x8192x8192 .f32) (r : FVec Ideal S8192x1024 .f32) (z : Fin 1) (i : Fin 8192)
    (n : Fin 1024) :
    Host.dotGeneral dot_S1x8192x8192_S8192x1024_S1x8192x1024_2_0_01_1_n_n none l r (ix3 z i n)
      = ∑ k : Fin 8192, l (ix3 z i k) * r (ix2 k n) := by
  refine (Ideal.dotGeneral_apply _ _ _ _ _ _).trans ?_
  let e := contrEquiv1 dot_S1x8192x8192_S8192x1024_S1x8192x1024_2_0_01_1_n_n 8192 rfl rfl
  rw [← Equiv.sum_comp e.symm]
  refine Finset.sum_congr rfl fun k _ => ?_
  have hk := contrEquiv1_symm_val dot_S1x8192x8192_S8192x1024_S1x8192x1024_2_0_01_1_n_n 8192 rfl rfl k
  congr 2
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

/-! ## The stages at an index -/

theorem projOf_apply (x : FVec Ideal S1x8192x1024 .f32) (w : FVec Ideal S1024x8192 .f32) (i : Fin 8192) (h : Fin 64)
    (d : Fin 128) :
    projOf x w (ix4 (0 : Fin 1) i h d) = query (fun k => x (ix3 (0 : Fin 1) i k)) (fun k d => w (ix2 k (col h d))) d := by
  unfold projOf
  refine (shapeCast_apply _ _ _ (ix3 (0 : Fin 1) i (col h d)) ?_).trans (dotIn_apply _ _ _ _ _)
  simp only [Shape.rowMajor_val_three, Shape.rowMajor_val_four]
  show (0 * 8192 + i.val) * 8192 + (128 * h.val + d.val) = ((0 * 8192 + i.val) * 64 + h.val) * 128 + d.val
  omega

theorem maskAll_apply (h : Fin 64) (i : Fin 8192) (j : Fin 1024) :
    broadcastInDim S1x64x8192x1024 ![0, 1, 2, 3] Facts₀.bcast_S1x1x8192x1024_S1x64x8192x1024_0_1_2_3
      (broadcastInDim S1x1x8192x1024 ![2, 3] Facts₀.bcast_S8192x1024_S1x1x8192x1024_2_3 maskOf) (ix4 (0 : Fin 1) h i j)
      = maskOf (ix2 i j) := by
  refine (broadcastInDim_apply _ _ _ _ (ix4 (0 : Fin 1) (0 : Fin 1) i j) ?_).trans (broadcastInDim_apply _ _ _ _ (ix2 i j) ?_)
  · intro a
    match a with
    | ⟨0, _⟩ => rfl
    | ⟨1, _⟩ => rfl
    | ⟨2, _⟩ => rfl
    | ⟨3, _⟩ => rfl
  · intro a
    match a with
    | ⟨0, _⟩ => rfl
    | ⟨1, _⟩ => rfl

theorem scoreOf_kept (q : FVec Ideal S1x8192x64x128 .f32) (k : FVec Ideal S1x1024x64x128 .f32) (h : Fin 64) (i : Fin 8192)
    (j : Fin 1024) (hj : j.val / 64 % 4 = i.val / 64 % 4) :
    scoreOf q k (ix4 (0 : Fin 1) h i j)
      = score (fun d => q (ix4 (0 : Fin 1) i h d)) (fun d => k (ix4 (0 : Fin 1) j h d)) := by
  show Scalar.select _ _ _ = _
  rw [maskAll_apply, (maskOf_apply i j).2 hj]
  show FloatOps.mulf (Host.dotGeneral _ none q k (ix4 (0 : Fin 1) h i j)) _ = _
  rw [dotScore_apply]
  rfl

theorem scoreOf_masked (q : FVec Ideal S1x8192x64x128 .f32) (k : FVec Ideal S1x1024x64x128 .f32) (h : Fin 64) (i : Fin 8192)
    (j : Fin 1024) (hj : j.val / 64 % 4 ≠ i.val / 64 % 4) : scoreOf q k (ix4 (0 : Fin 1) h i j) = ⊥ := by
  show Scalar.select _ _ _ = _
  rw [maskAll_apply, eq_zero_of_ne_one fun h => hj ((maskOf_apply i j).1 h)]
  exact ofBits_neg_inf

theorem overRow_apply (a : FVec Ideal S1x64x8192x1 .f32) (h : Fin 64) (i : Fin 8192) (j : Fin 1024) :
    overRow a (ix4 (0 : Fin 1) h i j) = a (ix4 (0 : Fin 1) h i (0 : Fin 1)) :=
  broadcastInDim_apply _ _ _ _ _ fun b => match b with
    | ⟨0, _⟩ => rfl
    | ⟨1, _⟩ => rfl
    | ⟨2, _⟩ => rfl
    | ⟨3, _⟩ => rfl

theorem asCol_apply (a : FVec Ideal S1x64x8192 .f32) (h : Fin 64) (i : Fin 8192) :
    asCol a (ix4 (0 : Fin 1) h i (0 : Fin 1)) = a (ix3 (0 : Fin 1) h i) :=
  broadcastInDim_apply _ _ _ _ _ fun b => match b with
    | ⟨0, _⟩ => rfl
    | ⟨1, _⟩ => rfl
    | ⟨2, _⟩ => rfl

theorem reduces_row : Shape.Reduces S1x64x8192x1024 [3] S1x64x8192 := by decide

theorem lift_row (h : Fin 64) (i : Fin 8192) (j : Fin 1024) :
    reduces_row.lift (ix3 (0 : Fin 1) h i) j = ix4 (0 : Fin 1) h i j := by
  funext a; apply Fin.ext
  match a with
  | ⟨0, _⟩ => rfl
  | ⟨1, _⟩ => rfl
  | ⟨2, _⟩ => rfl
  | ⟨3, _⟩ => rfl

theorem rowTop_apply (s : FVec Ideal S1x64x8192x1024 .f32) (h : Fin 64) (i : Fin 8192) :
    Host.reduce FloatOps.maximumf s (constant S_ .f32 0xFF800000#32) Facts₀.reducesTo_S1x64x8192x1024_S1x64x8192_d3 Facts₀.h_S_
      (ix3 (0 : Fin 1) h i) = top fun j => s (ix4 (0 : Fin 1) h i j) := by
  refine (congrFun (hostReduce_maximumf_eq_multiReduction s 0xFF800000#32 _ _ reduces_row (.inl rfl) rfl) _).trans
    ((Ideal.multiReduction_maximumf_single _ _ reduces_row _ _ _).trans ?_)
  unfold top
  show Finset.fold max (Ideal.ofBits .f32 0xFF800000#32) _ _ = _
  rw [ofBits_neg_inf]
  congr 1
  funext j
  exact congrArg s (lift_row h i j)

theorem expOf_apply (s : FVec Ideal S1x64x8192x1024 .f32) (h : Fin 64) (i : Fin 8192) (j : Fin 1024) :
    expOf s (ix4 (0 : Fin 1) h i j)
      = Ideal.exp (s (ix4 (0 : Fin 1) h i j) - top fun j => s (ix4 (0 : Fin 1) h i j)) := by
  show Ideal.exp (s (ix4 (0 : Fin 1) h i j) - overRow (asCol _) (ix4 (0 : Fin 1) h i j)) = _
  rw [overRow_apply, asCol_apply, rowTop_apply]

theorem keepAll_apply (h : Fin 64) (i : Fin 8192) (j : Fin 1024) :
    broadcastInDim S1x64x8192x1024 ![0, 1, 2, 3] Facts₀.bcast_S1x1x8192x1_S1x64x8192x1024_0_1_2_3 keepCol (ix4 (0 : Fin 1) h i j)
      = 1#1 := by
  refine (broadcastInDim_apply _ _ _ _ (ix4 (0 : Fin 1) (0 : Fin 1) i (0 : Fin 1)) ?_).trans
    ((broadcastInDim_apply _ _ _ _ (ix1 i) ?_).trans (keepOf_apply i))
  · intro a
    match a with
    | ⟨0, _⟩ => rfl
    | ⟨1, _⟩ => rfl
    | ⟨2, _⟩ => rfl
    | ⟨3, _⟩ => rfl
  · intro a
    match a with
    | ⟨0, _⟩ => rfl

theorem keepHead_apply (h : Fin 64) (i : Fin 8192) :
    broadcastInDim S1x64x8192x1 ![0, 1, 2, 3] Facts₀.bcast_S1x1x8192x1_S1x64x8192x1_0_1_2_3 keepCol (ix4 (0 : Fin 1) h i (0 : Fin 1))
      = 1#1 := by
  refine (broadcastInDim_apply _ _ _ _ (ix4 (0 : Fin 1) (0 : Fin 1) i (0 : Fin 1)) ?_).trans
    ((broadcastInDim_apply _ _ _ _ (ix1 i) ?_).trans (keepOf_apply i))
  · intro a
    match a with
    | ⟨0, _⟩ => rfl
    | ⟨1, _⟩ => rfl
    | ⟨2, _⟩ => rfl
    | ⟨3, _⟩ => rfl
  · intro a
    match a with
    | ⟨0, _⟩ => rfl

theorem denOf_apply (e : FVec Ideal S1x64x8192x1024 .f32) (h : Fin 64) (i : Fin 8192) :
    denOf e (ix4 (0 : Fin 1) h i (0 : Fin 1)) = ∑ j : Fin 1024, e (ix4 (0 : Fin 1) h i j) := by
  unfold denOf
  rw [select_apply, keepHead_apply, select_one, asCol_apply]
  refine (Ideal.hostReduceAdd_single _ reduces_row _ _ _).trans ?_
  show Ideal.ofBits .f32 0x00000000#32 + _ = _
  rw [Ideal.ofBits_zero_f32, zero_add]
  exact Finset.sum_congr rfl fun j _ => congrArg e (lift_row h i j)

theorem probOf_apply (e : FVec Ideal S1x64x8192x1024 .f32) (h : Fin 64) (i : Fin 8192) (j : Fin 1024) :
    probOf e (ix4 (0 : Fin 1) h i j)
      = Ideal.div (e (ix4 (0 : Fin 1) h i j)) (∑ j : Fin 1024, e (ix4 (0 : Fin 1) h i j)) := by
  unfold probOf
  rw [select_apply, keepAll_apply, select_one, hostDivf_apply, overRow_apply, denOf_apply]

theorem ctxOf_apply (p : FVec Ideal S1x64x8192x1024 .f32) (v : FVec Ideal S1x1024x64x128 .f32) (i : Fin 8192) (h : Fin 64)
    (d : Fin 128) :
    ctxOf p v (ix3 (0 : Fin 1) i (col h d)) = ∑ j : Fin 1024, p (ix4 (0 : Fin 1) h i j) * v (ix4 (0 : Fin 1) j h d) := by
  unfold ctxOf
  refine (shapeCast_apply _ _ _ (ix4 (0 : Fin 1) i h d) ?_).trans
    ((transpose_apply _ _ _ _ (ix4 (0 : Fin 1) h d i) ?_).trans ((dotCtx_apply _ _ _ _ _ _).trans
      (Finset.sum_congr rfl fun j _ => mul_comm _ _)))
  · simp only [Shape.rowMajor_val_three, Shape.rowMajor_val_four]
    show ((0 * 8192 + i.val) * 64 + h.val) * 128 + d.val = (0 * 8192 + i.val) * 8192 + (128 * h.val + d.val)
    omega
  · intro b
    match b with
    | ⟨0, _⟩ => rfl
    | ⟨1, _⟩ => rfl
    | ⟨2, _⟩ => rfl
    | ⟨3, _⟩ => rfl

/-- Where no score is infinite the reference computes the attention. -/
theorem resOf_apply (x : FVec Ideal S1x8192x1024 .f32) (wq : FVec Ideal S1024x8192 .f32) (k v : FVec Ideal S1x1024x64x128 .f32)
    (wo : FVec Ideal S8192x1024 .f32) (hx : ∀ i, IsReal (x i)) (hw : ∀ i, IsReal (wq i)) (hk : ∀ i, IsReal (k i))
    (i : Fin 8192) (n : Fin 1024) :
    resOf x wq k v wo (ix3 (0 : Fin 1) i n)
      = ∑ h : Fin 64, headOut (fun k => x (ix3 (0 : Fin 1) i k)) (fun k d => wq (ix2 k (col h d)))
          (fun j d => k (ix4 (0 : Fin 1) j h d)) (fun j d => v (ix4 (0 : Fin 1) j h d)) (group i)
          (fun d => wo (ix2 (col h d) n)) := by
  unfold resOf
  rw [dotOut_apply, sum_cols]
  refine Finset.sum_congr rfl fun h _ => Finset.sum_congr rfl fun d _ => congrArg (· * _) ?_
  rw [ctxOf_apply]
  rw [← soft_eq_context _ _ _ _ _ (fun j => scoreOf (projOf x wq) k (ix4 (0 : Fin 1) h i j)) ?_ ?_
    (query_isReal (fun _ => hx _) fun _ _ => hw _) fun _ _ => hk _]
  · unfold soft
    refine Finset.sum_congr rfl fun j _ => ?_
    rw [probOf_apply]
    simp only [expOf_apply]
  · intro j hj
    rw [scoreOf_kept _ _ _ _ _ hj]
    simp only [projOf_apply]
  · intro j hj
    exact scoreOf_masked _ _ _ _ _ hj

end Cert.ReferenceIdeal.Attn
-- ==== Proof.Algebraic.lean ====
module

public import proofs.«01_k».proof.Defs
public import proofs.«01_k».proof.Proof.Gen.Pre_finite_KernelIdeal
public import proofs.«01_k».proof.Proof.KernelIdeal.Run
public import proofs.«01_k».proof.Proof.KernelIdeal.Sum
public import proofs.«01_k».proof.Proof.ReferenceIdeal.Value
public import Idealize.ShloMosaic.Lib.Layout

/-!
# The two results are one

The kernel's result and the reference's are the same sum over the heads once every block is read where it lies
in its whole array: a device's row `i` is row `1024 c + i`, of the same group because 1024 is a multiple of 256,
and a head's column `d` in the weights of the device that owns it is column `128 h + d` of the whole weights.
The finiteness of the inputs is what lets the reference's masked softmax be the softmax of the kept keys.
-/

@[expose] public section

set_option maxRecDepth 100000

noncomputable section

namespace Cert.Proof

open Idealize.ShloMosaic hiding ix1 ix2 ix3 ix4
open Idealize.ShloMosaic.ValueIdx Idealize.SL.Sem Cert.Attn
open scoped BigOperators

/-! ## What the precondition says -/

/-- A value whose magnitude is below plus infinity is a real number. -/
theorem isReal_of_abs_lt {x : EReal} (h : max x (-x) < ⊤) : IsReal x := by
  rw [max_lt_iff] at h
  refine ⟨x.toReal, (EReal.coe_toReal h.1.ne ?_).symm⟩
  rintro rfl
  exact absurd h.2 (by simp)

/-- The printed comparison, at an element. -/
theorem isReal_of_cmp {s : Shape} (a : FVec Ideal s .f32) (bc : Shape.BroadcastsInDim ⟨0, ![]⟩ s (![] : Fin 0 → Fin s.rank))
    (h : cmpf .olt (Host.absf a) (broadcastInDim s ![] bc (constant ⟨0, ![]⟩ .f32 0x7F800000#32)) = fun _ => 1#1) (i : s.Idx) :
    IsReal (a i) := by
  have htop : Ideal.ofBits .f32 0x7F800000#32 = ⊤ := by simp [Ideal.ofBits, Ideal.ieee]
  have e : Ideal.cmp .olt (max (a i : EReal) (-(a i : EReal))) (Ideal.ofBits .f32 0x7F800000#32) = 1#1 := congrFun h i
  rw [htop] at e
  refine isReal_of_abs_lt ?_
  by_contra hn
  simp [Ideal.cmp, hn] at e

/-! ## Where the blocks lie -/

/-- A device's row in the whole array. -/
def rowOf (c : Fin 8) (i : Fin 1024) : Fin 8192 := ⟨c.val * 1024 + i.val, by omega⟩

theorem rowOf_surj (i : Fin 8192) : ∃ c j, rowOf c j = i :=
  ⟨⟨i.val / 1024, by omega⟩, ⟨i.val % 1024, by omega⟩, Fin.ext (by show i.val / 1024 * 1024 + i.val % 1024 = i.val; omega)⟩

theorem group_rowOf (c : Fin 8) (i : Fin 1024) : group (rowOf c i) = group i := by
  apply Fin.ext
  show (c.val * 1024 + i.val) / 64 % 4 = i.val / 64 % 4
  omega

theorem rowOf_lane (h : Fin 64) (d : Fin 128) :
    rowOf (Cert.KernelIdeal.Attn.homeOf h) (Cert.KernelIdeal.Attn.laneOf h d) = col h d := by
  apply Fin.ext
  show h.val / 8 * 1024 + (128 * (h.val % 8) + d.val) = 128 * h.val + d.val
  omega

section Blocks
variable {α : Type} (c : Fin 8)

theorem block_rows (v : Shape.Idx ⟨3, ![1, 8192, 1024]⟩ → α) (i n : Fin 1024) :
    Layout.block ⟨3, ![1, 1024, 1024]⟩ ⟨3, ![1, 8192, 1024]⟩ 1 8 c v (by decide) (ix3 (0 : Fin 1) i n)
      = v (ix3 (0 : Fin 1) (rowOf c i) n) := by
  refine congrArg v (funext fun b => Fin.ext ?_)
  match b with
  | ⟨0, _⟩ => rfl
  | ⟨1, _⟩ => rfl
  | ⟨2, _⟩ => rfl

theorem block_in (v : Shape.Idx ⟨2, ![1024, 8192]⟩ → α) (i n : Fin 1024) :
    Layout.block ⟨2, ![1024, 1024]⟩ ⟨2, ![1024, 8192]⟩ 1 8 c v (by decide) (ix2 i n) = v (ix2 i (rowOf c n)) := by
  refine congrArg v (funext fun b => Fin.ext ?_)
  match b with
  | ⟨0, _⟩ => rfl
  | ⟨1, _⟩ => rfl

theorem block_out (v : Shape.Idx ⟨2, ![8192, 1024]⟩ → α) (i n : Fin 1024) :
    Layout.block ⟨2, ![1024, 1024]⟩ ⟨2, ![8192, 1024]⟩ 0 8 c v (by decide) (ix2 i n) = v (ix2 (rowOf c i) n) := by
  refine congrArg v (funext fun b => Fin.ext ?_)
  match b with
  | ⟨0, _⟩ => rfl
  | ⟨1, _⟩ => rfl

/-- An array whose blocks are real is real. -/
theorem isReal_rows (v : Shape.Idx ⟨3, ![1, 8192, 1024]⟩ → EReal)
    (h : ∀ c : Fin 8, ∀ i, IsReal (Layout.block ⟨3, ![1, 1024, 1024]⟩ ⟨3, ![1, 8192, 1024]⟩ 1 8 c v (by decide) i)) (i) :
    IsReal (v i) := by
  obtain ⟨c, j, e⟩ := rowOf_surj (i 1)
  refine Eq.mp (congrArg (fun i => IsReal (v i)) (funext fun b => ?_)) (block_rows c v j (i 2) ▸ h c (ix3 (0 : Fin 1) j (i 2)))
  match b with
  | ⟨0, _⟩ => exact Subsingleton.elim (α := Fin 1) _ _
  | ⟨1, _⟩ => exact e
  | ⟨2, _⟩ => rfl

theorem isReal_in (v : Shape.Idx ⟨2, ![1024, 8192]⟩ → EReal)
    (h : ∀ c : Fin 8, ∀ i, IsReal (Layout.block ⟨2, ![1024, 1024]⟩ ⟨2, ![1024, 8192]⟩ 1 8 c v (by decide) i)) (i) :
    IsReal (v i) := by
  obtain ⟨c, j, e⟩ := rowOf_surj (i 1)
  refine Eq.mp (congrArg (fun i => IsReal (v i)) (funext fun b => ?_)) (block_in c v (i 0) j ▸ h c (ix2 (i 0) j))
  match b with
  | ⟨0, _⟩ => rfl
  | ⟨1, _⟩ => exact e

end Blocks

/-! ## The equation -/

section Value
variable (x : FVec Ideal ⟨3, ![1, 8192, 1024]⟩ .f32) (wq : FVec Ideal ⟨2, ![1024, 8192]⟩ .f32)
  (k v : FVec Ideal ⟨4, ![1, 1024, 64, 128]⟩ .f32) (wo : FVec Ideal ⟨2, ![8192, 1024]⟩ .f32)

/-- A device's result is its block of the reference's. -/
theorem out_eq_block (hx : ∀ i, IsReal (x i)) (hw : ∀ i, IsReal (wq i)) (hk : ∀ i, IsReal (k i)) (c : Fin 8) :
    Cert.KernelIdeal.Attn.outOf (F := Ideal) (Cert.KernelIdeal.Attn.accAt
        (Layout.block ⟨3, ![1, 1024, 1024]⟩ ⟨3, ![1, 8192, 1024]⟩ 1 8 c x)
        (fun e => Layout.block ⟨2, ![1024, 1024]⟩ ⟨2, ![1024, 8192]⟩ 1 8 e wq)
        (fun e => Layout.block ⟨2, ![1024, 1024]⟩ ⟨2, ![8192, 1024]⟩ 0 8 e wo) k v c 8)
      = Layout.block ⟨3, ![1, 1024, 1024]⟩ ⟨3, ![1, 8192, 1024]⟩ 1 8 c (Cert.ReferenceIdeal.Attn.resOf x wq k v wo) := by
  funext j
  obtain ⟨z, i, n, rfl⟩ : ∃ (z : Fin 1) (i n : Fin 1024), j = ix3 z i n :=
    ⟨j 0, j 1, j 2, funext fun b => match b with | ⟨0, _⟩ => rfl | ⟨1, _⟩ => rfl | ⟨2, _⟩ => rfl⟩
  obtain rfl : z = 0 := Subsingleton.elim _ _
  refine (Cert.KernelIdeal.Attn.outOf_apply _ _ _ _ _ _ _ _).trans ?_
  refine .trans ?_ (block_rows c (Cert.ReferenceIdeal.Attn.resOf x wq k v wo) i n).symm
  refine .trans ?_ (Cert.ReferenceIdeal.Attn.resOf_apply x wq k v wo hx hw hk (rowOf c i) n).symm
  refine Finset.sum_congr rfl fun h _ => ?_
  rw [group_rowOf]
  simp only [block_rows, block_in, block_out, rowOf_lane]

end Value

/-! ## The claim -/

theorem algebraic : Cert.algebraic_KernelIdeal_ReferenceIdeal_pre_finite_KernelIdeal := by
  intro m g m' g' pre inputs
  have hx := isReal_rows (m' (((0 : Dev Cert.ReferenceIdeal.nD).tc : Thread Cert.ReferenceIdeal.nD Cert.ReferenceIdeal.τ).loc
      Cert.ReferenceIdeal.main_arg0))
    fun c => (inputs c).1 ▸ isReal_of_cmp _ _ (pre c).1
  have hw := isReal_in (m' (((0 : Dev Cert.ReferenceIdeal.nD).tc : Thread Cert.ReferenceIdeal.nD Cert.ReferenceIdeal.τ).loc
      Cert.ReferenceIdeal.main_arg1))
    fun c => (inputs c).2.1 ▸ isReal_of_cmp _ _ (pre c).2.1
  have hk := (inputs 0).2.2.1 ▸ isReal_of_cmp _ _ (pre 0).2.2
  refine ⟨Cert.ReferenceIdeal.Value.res_main_v39 m' 0, ?_, ?_⟩
  · refine (θ_run _ _ _).mono (fun r h c => ⟨(h.1 c).1.trans ?_, (h.1 c).2⟩) (Cert.KernelIdeal.Attn.run_ends m g)
    unfold Cert.KernelIdeal.Attn.accOf
    have eq : Cert.KernelIdeal.Attn.wqst m = fun e => Layout.block ⟨2, ![1024, 1024]⟩ ⟨2, ![1024, 8192]⟩ 1 8 e
        (m' (((0 : Dev Cert.ReferenceIdeal.nD).tc : Thread Cert.ReferenceIdeal.nD Cert.ReferenceIdeal.τ).loc
          Cert.ReferenceIdeal.main_arg1)) :=
      funext fun e => (Cert.KernelIdeal.Attn.wqst_eq m e).trans (inputs e).2.1
    have eo : Cert.KernelIdeal.Attn.wost m = fun e => Layout.block ⟨2, ![1024, 1024]⟩ ⟨2, ![8192, 1024]⟩ 0 8 e
        (m' (((0 : Dev Cert.ReferenceIdeal.nD).tc : Thread Cert.ReferenceIdeal.nD Cert.ReferenceIdeal.τ).loc
          Cert.ReferenceIdeal.main_arg4)) :=
      funext fun e => (Cert.KernelIdeal.Attn.wost_eq m e).trans (inputs e).2.2.2.2
    rw [Cert.ReferenceIdeal.Attn.res_eq, eq, eo,
      show Cert.KernelIdeal.Attn.xst m c = _ from (Cert.KernelIdeal.Attn.xst_eq m c).trans (inputs c).1,
      show Cert.KernelIdeal.Attn.keys m c = _ from (inputs c).2.2.1,
      show Cert.KernelIdeal.Attn.vals m c = _ from (inputs c).2.2.2.1]
    exact out_eq_block _ _ _ _ _ hx hw hk c
  · exact (θ_run _ _ _).mono (fun r h => h 0) (Cert.ReferenceIdeal.Value.run m' g')

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Frames
public import proofs.«01_k».proof.Proof.Algebraic

@[expose] public section

noncomputable section

namespace Cert.Proof

/-- Every claim. -/
theorem claim : Cert.Claim :=
  ⟨inferInstance, inferInstance, inferInstance, inferInstance, inferInstance, frame_kernel, frame_ideal,
    fun m g _ => frame_ideal m g trivial, frame_reference, fun m g _ => frame_reference m g trivial, trivial, algebraic⟩

end Cert.Proof
